-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gain_and_keys_finite [hPre_gain_and_keys_finite : Cert.Pre_gain_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gain_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gain_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gain_and_keys_finite [hPre_gain_and_keys_finite : Cert.Pre_gain_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gain_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gain_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_SampleFeedForward (m : (ℓ : Loc Cert.SampleFeedForward.nD Cert.SampleFeedForward.τ Cert.SampleFeedForward.sig) → Buf (Elt Bits) ℓ) : Prop :=
  True

def Pre_SampleFeedForwardIdeal (m : (ℓ : Loc Cert.SampleFeedForwardIdeal.nD Cert.SampleFeedForwardIdeal.τ Cert.SampleFeedForwardIdeal.sig) → Buf (Elt Ideal) ℓ) : Prop :=
  True

def Pre_SampleFeedForwardReferenceIdeal (m : (ℓ : Loc Cert.SampleFeedForwardReferenceIdeal.nD Cert.SampleFeedForwardReferenceIdeal.τ Cert.SampleFeedForwardReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gain_and_keys_finite [hKernelIdeal : Cert.KernelIdeal.Facts] [hPre_gain_and_keys_finite : Cert.Pre_gain_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gain_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gain_and_keys_finite [hReferenceIdeal : Cert.ReferenceIdeal.Facts] [hPre_gain_and_keys_finite : Cert.Pre_gain_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gain_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4)
      ∧ r.2.mem ((c.tc : Thread Cert.FeedForward.nD Cert.FeedForward.τ).loc Cert.FeedForward.main_arg5) = m ((c.tc : Thread Cert.FeedForward.nD Cert.FeedForward.τ).loc Cert.FeedForward.main_arg5)
      ∧ r.2.mem ((c.tc : Thread Cert.FeedForward.nD Cert.FeedForward.τ).loc Cert.FeedForward.main_arg6) = m ((c.tc : Thread Cert.FeedForward.nD Cert.FeedForward.τ).loc Cert.FeedForward.main_arg6))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
      ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4)
      ∧ r.2.mem ((c.tc : Thread Cert.FeedForwardReferenceIdeal.nD Cert.FeedForwardReferenceIdeal.τ).loc Cert.FeedForwardReferenceIdeal.main_arg5) = m ((c.tc : Thread Cert.FeedForwardReferenceIdeal.nD Cert.FeedForwardReferenceIdeal.τ).loc Cert.FeedForwardReferenceIdeal.main_arg5)
      ∧ r.2.mem ((c.tc : Thread Cert.FeedForwardReferenceIdeal.nD Cert.FeedForwardReferenceIdeal.τ).loc Cert.FeedForwardReferenceIdeal.main_arg6) = m ((c.tc : Thread Cert.FeedForwardReferenceIdeal.nD Cert.FeedForwardReferenceIdeal.τ).loc Cert.FeedForwardReferenceIdeal.main_arg6))
      ∧ r.2.sem = fun _ => 0)

def quiescent_SampleFeedForward [hSampleFeedForward : Cert.SampleFeedForward.Facts] : Prop :=
  ∀ (m : (ℓ : Loc Cert.SampleFeedForward.nD Cert.SampleFeedForward.τ Cert.SampleFeedForward.sig) → Buf (Elt Bits) ℓ) (g : Dev Cert.SampleFeedForward.nD → PrngReg), Pre_SampleFeedForward m →
    θ_run (Cert.SampleFeedForward.defs (F := Bits)) (onTc (τ := Cert.SampleFeedForward.τ) (Cert.SampleFeedForward.main (F := Bits))) ⟨m, fun _ => 0, g⟩ (fun r => (∀ c : Dev Cert.SampleFeedForward.nD,
      r.2.mem ((c.tc : Thread Cert.SampleFeedForward.nD Cert.SampleFeedForward.τ).loc Cert.SampleFeedForward.main_arg0) = m ((c.tc : Thread Cert.SampleFeedForward.nD Cert.SampleFeedForward.τ).loc Cert.SampleFeedForward.main_arg0)
      ∧ r.2.mem ((c.tc : Thread Cert.SampleFeedForward.nD Cert.SampleFeedForward.τ).loc Cert.SampleFeedForward.main_arg1) = m ((c.tc : Thread Cert.SampleFeedForward.nD Cert.SampleFeedForward.τ).loc Cert.SampleFeedForward.main_arg1)
      ∧ r.2.mem ((c.tc : Thread Cert.SampleFeedForward.nD Cert.SampleFeedForward.τ).loc Cert.SampleFeedForward.main_arg2) = m ((c.tc : Thread Cert.SampleFeedForward.nD Cert.SampleFeedForward.τ).loc Cert.SampleFeedForward.main_arg2)
      ∧ r.2.mem ((c.tc : Thread Cert.SampleFeedForward.nD Cert.SampleFeedForward.τ).loc Cert.SampleFeedForward.main_arg3) = m ((c.tc : Thread Cert.SampleFeedForward.nD Cert.SampleFeedForward.τ).loc Cert.SampleFeedForward.main_arg3)
      ∧ r.2.mem ((c.tc : Thread Cert.SampleFeedForward.nD Cert.SampleFeedForward.τ).loc Cert.SampleFeedForward.main_arg4) = m ((c.tc : Thread Cert.SampleFeedForward.nD Cert.SampleFeedForward.τ).loc Cert.SampleFeedForward.main_arg4)
      ∧ r.2.mem ((c.tc : Thread Cert.SampleFeedForward.nD Cert.SampleFeedForward.τ).loc Cert.SampleFeedForward.main_arg5) = m ((c.tc : Thread Cert.SampleFeedForward.nD Cert.SampleFeedForward.τ).loc Cert.SampleFeedForward.main_arg5)
      ∧ r.2.mem ((c.tc : Thread Cert.SampleFeedForward.nD Cert.SampleFeedForward.τ).loc Cert.SampleFeedForward.main_arg6) = m ((c.tc : Thread Cert.SampleFeedForward.nD Cert.SampleFeedForward.τ).loc Cert.SampleFeedForward.main_arg6))
      ∧ r.2.sem = fun _ => 0)

def quiescent_SampleFeedForwardIdeal [hSampleFeedForwardIdeal : Cert.SampleFeedForwardIdeal.Facts] : Prop :=
  ∀ (m : (ℓ : Loc Cert.SampleFeedForwardIdeal.nD Cert.SampleFeedForwardIdeal.τ Cert.SampleFeedForwardIdeal.sig) → Buf (Elt Ideal) ℓ) (g : Dev Cert.SampleFeedForwardIdeal.nD → PrngReg), Pre_SampleFeedForwardIdeal m →
    θ_run (Cert.SampleFeedForwardIdeal.defs (F := Ideal)) (onTc (τ := Cert.SampleFeedForwardIdeal.τ) (Cert.SampleFeedForwardIdeal.main (F := Ideal))) ⟨m, fun _ => 0, g⟩ (fun r => (∀ c : Dev Cert.SampleFeedForwardIdeal.nD,
      r.2.mem ((c.tc : Thread Cert.SampleFeedForwardIdeal.nD Cert.SampleFeedForwardIdeal.τ).loc Cert.SampleFeedForwardIdeal.main_arg0) = m ((c.tc : Thread Cert.SampleFeedForwardIdeal.nD Cert.SampleFeedForwardIdeal.τ).loc Cert.SampleFeedForwardIdeal.main_arg0)
      ∧ r.2.mem ((c.tc : Thread Cert.SampleFeedForwardIdeal.nD Cert.SampleFeedForwardIdeal.τ).loc Cert.SampleFeedForwardIdeal.main_arg1) = m ((c.tc : Thread Cert.SampleFeedForwardIdeal.nD Cert.SampleFeedForwardIdeal.τ).loc Cert.SampleFeedForwardIdeal.main_arg1)
      ∧ r.2.mem ((c.tc : Thread Cert.SampleFeedForwardIdeal.nD Cert.SampleFeedForwardIdeal.τ).loc Cert.SampleFeedForwardIdeal.main_arg2) = m ((c.tc : Thread Cert.SampleFeedForwardIdeal.nD Cert.SampleFeedForwardIdeal.τ).loc Cert.SampleFeedForwardIdeal.main_arg2)
      ∧ r.2.mem ((c.tc : Thread Cert.SampleFeedForwardIdeal.nD Cert.SampleFeedForwardIdeal.τ).loc Cert.SampleFeedForwardIdeal.main_arg3) = m ((c.tc : Thread Cert.SampleFeedForwardIdeal.nD Cert.SampleFeedForwardIdeal.τ).loc Cert.SampleFeedForwardIdeal.main_arg3)
      ∧ r.2.mem ((c.tc : Thread Cert.SampleFeedForwardIdeal.nD Cert.SampleFeedForwardIdeal.τ).loc Cert.SampleFeedForwardIdeal.main_arg4) = m ((c.tc : Thread Cert.SampleFeedForwardIdeal.nD Cert.SampleFeedForwardIdeal.τ).loc Cert.SampleFeedForwardIdeal.main_arg4)
      ∧ r.2.mem ((c.tc : Thread Cert.SampleFeedForwardIdeal.nD Cert.SampleFeedForwardIdeal.τ).loc Cert.SampleFeedForwardIdeal.main_arg5) = m ((c.tc : Thread Cert.SampleFeedForwardIdeal.nD Cert.SampleFeedForwardIdeal.τ).loc Cert.SampleFeedForwardIdeal.main_arg5)
      ∧ r.2.mem ((c.tc : Thread Cert.SampleFeedForwardIdeal.nD Cert.SampleFeedForwardIdeal.τ).loc Cert.SampleFeedForwardIdeal.main_arg6) = m ((c.tc : Thread Cert.SampleFeedForwardIdeal.nD Cert.SampleFeedForwardIdeal.τ).loc Cert.SampleFeedForwardIdeal.main_arg6))
      ∧ r.2.sem = fun _ => 0)

def quiescent_SampleFeedForwardReferenceIdeal [hSampleFeedForwardReferenceIdeal : Cert.SampleFeedForwardReferenceIdeal.Facts] : Prop :=
  ∀ (m : (ℓ : Loc Cert.SampleFeedForwardReferenceIdeal.nD Cert.SampleFeedForwardReferenceIdeal.τ Cert.SampleFeedForwardReferenceIdeal.sig) → Buf (Elt Ideal) ℓ) (g : Dev Cert.SampleFeedForwardReferenceIdeal.nD → PrngReg), Pre_SampleFeedForwardReferenceIdeal m →
    θ_run (Cert.SampleFeedForwardReferenceIdeal.defs (F := Ideal)) (onTc (τ := Cert.SampleFeedForwardReferenceIdeal.τ) (Cert.SampleFeedForwardReferenceIdeal.main (F := Ideal))) ⟨m, fun _ => 0, g⟩ (fun r => (∀ c : Dev Cert.SampleFeedForwardReferenceIdeal.nD,
      r.2.mem ((c.tc : Thread Cert.SampleFeedForwardReferenceIdeal.nD Cert.SampleFeedForwardReferenceIdeal.τ).loc Cert.SampleFeedForwardReferenceIdeal.main_arg0) = m ((c.tc : Thread Cert.SampleFeedForwardReferenceIdeal.nD Cert.SampleFeedForwardReferenceIdeal.τ).loc Cert.SampleFeedForwardReferenceIdeal.main_arg0)
      ∧ r.2.mem ((c.tc : Thread Cert.SampleFeedForwardReferenceIdeal.nD Cert.SampleFeedForwardReferenceIdeal.τ).loc Cert.SampleFeedForwardReferenceIdeal.main_arg1) = m ((c.tc : Thread Cert.SampleFeedForwardReferenceIdeal.nD Cert.SampleFeedForwardReferenceIdeal.τ).loc Cert.SampleFeedForwardReferenceIdeal.main_arg1)
      ∧ r.2.mem ((c.tc : Thread Cert.SampleFeedForwardReferenceIdeal.nD Cert.SampleFeedForwardReferenceIdeal.τ).loc Cert.SampleFeedForwardReferenceIdeal.main_arg2) = m ((c.tc : Thread Cert.SampleFeedForwardReferenceIdeal.nD Cert.SampleFeedForwardReferenceIdeal.τ).loc Cert.SampleFeedForwardReferenceIdeal.main_arg2)
      ∧ r.2.mem ((c.tc : Thread Cert.SampleFeedForwardReferenceIdeal.nD Cert.SampleFeedForwardReferenceIdeal.τ).loc Cert.SampleFeedForwardReferenceIdeal.main_arg3) = m ((c.tc : Thread Cert.SampleFeedForwardReferenceIdeal.nD Cert.SampleFeedForwardReferenceIdeal.τ).loc Cert.SampleFeedForwardReferenceIdeal.main_arg3)
      ∧ r.2.mem ((c.tc : Thread Cert.SampleFeedForwardReferenceIdeal.nD Cert.SampleFeedForwardReferenceIdeal.τ).loc Cert.SampleFeedForwardReferenceIdeal.main_arg4) = m ((c.tc : Thread Cert.SampleFeedForwardReferenceIdeal.nD Cert.SampleFeedForwardReferenceIdeal.τ).loc Cert.SampleFeedForwardReferenceIdeal.main_arg4)
      ∧ r.2.mem ((c.tc : Thread Cert.SampleFeedForwardReferenceIdeal.nD Cert.SampleFeedForwardReferenceIdeal.τ).loc Cert.SampleFeedForwardReferenceIdeal.main_arg5) = m ((c.tc : Thread Cert.SampleFeedForwardReferenceIdeal.nD Cert.SampleFeedForwardReferenceIdeal.τ).loc Cert.SampleFeedForwardReferenceIdeal.main_arg5)
      ∧ r.2.mem ((c.tc : Thread Cert.SampleFeedForwardReferenceIdeal.nD Cert.SampleFeedForwardReferenceIdeal.τ).loc Cert.SampleFeedForwardReferenceIdeal.main_arg6) = m ((c.tc : Thread Cert.SampleFeedForwardReferenceIdeal.nD Cert.SampleFeedForwardReferenceIdeal.τ).loc Cert.SampleFeedForwardReferenceIdeal.main_arg6))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4)
      ∧ r.2.mem ((c.tc : Thread Cert.Projection.nD Cert.Projection.τ).loc Cert.Projection.main_arg5) = m ((c.tc : Thread Cert.Projection.nD Cert.Projection.τ).loc Cert.Projection.main_arg5)
      ∧ r.2.mem ((c.tc : Thread Cert.Projection.nD Cert.Projection.τ).loc Cert.Projection.main_arg6) = m ((c.tc : Thread Cert.Projection.nD Cert.Projection.τ).loc Cert.Projection.main_arg6))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3)
      ∧ r.2.mem ((c.tc : Thread Cert.ProjectionReferenceIdeal.nD Cert.ProjectionReferenceIdeal.τ).loc Cert.ProjectionReferenceIdeal.main_arg4) = m ((c.tc : Thread Cert.ProjectionReferenceIdeal.nD Cert.ProjectionReferenceIdeal.τ).loc Cert.ProjectionReferenceIdeal.main_arg4)
      ∧ r.2.mem ((c.tc : Thread Cert.ProjectionReferenceIdeal.nD Cert.ProjectionReferenceIdeal.τ).loc Cert.ProjectionReferenceIdeal.main_arg5) = m ((c.tc : Thread Cert.ProjectionReferenceIdeal.nD Cert.ProjectionReferenceIdeal.τ).loc Cert.ProjectionReferenceIdeal.main_arg5)
      ∧ r.2.mem ((c.tc : Thread Cert.ProjectionReferenceIdeal.nD Cert.ProjectionReferenceIdeal.τ).loc Cert.ProjectionReferenceIdeal.main_arg6) = m ((c.tc : Thread Cert.ProjectionReferenceIdeal.nD Cert.ProjectionReferenceIdeal.τ).loc Cert.ProjectionReferenceIdeal.main_arg6))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal_pre_gain_and_keys_finite [hKernelIdeal : Cert.KernelIdeal.Facts] [hReferenceIdeal : Cert.ReferenceIdeal.Facts] [hPre_gain_and_keys_finite : Cert.Pre_gain_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gain_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)
      ∧ m' ((c.tc : Thread Cert.FeedForwardReferenceIdeal.nD Cert.FeedForwardReferenceIdeal.τ).loc Cert.FeedForwardReferenceIdeal.main_arg5) = m ((c.tc : Thread Cert.FeedForwardIdeal.nD Cert.FeedForwardIdeal.τ).loc Cert.FeedForwardIdeal.main_arg5)
      ∧ m' ((c.tc : Thread Cert.FeedForwardReferenceIdeal.nD Cert.FeedForwardReferenceIdeal.τ).loc Cert.FeedForwardReferenceIdeal.main_arg6) = m ((c.tc : Thread Cert.FeedForwardIdeal.nD Cert.FeedForwardIdeal.τ).loc Cert.FeedForwardIdeal.main_arg6)) →
    ∃ (v0 : (c : Dev Cert.FeedForwardIdeal.nD) → Buf (Elt Ideal) ((c.tc : Thread Cert.FeedForwardIdeal.nD Cert.FeedForwardIdeal.τ).loc Cert.FeedForwardIdeal.main_v5)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v5) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5)
          ∧ r.2.mem ((c.tc : Thread Cert.FeedForwardIdeal.nD Cert.FeedForwardIdeal.τ).loc Cert.FeedForwardIdeal.main_arg6) = m ((c.tc : Thread Cert.FeedForwardIdeal.nD Cert.FeedForwardIdeal.τ).loc Cert.FeedForwardIdeal.main_arg6))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v34) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4)
          ∧ r.2.mem ((c.tc : Thread Cert.FeedForwardReferenceIdeal.nD Cert.FeedForwardReferenceIdeal.τ).loc Cert.FeedForwardReferenceIdeal.main_arg5) = m' ((c.tc : Thread Cert.FeedForwardReferenceIdeal.nD Cert.FeedForwardReferenceIdeal.τ).loc Cert.FeedForwardReferenceIdeal.main_arg5)
          ∧ r.2.mem ((c.tc : Thread Cert.FeedForwardReferenceIdeal.nD Cert.FeedForwardReferenceIdeal.τ).loc Cert.FeedForwardReferenceIdeal.main_arg6) = m' ((c.tc : Thread Cert.FeedForwardReferenceIdeal.nD Cert.FeedForwardReferenceIdeal.τ).loc Cert.FeedForwardReferenceIdeal.main_arg6))

def preserves_SampleFeedForward_SampleFeedForwardIdeal : Prop :=
  True

def algebraic_SampleFeedForwardIdeal_SampleFeedForwardReferenceIdeal [hSampleFeedForwardIdeal : Cert.SampleFeedForwardIdeal.Facts] [hSampleFeedForwardReferenceIdeal : Cert.SampleFeedForwardReferenceIdeal.Facts] : Prop :=
  ∀ (m : (ℓ : Loc Cert.SampleFeedForwardIdeal.nD Cert.SampleFeedForwardIdeal.τ Cert.SampleFeedForwardIdeal.sig) → Buf (Elt Ideal) ℓ) (g : Dev Cert.SampleFeedForwardIdeal.nD → PrngReg)
    (m' : (ℓ : Loc Cert.SampleFeedForwardReferenceIdeal.nD Cert.SampleFeedForwardReferenceIdeal.τ Cert.SampleFeedForwardReferenceIdeal.sig) → Buf (Elt Ideal) ℓ) (g' : Dev Cert.SampleFeedForwardReferenceIdeal.nD → PrngReg), Pre_SampleFeedForwardIdeal m →
    (∀ c : Dev Cert.SampleFeedForwardIdeal.nD,
      m' ((c.tc : Thread Cert.SampleFeedForwardReferenceIdeal.nD Cert.SampleFeedForwardReferenceIdeal.τ).loc Cert.SampleFeedForwardReferenceIdeal.main_arg0) = m ((c.tc : Thread Cert.SampleFeedForwardIdeal.nD Cert.SampleFeedForwardIdeal.τ).loc Cert.SampleFeedForwardIdeal.main_arg0)
      ∧ m' ((c.tc : Thread Cert.SampleFeedForwardReferenceIdeal.nD Cert.SampleFeedForwardReferenceIdeal.τ).loc Cert.SampleFeedForwardReferenceIdeal.main_arg1) = m ((c.tc : Thread Cert.SampleFeedForwardIdeal.nD Cert.SampleFeedForwardIdeal.τ).loc Cert.SampleFeedForwardIdeal.main_arg1)
      ∧ m' ((c.tc : Thread Cert.SampleFeedForwardReferenceIdeal.nD Cert.SampleFeedForwardReferenceIdeal.τ).loc Cert.SampleFeedForwardReferenceIdeal.main_arg2) = m ((c.tc : Thread Cert.SampleFeedForwardIdeal.nD Cert.SampleFeedForwardIdeal.τ).loc Cert.SampleFeedForwardIdeal.main_arg2)
      ∧ m' ((c.tc : Thread Cert.SampleFeedForwardReferenceIdeal.nD Cert.SampleFeedForwardReferenceIdeal.τ).loc Cert.SampleFeedForwardReferenceIdeal.main_arg3) = m ((c.tc : Thread Cert.SampleFeedForwardIdeal.nD Cert.SampleFeedForwardIdeal.τ).loc Cert.SampleFeedForwardIdeal.main_arg3)
      ∧ m' ((c.tc : Thread Cert.SampleFeedForwardReferenceIdeal.nD Cert.SampleFeedForwardReferenceIdeal.τ).loc Cert.SampleFeedForwardReferenceIdeal.main_arg4) = m ((c.tc : Thread Cert.SampleFeedForwardIdeal.nD Cert.SampleFeedForwardIdeal.τ).loc Cert.SampleFeedForwardIdeal.main_arg4)
      ∧ m' ((c.tc : Thread Cert.SampleFeedForwardReferenceIdeal.nD Cert.SampleFeedForwardReferenceIdeal.τ).loc Cert.SampleFeedForwardReferenceIdeal.main_arg5) = m ((c.tc : Thread Cert.SampleFeedForwardIdeal.nD Cert.SampleFeedForwardIdeal.τ).loc Cert.SampleFeedForwardIdeal.main_arg5)
      ∧ m' ((c.tc : Thread Cert.SampleFeedForwardReferenceIdeal.nD Cert.SampleFeedForwardReferenceIdeal.τ).loc Cert.SampleFeedForwardReferenceIdeal.main_arg6) = m ((c.tc : Thread Cert.SampleFeedForwardIdeal.nD Cert.SampleFeedForwardIdeal.τ).loc Cert.SampleFeedForwardIdeal.main_arg6)) →
    ∃ (v0 : (c : Dev Cert.SampleFeedForwardIdeal.nD) → Buf (Elt Ideal) ((c.tc : Thread Cert.SampleFeedForwardIdeal.nD Cert.SampleFeedForwardIdeal.τ).loc Cert.SampleFeedForwardIdeal.main_v5)),
      θ_run (Cert.SampleFeedForwardIdeal.defs (F := Ideal)) (onTc (τ := Cert.SampleFeedForwardIdeal.τ) (Cert.SampleFeedForwardIdeal.main (F := Ideal))) ⟨m, fun _ => 0, g⟩ (fun r => ∀ c : Dev Cert.SampleFeedForwardIdeal.nD,
          r.2.mem ((c.tc : Thread Cert.SampleFeedForwardIdeal.nD Cert.SampleFeedForwardIdeal.τ).loc Cert.SampleFeedForwardIdeal.main_v5) = v0 c
          ∧ r.2.mem ((c.tc : Thread Cert.SampleFeedForwardIdeal.nD Cert.SampleFeedForwardIdeal.τ).loc Cert.SampleFeedForwardIdeal.main_arg0) = m ((c.tc : Thread Cert.SampleFeedForwardIdeal.nD Cert.SampleFeedForwardIdeal.τ).loc Cert.SampleFeedForwardIdeal.main_arg0)
          ∧ r.2.mem ((c.tc : Thread Cert.SampleFeedForwardIdeal.nD Cert.SampleFeedForwardIdeal.τ).loc Cert.SampleFeedForwardIdeal.main_arg1) = m ((c.tc : Thread Cert.SampleFeedForwardIdeal.nD Cert.SampleFeedForwardIdeal.τ).loc Cert.SampleFeedForwardIdeal.main_arg1)
          ∧ r.2.mem ((c.tc : Thread Cert.SampleFeedForwardIdeal.nD Cert.SampleFeedForwardIdeal.τ).loc Cert.SampleFeedForwardIdeal.main_arg2) = m ((c.tc : Thread Cert.SampleFeedForwardIdeal.nD Cert.SampleFeedForwardIdeal.τ).loc Cert.SampleFeedForwardIdeal.main_arg2)
          ∧ r.2.mem ((c.tc : Thread Cert.SampleFeedForwardIdeal.nD Cert.SampleFeedForwardIdeal.τ).loc Cert.SampleFeedForwardIdeal.main_arg3) = m ((c.tc : Thread Cert.SampleFeedForwardIdeal.nD Cert.SampleFeedForwardIdeal.τ).loc Cert.SampleFeedForwardIdeal.main_arg3)
          ∧ r.2.mem ((c.tc : Thread Cert.SampleFeedForwardIdeal.nD Cert.SampleFeedForwardIdeal.τ).loc Cert.SampleFeedForwardIdeal.main_arg4) = m ((c.tc : Thread Cert.SampleFeedForwardIdeal.nD Cert.SampleFeedForwardIdeal.τ).loc Cert.SampleFeedForwardIdeal.main_arg4)
          ∧ r.2.mem ((c.tc : Thread Cert.SampleFeedForwardIdeal.nD Cert.SampleFeedForwardIdeal.τ).loc Cert.SampleFeedForwardIdeal.main_arg5) = m ((c.tc : Thread Cert.SampleFeedForwardIdeal.nD Cert.SampleFeedForwardIdeal.τ).loc Cert.SampleFeedForwardIdeal.main_arg5)
          ∧ r.2.mem ((c.tc : Thread Cert.SampleFeedForwardIdeal.nD Cert.SampleFeedForwardIdeal.τ).loc Cert.SampleFeedForwardIdeal.main_arg6) = m ((c.tc : Thread Cert.SampleFeedForwardIdeal.nD Cert.SampleFeedForwardIdeal.τ).loc Cert.SampleFeedForwardIdeal.main_arg6))
      ∧ θ_run (Cert.SampleFeedForwardReferenceIdeal.defs (F := Ideal)) (onTc (τ := Cert.SampleFeedForwardReferenceIdeal.τ) (Cert.SampleFeedForwardReferenceIdeal.main (F := Ideal))) ⟨m', fun _ => 0, g'⟩ (fun r => ∀ c : Dev Cert.SampleFeedForwardReferenceIdeal.nD,
          r.2.mem ((c.tc : Thread Cert.SampleFeedForwardReferenceIdeal.nD Cert.SampleFeedForwardReferenceIdeal.τ).loc Cert.SampleFeedForwardReferenceIdeal.main_v34) = v0 c
          ∧ r.2.mem ((c.tc : Thread Cert.SampleFeedForwardReferenceIdeal.nD Cert.SampleFeedForwardReferenceIdeal.τ).loc Cert.SampleFeedForwardReferenceIdeal.main_arg0) = m' ((c.tc : Thread Cert.SampleFeedForwardReferenceIdeal.nD Cert.SampleFeedForwardReferenceIdeal.τ).loc Cert.SampleFeedForwardReferenceIdeal.main_arg0)
          ∧ r.2.mem ((c.tc : Thread Cert.SampleFeedForwardReferenceIdeal.nD Cert.SampleFeedForwardReferenceIdeal.τ).loc Cert.SampleFeedForwardReferenceIdeal.main_arg1) = m' ((c.tc : Thread Cert.SampleFeedForwardReferenceIdeal.nD Cert.SampleFeedForwardReferenceIdeal.τ).loc Cert.SampleFeedForwardReferenceIdeal.main_arg1)
          ∧ r.2.mem ((c.tc : Thread Cert.SampleFeedForwardReferenceIdeal.nD Cert.SampleFeedForwardReferenceIdeal.τ).loc Cert.SampleFeedForwardReferenceIdeal.main_arg2) = m' ((c.tc : Thread Cert.SampleFeedForwardReferenceIdeal.nD Cert.SampleFeedForwardReferenceIdeal.τ).loc Cert.SampleFeedForwardReferenceIdeal.main_arg2)
          ∧ r.2.mem ((c.tc : Thread Cert.SampleFeedForwardReferenceIdeal.nD Cert.SampleFeedForwardReferenceIdeal.τ).loc Cert.SampleFeedForwardReferenceIdeal.main_arg3) = m' ((c.tc : Thread Cert.SampleFeedForwardReferenceIdeal.nD Cert.SampleFeedForwardReferenceIdeal.τ).loc Cert.SampleFeedForwardReferenceIdeal.main_arg3)
          ∧ r.2.mem ((c.tc : Thread Cert.SampleFeedForwardReferenceIdeal.nD Cert.SampleFeedForwardReferenceIdeal.τ).loc Cert.SampleFeedForwardReferenceIdeal.main_arg4) = m' ((c.tc : Thread Cert.SampleFeedForwardReferenceIdeal.nD Cert.SampleFeedForwardReferenceIdeal.τ).loc Cert.SampleFeedForwardReferenceIdeal.main_arg4)
          ∧ r.2.mem ((c.tc : Thread Cert.SampleFeedForwardReferenceIdeal.nD Cert.SampleFeedForwardReferenceIdeal.τ).loc Cert.SampleFeedForwardReferenceIdeal.main_arg5) = m' ((c.tc : Thread Cert.SampleFeedForwardReferenceIdeal.nD Cert.SampleFeedForwardReferenceIdeal.τ).loc Cert.SampleFeedForwardReferenceIdeal.main_arg5)
          ∧ r.2.mem ((c.tc : Thread Cert.SampleFeedForwardReferenceIdeal.nD Cert.SampleFeedForwardReferenceIdeal.τ).loc Cert.SampleFeedForwardReferenceIdeal.main_arg6) = m' ((c.tc : Thread Cert.SampleFeedForwardReferenceIdeal.nD Cert.SampleFeedForwardReferenceIdeal.τ).loc Cert.SampleFeedForwardReferenceIdeal.main_arg6))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)
      ∧ m' ((c.tc : Thread Cert.ProjectionReferenceIdeal.nD Cert.ProjectionReferenceIdeal.τ).loc Cert.ProjectionReferenceIdeal.main_arg4) = m ((c.tc : Thread Cert.ProjectionIdeal.nD Cert.ProjectionIdeal.τ).loc Cert.ProjectionIdeal.main_arg4)
      ∧ m' ((c.tc : Thread Cert.ProjectionReferenceIdeal.nD Cert.ProjectionReferenceIdeal.τ).loc Cert.ProjectionReferenceIdeal.main_arg5) = m ((c.tc : Thread Cert.ProjectionIdeal.nD Cert.ProjectionIdeal.τ).loc Cert.ProjectionIdeal.main_arg5)
      ∧ m' ((c.tc : Thread Cert.ProjectionReferenceIdeal.nD Cert.ProjectionReferenceIdeal.τ).loc Cert.ProjectionReferenceIdeal.main_arg6) = m ((c.tc : Thread Cert.ProjectionIdeal.nD Cert.ProjectionIdeal.τ).loc Cert.ProjectionIdeal.main_arg6)) →
    ∃ (v0 : (c : Dev Cert.ProjectionIdeal.nD) → Buf (Elt Ideal) ((c.tc : Thread Cert.ProjectionIdeal.nD Cert.ProjectionIdeal.τ).loc Cert.ProjectionIdeal.main_v52_0)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v52_0) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v19) = v0 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3)
          ∧ r.2.mem ((c.tc : Thread Cert.ProjectionReferenceIdeal.nD Cert.ProjectionReferenceIdeal.τ).loc Cert.ProjectionReferenceIdeal.main_arg4) = m' ((c.tc : Thread Cert.ProjectionReferenceIdeal.nD Cert.ProjectionReferenceIdeal.τ).loc Cert.ProjectionReferenceIdeal.main_arg4)
          ∧ r.2.mem ((c.tc : Thread Cert.ProjectionReferenceIdeal.nD Cert.ProjectionReferenceIdeal.τ).loc Cert.ProjectionReferenceIdeal.main_arg5) = m' ((c.tc : Thread Cert.ProjectionReferenceIdeal.nD Cert.ProjectionReferenceIdeal.τ).loc Cert.ProjectionReferenceIdeal.main_arg5)
          ∧ r.2.mem ((c.tc : Thread Cert.ProjectionReferenceIdeal.nD Cert.ProjectionReferenceIdeal.τ).loc Cert.ProjectionReferenceIdeal.main_arg6) = m' ((c.tc : Thread Cert.ProjectionReferenceIdeal.nD Cert.ProjectionReferenceIdeal.τ).loc Cert.ProjectionReferenceIdeal.main_arg6))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hSampleFeedForward : Cert.SampleFeedForward.Facts) (hSampleFeedForwardIdeal : Cert.SampleFeedForwardIdeal.Facts) (hSampleFeedForwardReferenceIdeal : Cert.SampleFeedForwardReferenceIdeal.Facts) (hProjection : Cert.Projection.Facts) (hProjectionIdeal : Cert.ProjectionIdeal.Facts) (hProjectionReferenceIdeal : Cert.ProjectionReferenceIdeal.Facts) (hPre_gain_and_keys_finite : Cert.Pre_gain_and_keys_finite.Facts),
    quiescent_Kernel (hKernel := hKernel)
    ∧ quiescent_KernelIdeal (hKernelIdeal := hKernelIdeal)
    ∧ quiescent_KernelIdeal_pre_gain_and_keys_finite (hKernelIdeal := hKernelIdeal) (hPre_gain_and_keys_finite := hPre_gain_and_keys_finite)
    ∧ quiescent_ReferenceIdeal (hReferenceIdeal := hReferenceIdeal)
    ∧ quiescent_ReferenceIdeal_pre_gain_and_keys_finite (hReferenceIdeal := hReferenceIdeal) (hPre_gain_and_keys_finite := hPre_gain_and_keys_finite)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_SampleFeedForward (hSampleFeedForward := hSampleFeedForward)
    ∧ quiescent_SampleFeedForwardIdeal (hSampleFeedForwardIdeal := hSampleFeedForwardIdeal)
    ∧ quiescent_SampleFeedForwardReferenceIdeal (hSampleFeedForwardReferenceIdeal := hSampleFeedForwardReferenceIdeal)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ preserves_Kernel_KernelIdeal
    ∧ algebraic_KernelIdeal_ReferenceIdeal_pre_gain_and_keys_finite (hKernelIdeal := hKernelIdeal) (hReferenceIdeal := hReferenceIdeal) (hPre_gain_and_keys_finite := hPre_gain_and_keys_finite)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_SampleFeedForward_SampleFeedForwardIdeal
    ∧ algebraic_SampleFeedForwardIdeal_SampleFeedForwardReferenceIdeal (hSampleFeedForwardIdeal := hSampleFeedForwardIdeal) (hSampleFeedForwardReferenceIdeal := hSampleFeedForwardReferenceIdeal)
    ∧ preserves_Projection_ProjectionIdeal
    ∧ algebraic_ProjectionIdeal_ProjectionReferenceIdeal (hProjectionIdeal := hProjectionIdeal) (hProjectionReferenceIdeal := hProjectionReferenceIdeal)
-- ==== Pre_gain_and_keys_finite.lean ====
abbrev S8x4096x1024 : Shape := ⟨3, ![8, 4096, 1024]⟩
abbrev S128 : Shape := ⟨1, ![128]⟩
abbrev S8x2x4096x128 : Shape := ⟨4, ![8, 2, 4096, 128]⟩
abbrev S_ : Shape := ⟨0, ![]⟩

class Facts : Prop where
  bcast_S_S128 : S_.BroadcastsInDim S128 (![] : Fin 0 → Fin S128.rank)
  bcast_S_S8x2x4096x128 : S_.BroadcastsInDim S8x2x4096x128 (![] : Fin 0 → Fin S8x2x4096x128.rank)

variable [Facts]

def fn {F : FTy → Type} [FloatOps F] (main_arg0 : FVec F S8x4096x1024 .f32) (main_arg1 : FVec F S128 .f32) (main_arg2 : FVec F S8x2x4096x128 .bf16) (main_arg3 : FVec F S8x2x4096x128 .bf16) : IVec S128 1 × IVec S8x2x4096x128 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S8x2x4096x128 .bf16 := Host.absf main_arg2
  let main_cst_0 : FVec F S_ .bf16 := constant S_ .bf16 0x7F80#16
  let main_v4 : FVec F S8x2x4096x128 .bf16 := broadcastInDim S8x2x4096x128 ![] bcast_S_S8x2x4096x128 main_cst_0
  let main_v5 : IVec S8x2x4096x128 1 := cmpf .olt main_v3 main_v4
  (main_v2, main_v5)
-- ==== Kernel.lean ====
abbrev S8x4096x1024 : Shape := ⟨3, ![8, 4096, 1024]⟩
abbrev S128 : Shape := ⟨1, ![128]⟩
abbrev S8x2x4096x128 : Shape := ⟨4, ![8, 2, 4096, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S128x1 : Shape := ⟨2, ![128, 1]⟩
abbrev S1x128 : Shape := ⟨2, ![1, 128]⟩
abbrev S8x2x4096x256 : Shape := ⟨4, ![8, 2, 4096, 256]⟩
abbrev S1x4096x512 : Shape := ⟨3, ![1, 4096, 512]⟩
abbrev S1x1x4096x128 : Shape := ⟨4, ![1, 1, 4096, 128]⟩
abbrev S1x1x4096x256 : Shape := ⟨4, ![1, 1, 4096, 256]⟩
abbrev S128x4224 : Shape := ⟨2, ![128, 4224]⟩
abbrev S1x128x128 : Shape := ⟨3, ![1, 128, 128]⟩
abbrev S128x128 : Shape := ⟨2, ![128, 128]⟩
abbrev S128x4096 : Shape := ⟨2, ![128, 4096]⟩
abbrev S4096x256 : Shape := ⟨2, ![4096, 256]⟩
abbrev S128x256 : Shape := ⟨2, ![128, 256]⟩

abbrev nBuf : Space → Nat
  | .hbm => 64
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S128, .f32⟩
  | .hbm, ⟨2, _⟩ => ⟨S8x2x4096x128, .bf16⟩
  | .hbm, ⟨3, _⟩ => ⟨S8x2x4096x128, .bf16⟩
  | .hbm, ⟨4, _⟩ => ⟨S128, .i32⟩
  | .hbm, ⟨5, _⟩ => ⟨S128, .i1⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4096x1, .f32⟩
  | .hbm, ⟨28, _⟩ => ⟨S1x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S4096x128, .f32⟩
  | .hbm, ⟨41, _⟩ => ⟨S4096x64, .f32⟩
  | .hbm, ⟨42, _⟩ => ⟨S4096x64, .f32⟩
  | .hbm, ⟨43, _⟩ => ⟨S4096x64, .f32⟩
  | .hbm, ⟨44, _⟩ => ⟨S4096x128, .f32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S128, .i32⟩
  | .hbm, ⟨49, _⟩ => ⟨S128x1, .i32⟩
  | .hbm, ⟨50, _⟩ => ⟨S128, .f32⟩
  | .hbm, ⟨51, _⟩ => ⟨S1x128, .f32⟩
  | .hbm, ⟨52, _⟩ => ⟨S8x2x4096x128, .i32⟩
  | .hbm, ⟨53, _⟩ => ⟨S_, .i32⟩
  | .hbm, ⟨54, _⟩ => ⟨S8x2x4096x128, .i32⟩
  | .hbm, ⟨55, _⟩ => ⟨S8x2x4096x128, .i1⟩
  | .hbm, ⟨56, _⟩ => ⟨S_, .f32⟩
  | .hbm, ⟨57, _⟩ => ⟨S_, .f32⟩
  | .hbm, ⟨58, _⟩ => ⟨S8x2x4096x128, .f32⟩
  | .hbm, ⟨59, _⟩ => ⟨S8x2x4096x128, .f32⟩
  | .hbm, ⟨60, _⟩ => ⟨S8x2x4096x128, .f32⟩
  | .hbm, ⟨61, _⟩ => ⟨S8x2x4096x128, .bf16⟩
  | .hbm, ⟨62, _⟩ => ⟨S8x2x4096x256, .bf16⟩
  | .hbm, ⟨63, _⟩ => ⟨S8x4096x1024, .bf16⟩
  | .local _ .vmem, ⟨0, _⟩ => ⟨S1x4096x512, .f32⟩
  | .local _ .vmem, ⟨1, _⟩ => ⟨S1x4096x512, .f32⟩
  | .local _ .vmem, ⟨2, _⟩ => ⟨S1x128, .f32⟩
  | .local _ .vmem, ⟨3, _⟩ => ⟨S4096x128, .f32⟩
  | .local _ .vmem, ⟨4, _⟩ => ⟨S4096x128, .f32⟩
  | .local _ .vmem, ⟨5, _⟩ => ⟨S1x1x4096x128, .bf16⟩
  | .local _ .vmem, ⟨6, _⟩ => ⟨S1x1x4096x128, .bf16⟩
  | .local _ .vmem, ⟨7, _⟩ => ⟨S1x1x4096x256, .bf16⟩
  | .local _ .vmem, ⟨8, _⟩ => ⟨S1x1x4096x256, .bf16⟩
  | .local _ .vmem, ⟨9, _⟩ => ⟨S1x4096x512, .bf16⟩
  | .local _ .vmem, ⟨10, _⟩ => ⟨S1x4096x512, .bf16⟩
  | .local _ .vmem, ⟨11, _⟩ => ⟨S128x4224, .f32⟩
  | .local _ .vmem, ⟨12, _⟩ => ⟨S128x4224, .f32⟩
  | .local _ .vmem, ⟨13, _⟩ => ⟨S128x4224, .bf16⟩
  | .local _ .vmem, ⟨14, _⟩ => ⟨S128x4224, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_cst_7 : Ref sig .tc := ⟨.hbm, 57, rfl⟩
abbrev main_call0_v0 : Ref sig .tc := ⟨.hbm, 58, rfl⟩
abbrev main_call0_v1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c4_i32 : BitVec 32 := 4#32
  let v37 : BitVec 32 := Scalar.addi c0_i32 c4_i32
  let c1_i32 : BitVec 32 := 1#32
  ⟨c0_i32, v37, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let c0_i32_30 : BitVec 32 := 0#32
  let v51 : BitVec 32 := Scalar.addi v50 c0_i32_30
  let c128_i32 : BitVec 32 := 128#32
  let v52 : BitVec 32 := Scalar.muli v51 c128_i32
  v52
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let c0_i32_30 : BitVec 32 := 0#32
  let v51 : BitVec 32 := Scalar.addi v50 c0_i32_30
  let c1_i32_31 : BitVec 32 := 1#32
  let v54 : BitVec 32 := Scalar.addi v51 c1_i32_31
  let c31_i32 : BitVec 32 := 31#32
  let v55 : BitVec 32 := Scalar.minsi v54 c31_i32
  let c128_i32_32 : BitVec 32 := 128#32
  let v56 : BitVec 32 := Scalar.muli v55 c128_i32_32
  v56
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let c0_i32_30 : BitVec 32 := 0#32
  let v51 : BitVec 32 := Scalar.addi v50 c0_i32_30
  let c1_i32_33 : BitVec 32 := 1#32
  let v58 : BitVec 32 := Scalar.subi v51 c1_i32_33
  let c0_i32_34 : BitVec 32 := 0#32
  let v59 : BitVec 32 := Scalar.maxsi v58 c0_i32_34
  let c128_i32_35 : BitVec 32 := 128#32
  let v60 : BitVec 32 := Scalar.muli v59 c128_i32_35
  v60
def k0_off1 (k0_t1 : Fin k0_t1_loop.trips) (c0_i32_30 : BitVec 32) : Fin 3 → Nat :=
  let c0_36 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c128_i32 : BitVec 32 := 128#32
  let v52 : BitVec 32 := Scalar.muli v51 c128_i32
  let v53 : BitVec 32 := v52
  let v62 : Index := Scalar.indexCast v53
  let c128 : Index := 128#32
  ![0, v62.toNat, 128]
def k0_off2 (k0_t1 : Fin k0_t1_loop.trips) (c0_i32_30 : BitVec 32) : Fin 2 → Nat :=
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c128_i32 : BitVec 32 := 128#32
  let v52 : BitVec 32 := Scalar.muli v51 c128_i32
  let v53 : BitVec 32 := v52
  let v81 : Index := Scalar.indexCast v53
  let c0_43 : Index := 0#32
  ![v81.toNat, 0]
def k0_off3 (k0_t1 : Fin k0_t1_loop.trips) (c0_i32_30 : BitVec 32) : Fin 3 → Nat :=
  let c0_225 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c1_i32_33 : BitVec 32 := 1#32
  let v58 : BitVec 32 := Scalar.subi v51 c1_i32_33
  let c0_i32_34 : BitVec 32 := 0#32
  let v59 : BitVec 32 := Scalar.maxsi v58 c0_i32_34
  let c128_i32_35 : BitVec 32 := 128#32
  let v60 : BitVec 32 := Scalar.muli v59 c128_i32_35
  let v61 : BitVec 32 := v60
  let v398 : Index := Scalar.indexCast v61
  let c384_226 : Index := 384#32
  ![0, v398.toNat, 384]
def k0_off4 (k0_t1 : Fin k0_t1_loop.trips) (c0_i32_30 : BitVec 32) : Fin 3 → Nat :=
  let c0_227 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c128_i32 : BitVec 32 := 128#32
  let v52 : BitVec 32 := Scalar.muli v51 c128_i32
  let v53 : BitVec 32 := v52
  let v402 : Index := Scalar.indexCast v53
  let c256_228 : Index := 256#32
  ![0, v402.toNat, 256]
def k0_off5 (k0_t1 : Fin k0_t1_loop.trips) (c0_i32_30 : BitVec 32) : Fin 3 → Nat :=
  let c0_445 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c128_i32 : BitVec 32 := 128#32
  let v52 : BitVec 32 := Scalar.muli v51 c128_i32
  let v53 : BitVec 32 := v52
  let v738 : Index := Scalar.indexCast v53
  let c0_446 : Index := 0#32
  ![0, v738.toNat, 0]
def k0_off6 (k0_t1 : Fin k0_t1_loop.trips) (c0_i32_30 : BitVec 32) : Fin 3 → Nat :=
  let c0_447 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c128_i32 : BitVec 32 := 128#32
  let v52 : BitVec 32 := Scalar.muli v51 c128_i32
  let v53 : BitVec 32 := v52
  let v742 : Index := Scalar.indexCast v53
  let c384_448 : Index := 384#32
  ![0, v742.toNat, 384]
def k0_off7 (k0_t1 : Fin k0_t1_loop.trips) (c0_i32_30 : BitVec 32) : Fin 3 → Nat :=
  let c0_667 : Index := 0#32
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c1_i32_31 : BitVec 32 := 1#32
  let v54 : BitVec 32 := Scalar.addi v51 c1_i32_31
  let c31_i32 : BitVec 32 := 31#32
  let v55 : BitVec 32 := Scalar.minsi v54 c31_i32
  let c128_i32_32 : BitVec 32 := 128#32
  let v56 : BitVec 32 := Scalar.muli v55 c128_i32_32
  let v57 : BitVec 32 := v56
  let v1082 : Index := Scalar.indexCast v57
  let c0_668 : Index := 0#32
  ![0, v1082.toNat, 0]
def k0_off8 (k0_t1 : Fin k0_t1_loop.trips) (c0_i32_30 : BitVec 32) : Fin 2 → Nat :=
  let c0_i32 : BitVec 32 := 0#32
  let c1_i32 : BitVec 32 := 1#32
  let arg13 : BitVec 32 := Scf.iv c0_i32 c1_i32 k0_t1
  let c8_i32 : BitVec 32 := 8#32
  let v50 : BitVec 32 := Scalar.muli arg13 c8_i32
  let v51 : BitVec 32 := Scalar.addi v50 c0_i32_30
  let c1_i32_31 : BitVec 32 := 1#32
  let v54 : BitVec 32 := Scalar.addi v51 c1_i32_31
  let c31_i32 : BitVec 32 := 31#32
  let v55 : BitVec 32 := Scalar.minsi v54 c31_i32
  let c128_i32_32 : BitVec 32 := 128#32
  let v56 : BitVec 32 := Scalar.muli v55 c128_i32_32
  let v57 : BitVec 32 := v56
  let v1101 : Index := Scalar.indexCast v57
  let c0_675 : Index := 0#32
  ![v1101.toNat, 0]
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_887 : BitVec 32 := 8#32
  let v1422 : BitVec 32 := Scalar.muli arg13 c8_i32_887
  let c1_i32_888 : BitVec 32 := 1#32
  let v1423 : BitVec 32 := Scalar.addi v1422 c1_i32_888
  let c128_i32_889 : BitVec 32 := 128#32
  let v1424 : BitVec 32 := Scalar.muli v1423 c128_i32_889
  v1424
def k0_mult5 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_887 : BitVec 32 := 8#32
  let v1422 : BitVec 32 := Scalar.muli arg13 c8_i32_887
  let c1_i32_888 : BitVec 32 := 1#32
  let v1423 : BitVec 32 := Scalar.addi v1422 c1_i32_888
  let c1_i32_890 : BitVec 32 := 1#32
  let v1426 : BitVec 32 := Scalar.addi v1423 c1_i32_890
  let c31_i32_891 : BitVec 32 := 31#32
  let v1427 : BitVec 32 := Scalar.minsi v1426 c31_i32_891
  let c128_i32_892 : BitVec 32 := 128#32
  let v1428 : BitVec 32 := Scalar.muli v1427 c128_i32_892
  v1428
def k0_mult6 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_887 : BitVec 32 := 8#32
  let v1422 : BitVec 32 := Scalar.muli arg13 c8_i32_887
  let c1_i32_888 : BitVec 32 := 1#32
  let v1423 : BitVec 32 := Scalar.addi v1422 c1_i32_888
  let c1_i32_893 : BitVec 32 := 1#32
  let v1430 : BitVec 32 := Scalar.subi v1423 c1_i32_893
  let c0_i32_894 : BitVec 32 := 0#32
  let v1431 : BitVec 32 := Scalar.maxsi v1430 c0_i32_894
  let c128_i32_895 : BitVec 32 := 128#32
  let v1432 : BitVec 32 := Scalar.muli v1431 c128_i32_895
  v1432
def k0_mult7 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_1776 : BitVec 32 := 8#32
  let v2794 : BitVec 32 := Scalar.muli arg13 c8_i32_1776
  let c2_i32 : BitVec 32 := 2#32
  let v2795 : BitVec 32 := Scalar.addi v2794 c2_i32
  let c128_i32_1777 : BitVec 32 := 128#32
  let v2796 : BitVec 32 := Scalar.muli v2795 c128_i32_1777
  v2796
def k0_mult8 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_1776 : BitVec 32 := 8#32
  let v2794 : BitVec 32 := Scalar.muli arg13 c8_i32_1776
  let c2_i32 : BitVec 32 := 2#32
  let v2795 : BitVec 32 := Scalar.addi v2794 c2_i32
  let c1_i32_1778 : BitVec 32 := 1#32
  let v2798 : BitVec 32 := Scalar.addi v2795 c1_i32_1778
  let c31_i32_1779 : BitVec 32 := 31#32
  let v2799 : BitVec 32 := Scalar.minsi v2798 c31_i32_1779
  let c128_i32_1780 : BitVec 32 := 128#32
  let v2800 : BitVec 32 := Scalar.muli v2799 c128_i32_1780
  v2800
def k0_mult9 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_1776 : BitVec 32 := 8#32
  let v2794 : BitVec 32 := Scalar.muli arg13 c8_i32_1776
  let c2_i32 : BitVec 32 := 2#32
  let v2795 : BitVec 32 := Scalar.addi v2794 c2_i32
  let c1_i32_1781 : BitVec 32 := 1#32
  let v2802 : BitVec 32 := Scalar.subi v2795 c1_i32_1781
  let c0_i32_1782 : BitVec 32 := 0#32
  let v2803 : BitVec 32 := Scalar.maxsi v2802 c0_i32_1782
  let c128_i32_1783 : BitVec 32 := 128#32
  let v2804 : BitVec 32 := Scalar.muli v2803 c128_i32_1783
  v2804
def k0_mult10 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_2664 : BitVec 32 := 8#32
  let v4166 : BitVec 32 := Scalar.muli arg13 c8_i32_2664
  let c3_i32 : BitVec 32 := 3#32
  let v4167 : BitVec 32 := Scalar.addi v4166 c3_i32
  let c128_i32_2665 : BitVec 32 := 128#32
  let v4168 : BitVec 32 := Scalar.muli v4167 c128_i32_2665
  v4168
def k0_mult11 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_2664 : BitVec 32 := 8#32
  let v4166 : BitVec 32 := Scalar.muli arg13 c8_i32_2664
  let c3_i32 : BitVec 32 := 3#32
  let v4167 : BitVec 32 := Scalar.addi v4166 c3_i32
  let c1_i32_2666 : BitVec 32 := 1#32
  let v4170 : BitVec 32 := Scalar.addi v4167 c1_i32_2666
  let c31_i32_2667 : BitVec 32 := 31#32
  let v4171 : BitVec 32 := Scalar.minsi v4170 c31_i32_2667
  let c128_i32_2668 : BitVec 32 := 128#32
  let v4172 : BitVec 32 := Scalar.muli v4171 c128_i32_2668
  v4172
def k0_mult12 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_2664 : BitVec 32 := 8#32
  let v4166 : BitVec 32 := Scalar.muli arg13 c8_i32_2664
  let c3_i32 : BitVec 32 := 3#32
  let v4167 : BitVec 32 := Scalar.addi v4166 c3_i32
  let c1_i32_2669 : BitVec 32 := 1#32
  let v4174 : BitVec 32 := Scalar.subi v4167 c1_i32_2669
  let c0_i32_2670 : BitVec 32 := 0#32
  let v4175 : BitVec 32 := Scalar.maxsi v4174 c0_i32_2670
  let c128_i32_2671 : BitVec 32 := 128#32
  let v4176 : BitVec 32 := Scalar.muli v4175 c128_i32_2671
  v4176
def k0_mult13 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_3552 : BitVec 32 := 8#32
  let v5538 : BitVec 32 := Scalar.muli arg13 c8_i32_3552
  let c4_i32_3553 : BitVec 32 := 4#32
  let v5539 : BitVec 32 := Scalar.addi v5538 c4_i32_3553
  let c128_i32_3554 : BitVec 32 := 128#32
  let v5540 : BitVec 32 := Scalar.muli v5539 c128_i32_3554
  v5540
def k0_mult14 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_3552 : BitVec 32 := 8#32
  let v5538 : BitVec 32 := Scalar.muli arg13 c8_i32_3552
  let c4_i32_3553 : BitVec 32 := 4#32
  let v5539 : BitVec 32 := Scalar.addi v5538 c4_i32_3553
  let c1_i32_3555 : BitVec 32 := 1#32
  let v5542 : BitVec 32 := Scalar.addi v5539 c1_i32_3555
  let c31_i32_3556 : BitVec 32 := 31#32
  let v5543 : BitVec 32 := Scalar.minsi v5542 c31_i32_3556
  let c128_i32_3557 : BitVec 32 := 128#32
  let v5544 : BitVec 32 := Scalar.muli v5543 c128_i32_3557
  v5544
def k0_mult15 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_3552 : BitVec 32 := 8#32
  let v5538 : BitVec 32 := Scalar.muli arg13 c8_i32_3552
  let c4_i32_3553 : BitVec 32 := 4#32
  let v5539 : BitVec 32 := Scalar.addi v5538 c4_i32_3553
  let c1_i32_3558 : BitVec 32 := 1#32
  let v5546 : BitVec 32 := Scalar.subi v5539 c1_i32_3558
  let c0_i32_3559 : BitVec 32 := 0#32
  let v5547 : BitVec 32 := Scalar.maxsi v5546 c0_i32_3559
  let c128_i32_3560 : BitVec 32 := 128#32
  let v5548 : BitVec 32 := Scalar.muli v5547 c128_i32_3560
  v5548
def k0_mult16 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_4441 : BitVec 32 := 8#32
  let v6910 : BitVec 32 := Scalar.muli arg13 c8_i32_4441
  let c5_i32 : BitVec 32 := 5#32
  let v6911 : BitVec 32 := Scalar.addi v6910 c5_i32
  let c128_i32_4442 : BitVec 32 := 128#32
  let v6912 : BitVec 32 := Scalar.muli v6911 c128_i32_4442
  v6912
def k0_mult17 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_4441 : BitVec 32 := 8#32
  let v6910 : BitVec 32 := Scalar.muli arg13 c8_i32_4441
  let c5_i32 : BitVec 32 := 5#32
  let v6911 : BitVec 32 := Scalar.addi v6910 c5_i32
  let c1_i32_4443 : BitVec 32 := 1#32
  let v6914 : BitVec 32 := Scalar.addi v6911 c1_i32_4443
  let c31_i32_4444 : BitVec 32 := 31#32
  let v6915 : BitVec 32 := Scalar.minsi v6914 c31_i32_4444
  let c128_i32_4445 : BitVec 32 := 128#32
  let v6916 : BitVec 32 := Scalar.muli v6915 c128_i32_4445
  v6916
def k0_mult18 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_4441 : BitVec 32 := 8#32
  let v6910 : BitVec 32 := Scalar.muli arg13 c8_i32_4441
  let c5_i32 : BitVec 32 := 5#32
  let v6911 : BitVec 32 := Scalar.addi v6910 c5_i32
  let c1_i32_4446 : BitVec 32 := 1#32
  let v6918 : BitVec 32 := Scalar.subi v6911 c1_i32_4446
  let c0_i32_4447 : BitVec 32 := 0#32
  let v6919 : BitVec 32 := Scalar.maxsi v6918 c0_i32_4447
  let c128_i32_4448 : BitVec 32 := 128#32
  let v6920 : BitVec 32 := Scalar.muli v6919 c128_i32_4448
  v6920
def k0_mult19 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_5329 : BitVec 32 := 8#32
  let v8282 : BitVec 32 := Scalar.muli arg13 c8_i32_5329
  let c6_i32 : BitVec 32 := 6#32
  let v8283 : BitVec 32 := Scalar.addi v8282 c6_i32
  let c128_i32_5330 : BitVec 32 := 128#32
  let v8284 : BitVec 32 := Scalar.muli v8283 c128_i32_5330
  v8284
def k0_mult20 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_5329 : BitVec 32 := 8#32
  let v8282 : BitVec 32 := Scalar.muli arg13 c8_i32_5329
  let c6_i32 : BitVec 32 := 6#32
  let v8283 : BitVec 32 := Scalar.addi v8282 c6_i32
  let c1_i32_5331 : BitVec 32 := 1#32
  let v8286 : BitVec 32 := Scalar.addi v8283 c1_i32_5331
  let c31_i32_5332 : BitVec 32 := 31#32
  let v8287 : BitVec 32 := Scalar.minsi v8286 c31_i32_5332
  let c128_i32_5333 : BitVec 32 := 128#32
  let v8288 : BitVec 32 := Scalar.muli v8287 c128_i32_5333
  v8288
def k0_mult21 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_5329 : BitVec 32 := 8#32
  let v8282 : BitVec 32 := Scalar.muli arg13 c8_i32_5329
  let c6_i32 : BitVec 32 := 6#32
  let v8283 : BitVec 32 := Scalar.addi v8282 c6_i32
  let c1_i32_5334 : BitVec 32 := 1#32
  let v8290 : BitVec 32 := Scalar.subi v8283 c1_i32_5334
  let c0_i32_5335 : BitVec 32 := 0#32
  let v8291 : BitVec 32 := Scalar.maxsi v8290 c0_i32_5335
  let c128_i32_5336 : BitVec 32 := 128#32
  let v8292 : BitVec 32 := Scalar.muli v8291 c128_i32_5336
  v8292
def k0_mult22 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_6217 : BitVec 32 := 8#32
  let v9654 : BitVec 32 := Scalar.muli arg13 c8_i32_6217
  let c7_i32 : BitVec 32 := 7#32
  let v9655 : BitVec 32 := Scalar.addi v9654 c7_i32
  let c128_i32_6218 : BitVec 32 := 128#32
  let v9656 : BitVec 32 := Scalar.muli v9655 c128_i32_6218
  v9656
def k0_mult23 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_6217 : BitVec 32 := 8#32
  let v9654 : BitVec 32 := Scalar.muli arg13 c8_i32_6217
  let c7_i32 : BitVec 32 := 7#32
  let v9655 : BitVec 32 := Scalar.addi v9654 c7_i32
  let c1_i32_6219 : BitVec 32 := 1#32
  let v9658 : BitVec 32 := Scalar.addi v9655 c1_i32_6219
  let c31_i32_6220 : BitVec 32 := 31#32
  let v9659 : BitVec 32 := Scalar.minsi v9658 c31_i32_6220
  let c128_i32_6221 : BitVec 32 := 128#32
  let v9660 : BitVec 32 := Scalar.muli v9659 c128_i32_6221
  v9660
def k0_mult24 (k0_t1 : Fin k0_t1_loop.trips) : BitVec 32 :=
  let c0_i32 : BitVec 32 := 0#32
  let c1_i32 : BitVec 32 := 1#32
  let arg13 : BitVec 32 := Scf.iv c0_i32 c1_i32 k0_t1
  let c8_i32_6217 : BitVec 32 := 8#32
  let v9654 : BitVec 32 := Scalar.muli arg13 c8_i32_6217
  let c7_i32 : BitVec 32 := 7#32
  let v9655 : BitVec 32 := Scalar.addi v9654 c7_i32
  let c1_i32_6222 : BitVec 32 := 1#32
  let v9662 : BitVec 32 := Scalar.subi v9655 c1_i32_6222
  let c0_i32_6223 : BitVec 32 := 0#32
  let v9663 : BitVec 32 := Scalar.maxsi v9662 c0_i32_6223
  let c128_i32_6224 : BitVec 32 := 128#32
  let v9664 : BitVec 32 := Scalar.muli v9663 c128_i32_6224
  v9664
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S8x4096x1024 : Shape := ⟨3, ![8, 4096, 1024]⟩
abbrev S128 : Shape := ⟨1, ![128]⟩
abbrev S8x2x4096x128 : Shape := ⟨4, ![8, 2, 4096, 128]⟩
abbrev S8x4096x8x128 : Shape := ⟨4, ![8, 4096, 8, 128]⟩
abbrev S8x4096x8x2x2x32 : Shape := ⟨6, ![8, 4096, 8, 2, 2, 32]⟩
abbrev S8x2x4096x2x2x32 : Shape := ⟨6, ![8, 2, 4096, 2, 2, 32]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S8x4096x8x64 : Shape := ⟨4, ![8, 4096, 8, 64]⟩
abbrev S4096x1x32 : Shape := ⟨3, ![4096, 1, 32]⟩
abbrev S8x4096x8x32 : Shape := ⟨4, ![8, 4096, 8, 32]⟩
abbrev S1x4096x1x32 : Shape := ⟨4, ![1, 4096, 1, 32]⟩
abbrev S8x4096x2x4x128 : Shape := ⟨5, ![8, 4096, 2, 4, 128]⟩
abbrev S8x2x4096x4096x4 : Shape := ⟨5, ![8, 2, 4096, 4096, 4]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩

abbrev nBuf : Space → Nat
  | .hbm => 130
  | .vmem => 0
  | .smem => 0
  | _ => 0

abbrev hbmTy0_0 (i : Nat) : BufTy := match i % 128 with
  | 0 => ⟨S8x4096x1024, .f32⟩
  | 1 => ⟨S128, .f32⟩
  | 2 => ⟨S8x2x4096x128, .bf16⟩
  | 3 => ⟨S8x2x4096x128, .bf16⟩
  | 4 => ⟨S8x4096x8x128, .f32⟩
  | 5 => ⟨S8x4096x8x2x2x32, .f32⟩
  | 6 => ⟨S8x4096x8x2x2x32, .f32⟩
  | 7 => ⟨S8x4096x8x128, .f32⟩
  | 8 => ⟨S8x2x4096x128, .f32⟩
  | 9 => ⟨S8x2x4096x2x2x32, .f32⟩
  | 10 => ⟨S8x2x4096x2x2x32, .f32⟩
  | 11 => ⟨S8x2x4096x128, .f32⟩
  | 12 => ⟨S8x4096x8x128, .f32⟩
  | 13 => ⟨S_, .f32⟩
  | 14 => ⟨S8x4096x8, .f32⟩
  | 15 => ⟨S8x4096x8x1, .f32⟩
  | 16 => ⟨S_, .f32⟩
  | 17 => ⟨S8x4096x8x1, .f32⟩
  | 18 => ⟨S8x4096x8x1, .f32⟩
  | 19 => ⟨S_, .f32⟩
  | 20 => ⟨S8x4096x8x1, .f32⟩
  | 21 => ⟨S8x4096x8x1, .f32⟩
  | 22 => ⟨S8x4096x8x1, .f32⟩
  | 23 => ⟨S8x4096x8x128, .f32⟩
  | 24 => ⟨S8x4096x8x128, .f32⟩
  | 25 => ⟨S1x1x1x128, .f32⟩
  | 26 => ⟨S8x4096x8x128, .f32⟩
  | 27 => ⟨S8x4096x8x128, .f32⟩
  | 28 => ⟨S64, .f32⟩
  | 29 => ⟨S64x64, .f32⟩
  | 30 => ⟨S4096, .f32⟩
  | 31 => ⟨S64, .f32⟩
  | 32 => ⟨S1x64, .f32⟩
  | 33 => ⟨S64x64, .f32⟩
  | 34 => ⟨S4096, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S4096x1, .f32⟩
  | 50 => ⟨S1x32, .f32⟩
  | 51 => ⟨S4096x32, .f32⟩
  | 52 => ⟨S4096x32, .f32⟩
  | 53 => ⟨S4096x32, .f32⟩
  | 54 => ⟨S4096x1, .f32⟩
  | 55 => ⟨S1x32, .f32⟩
  | 56 => ⟨S4096x32, .f32⟩
  | 57 => ⟨S4096x32, .f32⟩
  | 58 => ⟨S4096x32, .f32⟩
  | 59 => ⟨S8x4096x8x64, .f32⟩
  | 60 => ⟨S8x4096x8x64, .f32⟩
  | 61 => ⟨S4096x32, .f32⟩
  | 62 => ⟨S4096x1x32, .f32⟩
  | 63 => ⟨S4096x32, .f32⟩
  | 64 => ⟨S4096x1x32, .f32⟩
  | 65 => ⟨S8x4096x8x32, .f32⟩
  | 66 => ⟨S8x4096x8x32, .f32⟩
  | 67 => ⟨S1x4096x1x32, .f32⟩
  | 68 => ⟨S8x4096x8x32, .f32⟩
  | 69 => ⟨S8x4096x8x32, .f32⟩
  | 70 => ⟨S1x4096x1x32, .f32⟩
  | 71 => ⟨S8x4096x8x32, .f32⟩
  | 72 => ⟨S8x4096x8x32, .f32⟩
  | 73 => ⟨S8x4096x8x32, .f32⟩
  | 74 => ⟨S1x4096x1x32, .f32⟩
  | 75 => ⟨S8x4096x8x32, .f32⟩
  | 76 => ⟨S8x4096x8x32, .f32⟩
  | 77 => ⟨S1x4096x1x32, .f32⟩
  | 78 => ⟨S8x4096x8x32, .f32⟩
  | 79 => ⟨S8x4096x8x32, .f32⟩
  | 80 => ⟨S8x4096x8x32, .f32⟩
  | 81 => ⟨S8x4096x8x64, .f32⟩
  | 82 => ⟨S4096x32, .f32⟩
  | 83 => ⟨S4096x1x32, .f32⟩
  | 84 => ⟨S4096x32, .f32⟩
  | 85 => ⟨S4096x1x32, .f32⟩
  | 86 => ⟨S8x4096x8x32, .f32⟩
  | 87 => ⟨S8x4096x8x32, .f32⟩
  | 88 => ⟨S1x4096x1x32, .f32⟩
  | 89 => ⟨S8x4096x8x32, .f32⟩
  | 90 => ⟨S8x4096x8x32, .f32⟩
  | 91 => ⟨S1x4096x1x32, .f32⟩
  | 92 => ⟨S8x4096x8x32, .f32⟩
  | 93 => ⟨S8x4096x8x32, .f32⟩
  | 94 => ⟨S8x4096x8x32, .f32⟩
  | 95 => ⟨S1x4096x1x32, .f32⟩
  | 96 => ⟨S8x4096x8x32, .f32⟩
  | 97 => ⟨S8x4096x8x32, .f32⟩
  | 98 => ⟨S1x4096x1x32, .f32⟩
  | 99 => ⟨S8x4096x8x32, .f32⟩
  | 100 => ⟨S8x4096x8x32, .f32⟩
  | 101 => ⟨S8x4096x8x32, .f32⟩
  | 102 => ⟨S8x4096x8x64, .f32⟩
  | 103 => ⟨S8x4096x8x128, .f32⟩
  | 104 => ⟨S_, .f32⟩
  | 105 => ⟨S_, .f32⟩
  | 106 => ⟨S8x4096x8x128, .f32⟩
  | 107 => ⟨S8x4096x8x128, .f32⟩
  | 108 => ⟨S8x4096x2x4x128, .f32⟩
  | 109 => ⟨S8x2x4096x4096x4, .f32⟩
  | 110 => ⟨S8x2x4x4096x4096, .f32⟩
  | 111 => ⟨S_, .f32⟩
  | 112 => ⟨S8x2x4x4096, .f32⟩
  | 113 => ⟨S_, .f32⟩
  | 114 => ⟨S8x2x4x4096, .f32⟩
  | 115 => ⟨S8x2x4x4096, .f32⟩
  | 116 => ⟨S8x2x4x4096x1, .f32⟩
  | 117 => ⟨S8x2x4x4096x4096, .f32⟩
  | 118 => ⟨S8x2x4x4096x4096, .f32⟩
  | 119 => ⟨S8x2x4x4096x4096, .f32⟩
  | 120 => ⟨S_, .f32⟩
  | 121 => ⟨S8x2x4x4096, .f32⟩
  | 122 => ⟨S8x2x4x4096x1, .f32⟩
  | 123 => ⟨S8x2x4x4096x4096, .f32⟩
  | 124 => ⟨S8x2x4x4096x4096, .f32⟩
  | 125 => ⟨S8x2x4x4096x4096, .bf16⟩
  | 126 => ⟨S8x2x128x4x4096, .f32⟩
  | 127 => ⟨S8x4096x2x4x128, .f32⟩
  | _ => ⟨S8x4096x1024, .f32⟩

abbrev hbmTy0_1 (i : Nat) : BufTy := match i % 128 with
  | 0 => ⟨S8x4096x1024, .f32⟩
  | 1 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_7 : Ref sig .tc := ⟨.hbm, 111, rfl⟩
abbrev main_v99 : Ref sig .tc := ⟨.hbm, 112, rfl⟩
abbrev main_cst_8 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_9 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩

abbrev nD : Nat := 1
abbrev τ : Topo := Topo.v7x

variable {F : FTy → Type} [FloatOps F]
-- ==== FeedForward.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FeedForwardIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FeedForwardReferenceIdeal.lean ====
abbrev S32768x1024 : Shape := ⟨2, ![32768, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x4096, .f32⟩
  | .hbm, ⟨27, _⟩ => ⟨S_, .f32⟩
  | .hbm, ⟨28, _⟩ => ⟨S32768x4096, .f32⟩
  | .hbm, ⟨29, _⟩ => ⟨S32768x4096, .f32⟩
  | .hbm, ⟨30, _⟩ => ⟨S32768x4096, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== SampleFeedForward.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SampleFeedForwardReferenceIdeal.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 49
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x4096, .f32⟩
  | .hbm, ⟨27, _⟩ => ⟨S_, .f32⟩
  | .hbm, ⟨28, _⟩ => ⟨S65536x4096, .f32⟩
  | .hbm, ⟨29, _⟩ => ⟨S65536x4096, .f32⟩
  | .hbm, ⟨30, _⟩ => ⟨S65536x4096, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S_, .f32⟩
  | .hbm, ⟨38, _⟩ => ⟨S65536x1, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Projection.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S1024x1536 : Shape := ⟨2, ![1024, 1536]⟩
abbrev S128 : Shape := ⟨1, ![128]⟩
abbrev S1536 : Shape := ⟨1, ![1536]⟩
abbrev S_ : Shape := ⟨0, ![]⟩
abbrev S128x1 : Shape := ⟨2, ![128, 1]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1536x1 : Shape := ⟨2, ![1536, 1]⟩
abbrev S32768x1024 : Shape := ⟨2, ![32768, 1024]⟩
abbrev S1x1024 : Shape := ⟨2, ![1, 1024]⟩
abbrev S8x2x4096x128 : Shape := ⟨4, ![8, 2, 4096, 128]⟩
abbrev S8x2x4096x256 : Shape := ⟨4, ![8, 2, 4096, 256]⟩
abbrev S512x1024 : Shape := ⟨2, ![512, 1024]⟩
abbrev S512x128 : Shape := ⟨2, ![512, 128]⟩
abbrev S1x2x512x128 : Shape := ⟨4, ![1, 2, 512, 128]⟩
abbrev S1x2x512x256 : Shape := ⟨4, ![1, 2, 512, 256]⟩
abbrev S2x512x512 : Shape := ⟨3, ![2, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x1x512x128 : Shape := ⟨4, ![1, 1, 512, 128]⟩
abbrev S1024x1024 : Shape := ⟨2, ![1024, 1024]⟩
abbrev S512x1536 : Shape := ⟨2, ![512, 1536]⟩

abbrev nBuf : Space → Nat
  | .hbm => 73
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x1536, .f32⟩
  | .hbm, ⟨6, _⟩ => ⟨S128, .f32⟩
  | .hbm, ⟨7, _⟩ => ⟨S128, .i32⟩
  | .hbm, ⟨8, _⟩ => ⟨S128, .i1⟩
  | .hbm, ⟨9, _⟩ => ⟨S1536, .i32⟩
  | .hbm, ⟨10, _⟩ => ⟨S1536, .i1⟩
  | .hbm, ⟨11, _⟩ => ⟨S_, .i32⟩
  | .hbm, ⟨12, _⟩ => ⟨S128, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S128, .f32⟩
  | .hbm, ⟨17, _⟩ => ⟨S1x128, .f32⟩
  | .hbm, ⟨18, _⟩ => ⟨S64, .f32⟩
  | .hbm, ⟨19, _⟩ => ⟨S64x64, .f32⟩
  | .hbm, ⟨20, _⟩ => ⟨S4096, .f32⟩
  | .hbm, ⟨21, _⟩ => ⟨S64, .f32⟩
  | .hbm, ⟨22, _⟩ => ⟨S1x64, .f32⟩
  | .hbm, ⟨23, _⟩ => ⟨S64x64, .f32⟩
  | .hbm, ⟨24, _⟩ => ⟨S4096, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x64, .f32⟩
  | .hbm, ⟨50, _⟩ => ⟨S4096x64, .f32⟩
  | .hbm, ⟨51, _⟩ => ⟨S4096x64, .f32⟩
  | .hbm, ⟨52, _⟩ => ⟨S4096x128, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x128, .f32⟩
  | .hbm, ⟨57, _⟩ => ⟨S_, .i32⟩
  | .hbm, ⟨58, _⟩ => ⟨S1536, .i32⟩
  | .hbm, ⟨59, _⟩ => ⟨S1536, .i32⟩
  | .hbm, ⟨60, _⟩ => ⟨S1536, .i32⟩
  | .hbm, ⟨61, _⟩ => ⟨S1536x1, .i32⟩
  | .hbm, ⟨62, _⟩ => ⟨S1024x1536, .f32⟩
  | .hbm, ⟨63, _⟩ => ⟨S1024x1536, .bf16⟩
  | .hbm, ⟨64, _⟩ => ⟨S32768x1024, .f32⟩
  | .hbm, ⟨65, _⟩ => ⟨S1x1024, .f32⟩
  | .hbm, ⟨66, _⟩ => ⟨S1024x4096, .bf16⟩
  | .hbm, ⟨67, _⟩ => ⟨S4096x1024, .bf16⟩
  | .hbm, ⟨68, _⟩ => ⟨S1x1024, .f32⟩
  | .hbm, ⟨69, _⟩ => ⟨S32768x1024, .f32⟩
  | .hbm, ⟨70, _⟩ => ⟨S32768x1024, .f32⟩
  | .hbm, ⟨71, _⟩ => ⟨S8x2x4096x128, .bf16⟩
  | .hbm, ⟨72, _⟩ => ⟨S8x2x4096x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1536, .bf16⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x2x512x128, .bf16⟩
  | .local _ .vmem, ⟨17, _⟩ => ⟨S1x2x512x128, .bf16⟩
  | .local _ .vmem, ⟨18, _⟩ => ⟨S1x2x512x256, .bf16⟩
  | .local _ .vmem, ⟨19, _⟩ => ⟨S1x2x512x256, .bf16⟩
  | .local _ .vmem, ⟨20, _⟩ => ⟨S2x512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev main_v52_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32_5 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : BitVec 32 := Scalar.subi c1_i32_5 v9
  let c0_i32_11 : BitVec 32 := 0#32
  let c0_i32_12 : BitVec 32 := 0#32
  ![v13.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v178 : Index := Scalar.indexCast v9
  let c0_102 : Index := 0#32
  let c0_103 : Index := 0#32
  ![v178.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_12 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectionReferenceIdeal.lean ====
abbrev S8x4096x1024 : Shape := ⟨3, ![8, 4096, 1024]⟩
abbrev S1024 : Shape := ⟨1, ![1024]⟩
abbrev S1024x4096 : Shape := ⟨2, ![1024, 4096]⟩
abbrev S4096x1024 : Shape := ⟨2, ![4096, 1024]⟩
abbrev S1024x1536 : Shape := ⟨2, ![1024, 1536]⟩
abbrev S128 : Shape := ⟨1, ![128]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x1536, .f32⟩
  | .hbm, ⟨6, _⟩ => ⟨S128, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x4096, .f32⟩
  | .hbm, ⟨25, _⟩ => ⟨S_, .f32⟩
  | .hbm, ⟨26, _⟩ => ⟨S32768x4096, .f32⟩
  | .hbm, ⟨27, _⟩ => ⟨S32768x4096, .f32⟩
  | .hbm, ⟨28, _⟩ => ⟨S32768x4096, .f32⟩
  | .hbm, ⟨29, _⟩ => ⟨S32768x1024, .f32⟩
  | .hbm, ⟨30, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Tick.lean ====
/-
  One step of the attention kernel's schedule, as a program of its own.

  The kernel goes through its 128 (query tile, head) pairs in order. At pair `n` it computes the logits of pair `n + 1`
  into one scratch, the softmax numerators of pair `n` from the other logits scratch into one of two probability
  scratches, and the weighted values of pair `n - 1` from the other probability scratch into the output block.
  `tick` is that step followed by whatever program comes next; the printed body is 32 of them in each loop trip.
-/
module

public import Idealize.ShloMosaic.Lib.Pipeline.FrameBody
public import Idealize.ShloMosaic.Lib.Memref

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Shapes -/

abbrev Blk : Shape := ⟨2, ![128, 128]⟩
abbrev Col : Shape := ⟨2, ![128, 1]⟩
abbrev Lane : Shape := ⟨1, ![128]⟩
abbrev Row : Shape := ⟨2, ![1, 128]⟩
abbrev Log : Shape := ⟨2, ![128, 4096]⟩
abbrev Scr : Shape := ⟨2, ![128, 4224]⟩
abbrev Tab : Shape := ⟨2, ![4096, 128]⟩
abbrev Que : Shape := ⟨3, ![1, 4096, 512]⟩
abbrev Tile : Shape := ⟨3, ![1, 128, 128]⟩
abbrev Key : Shape := ⟨4, ![1, 1, 4096, 128]⟩
abbrev Vals : Shape := ⟨4, ![1, 1, 4096, 256]⟩
abbrev ValM : Shape := ⟨2, ![4096, 256]⟩
abbrev Wide : Shape := ⟨2, ![128, 256]⟩

/-- Logits: queries by keys, contracted over the head's 128 lanes. -/
def dotQK : DotDims Blk Tab Log where
  lhsContracting := [1]
  rhsContracting := [1]
  lhsNonContracting := [0]
  rhsNonContracting := [0]
  lhsBatch := []
  rhsBatch := []
  wf := by decide

/-- Weighted values: numerators by values, contracted over the keys. -/
def dotPV : DotDims Log ValM Wide where
  lhsContracting := [1]
  rhsContracting := [0]
  lhsNonContracting := [0]
  rhsNonContracting := [1]
  lhsBatch := []
  rhsBatch := []
  wf := by decide

section Values

variable {F : FTy → Type} [FloatOps F]

/-! ## The values a step computes -/

/-- The queries of one tile and head: root-mean-square normalised, scaled by gain and `qs`, rotated by their positions. -/
def queryV (qs : F .f32) (x : FVec F Tile .f32) (g : FVec F Row .f32) (cos sin : FVec F Blk .f32) : FVec F Blk .bf16 :=
  have x2 : FVec F Blk .f32 := shapeCast Blk x (by decide)
  have g2 : FVec F Row .f32 := shapeCast Row g (by decide)
  have gs : FVec F Row .f32 := mulf g2 (broadcast Row qs)
  have ss : FVec F Lane .f32 := multiReduction .add [1] Lane (mulf x2 x2) 0x00000000#32 (by decide) (.inl rfl) rfl
  have mean : FVec F Col .f32 := divf (shapeCast Col ss (by decide)) (broadcast Col (Scalar.ofBits .f32 0x43000000#32))
  have rs : FVec F Col .f32 := rsqrt (addf mean (broadcast Col (Scalar.ofBits .f32 0x358637BD#32)))
  have y : FVec F Blk .f32 := mulf (mulf x2 (broadcastTo Blk rs (by decide))) (broadcastTo Blk gs (by decide))
  have a : FVec F Blk .f32 := mulf y (shapeCast Blk cos (by decide))
  have b : FVec F Blk .f32 := mulf (dynamicRotate 1 64#32 none y (by decide)) (shapeCast Blk sin (by decide))
  truncf .bf16 (addf a b) (by decide)

/-- The logits of one tile and head. -/
def logitV (qs : F .f32) (x : FVec F Tile .f32) (g : FVec F Row .f32) (cos sin : FVec F Blk .f32) (k : FVec F Key .bf16) :
    FVec F Log .f32 :=
  matmul dotQK none (queryV qs x g cos sin) (shapeCast Tab k (by decide)) (constant Log .f32 0x00000000#32)

/-- The row maxima, spread over a chunk's lanes, of the chunks' lanewise maximum. -/
def topV (m : FVec F Blk .f32) : FVec F Blk .f32 :=
  have r : FVec F Lane .f32 := multiReduction .maximumf [1] Lane m 0xFF800000#32 (by decide) (.inl rfl) rfl
  broadcastTo Blk (shapeCast Col (shapeCast Col r (by decide)) (by decide)) (by decide)

/-- A chunk's softmax numerators. -/
def numV (s top : FVec F Blk .f32) : FVec F Blk .bf16 := truncf .bf16 (exp2 (subf s top)) (by decide)

/-- The weighted values divided by the row sums, which the column of ones beside the values accumulates. -/
def weighV (p : FVec F Log .bf16) (v : FVec F Vals .bf16) : FVec F Tile .bf16 :=
  have w : FVec F Wide .f32 := matmul dotPV none p (shapeCast ValM v (by decide)) (constant Wide .f32 0x00000000#32)
  have d : FVec F Blk .f32 := divf (extractStridedSlice Blk ![0, 0] w (by decide))
    (broadcastTo Blk (extractStridedSlice Col ![0, 128] w (by decide)) (by decide))
  shapeCast Tile (truncf .bf16 d (by decide)) (by decide)

end Values

/-! ## The step as a program -/

/-- Programs of a TensorCore. -/
abbrev PG (nD : Nat) (τ : Topo) (sig : RefSig) (Λ : Labels) (F : FTy → Type) (α : Type) := Prog (TpuEff nD τ sig (Elt F) Λ .tc) α

section Program

variable {nD : Nat} {τ : Topo} {sig : RefSig} {Λ : Labels} {F : FTy → Type} [FloatOps F] {α : Type}

local notation "ℙ" => PG nD τ sig Λ F α

/-- A load at the head of a program. -/
abbrev ldK {s : Shape} {e : EltTy} (M : Memref sig .tc .vmem s e) (r : Rect s) (h : M.view.LoadsAt r.toLoadRect)
    (k : (r.shape.Idx → Elt F e) → ℙ) : ℙ := .op (.load M r.toLoadRect h) k

/-- An unmasked store at the head of a program. -/
abbrev stK {s : Shape} {e : EltTy} (M : Memref sig .tc .vmem s e) (r : Rect s) (w : r.shape.Idx → Elt F e)
    (h : (M.access r).Stores Finset.univ) (k : PUnit → ℙ) : ℙ := .op (.store M r w Finset.univ h (.inl rfl)) k

theorem chunk_inb (c : Fin 32) : ∀ a, (![0, 128 * c.val] : Fin 2 → ℕ) a + Blk.size a ≤ Scr.size a := by
  revert c; decide

/-- The `c`-th chunk of 128 columns of a scratch. -/
abbrev chunk (c : Fin 32) : Rect Scr := Rect.unit (s := Scr) ![0, 128 * c.val] Blk.size (chunk_inb c)

/-- A scratch's first 4096 columns: the ones in use. -/
abbrev used : Rect Scr := Rect.unit (s := Scr) ![0, 0] Log.size (by decide)

/-- The chunk numbers in order, the first left out. -/
def later : List (Fin 32) :=
  [1, 2, 3, 4, 5, 6, 7, 8, 9, 10, 11, 12, 13, 14, 15, 16, 17, 18, 19, 20, 21, 22, 23, 24, 25, 26, 27, 28, 29, 30, 31]

/-- The chunks' lanewise maximum, accumulated from `m` over the chunks of `l`. -/
def maxK (S : Memref sig .tc .vmem Scr .f32) : List (Fin 32) → FVec F Blk .f32 → (FVec F Blk .f32 → ℙ) → ℙ
  | [], m, k => k m
  | c :: l, m, k => ldK S (chunk c) (View.loadsAt_vmem (show 0 < Blk.numel by decide)) fun x => maxK S l (maximumf m x) k

theorem chunk_packed : ∀ c : Fin 32, (chunk c).PackedRows (EltTy.packing .bf16) := by decide

theorem chunk_stores {P : Memref sig .tc .vmem Scr .bf16} (hP : P.IsWhole) (c : Fin 32) : (P.access (chunk c)).Stores Finset.univ :=
  View.stores_vmem (show 0 < Blk.numel by decide) (hP.storeExact_slice rfl _ (chunk_packed c)) (fun _ => rfl)

/-- The numerators written chunk by chunk over the chunks of `l`. -/
def numK (S : Memref sig .tc .vmem Scr .f32) (P : Memref sig .tc .vmem Scr .bf16) (hP : P.IsWhole) (top : FVec F Blk .f32) :
    List (Fin 32) → ℙ → ℙ
  | [], k => k
  | c :: l, k =>
    ldK S (chunk c) (View.loadsAt_vmem (show 0 < Blk.numel by decide)) fun x =>
    ldK P (chunk c) (View.loadsAt_vmem (show 0 < Blk.numel by decide)) fun _ =>
    stK P (chunk c) (shapeCast Blk (numV x top) (by decide)) (chunk_stores hP c) fun _ => numK S P hP top l k

/-- The logits of the tile and head at `oq`, `oc` into `S`. -/
def logitK (qs : F .f32) (Q : Memref sig .tc .vmem Que .f32) (G : Memref sig .tc .vmem Row .f32) (C N : Memref sig .tc .vmem Tab .f32)
    (K : Memref sig .tc .vmem Key .bf16) (S : Memref sig .tc .vmem Scr .f32)
    (oq : Fin 3 → ℕ) (hq : ∀ a, oq a + Tile.size a ≤ Que.size a) (oc : Fin 2 → ℕ) (hc : ∀ a, oc a + Blk.size a ≤ Tab.size a) (k : ℙ) : ℙ :=
  ldK Q (Rect.unit (s := Que) oq Tile.size hq) (View.loadsAt_vmem (show 0 < Tile.numel by decide)) fun x =>
  ldK G (Rect.unit (s := Row) ![0, 0] Row.size (by decide)) (View.loadsAt_vmem (by decide)) fun g =>
  ldK C (Rect.unit (s := Tab) oc Blk.size hc) (View.loadsAt_vmem (show 0 < Blk.numel by decide)) fun cos =>
  ldK N (Rect.unit (s := Tab) oc Blk.size hc) (View.loadsAt_vmem (show 0 < Blk.numel by decide)) fun sin =>
  ldK K (Rect.unit (s := Key) ![0, 0, 0, 0] Key.size (by decide)) (View.loadsAt_vmem (by decide)) fun kk =>
  ldK S used (View.loadsAt_vmem (by decide)) fun _ =>
  stK S used (shapeCast Log (logitV qs x g cos sin kk) (by decide)) (View.stores_vmem_bits_univ (by decide) rfl) fun _ => k

/-- The softmax numerators of the logits in `S` into `P`. -/
def softK (S : Memref sig .tc .vmem Scr .f32) (P : Memref sig .tc .vmem Scr .bf16) (hP : P.IsWhole) (k : ℙ) : ℙ :=
  ldK S (chunk 0) (View.loadsAt_vmem (by decide)) fun x =>
  maxK S later x fun m => numK S P hP (topV m) (0 :: later) k

/-- The weighted values of the numerators in `P` into the output block's tile at `oo`. -/
def weighK (V : Memref sig .tc .vmem Vals .bf16) (P : Memref sig .tc .vmem Scr .bf16) (O : Memref sig .tc .vmem Que .bf16)
    (oo : Fin 3 → ℕ) (ho : ∀ a, oo a + Tile.size a ≤ Que.size a)
    (hst : (O.access (Rect.unit (s := Que) oo Tile.size ho)).Stores Finset.univ) (k : ℙ) : ℙ :=
  ldK P used (View.loadsAt_vmem (by decide)) fun p =>
  ldK V (Rect.unit (s := Vals) ![0, 0, 0, 0] Vals.size (by decide)) (View.loadsAt_vmem (by decide)) fun v =>
  ldK O (Rect.unit (s := Que) oo Tile.size ho) (View.loadsAt_vmem (show 0 < Tile.numel by decide)) fun _ =>
  stK O (Rect.unit (s := Que) oo Tile.size ho) (weighV p v) hst fun _ => k

/-- One step: the next logits into `Sn`, the numerators of `Sc` into `Pc`, the weighted values of `Pp` into the output. -/
def tick (qs : F .f32) (Q : Memref sig .tc .vmem Que .f32) (G : Memref sig .tc .vmem Row .f32) (C N : Memref sig .tc .vmem Tab .f32)
    (K : Memref sig .tc .vmem Key .bf16) (V : Memref sig .tc .vmem Vals .bf16) (O : Memref sig .tc .vmem Que .bf16)
    (Sn Sc : Memref sig .tc .vmem Scr .f32) (Pc Pp : Memref sig .tc .vmem Scr .bf16) (hP : Pc.IsWhole)
    (oq : Fin 3 → ℕ) (hq : ∀ a, oq a + Tile.size a ≤ Que.size a) (oc : Fin 2 → ℕ) (hc : ∀ a, oc a + Blk.size a ≤ Tab.size a)
    (oo : Fin 3 → ℕ) (ho : ∀ a, oo a + Tile.size a ≤ Que.size a)
    (hst : (O.access (Rect.unit (s := Que) oo Tile.size ho)).Stores Finset.univ) (k : ℙ) : ℙ :=
  logitK qs Q G C N K Sn oq hq oc hc <| softK Sc Pc hP <| weighK V Pp O oo ho hst k

end Program

end Cert.Attn

end
-- ==== Proof.Step.lean ====
/-
  What one step of the schedule does to the buffers: the weakest-precondition rules for `tick` (Tick.lean), at any float
  instance. Contents are those read through the memrefs (`owns`).
-/
module

public import proofs.«01_k».proof.Proof.Tick
public import Idealize.ShloMosaic.Lib.Pipeline.Value
public import Idealize.ShloMosaic.Lib.Pipeline.ValueKit.Tiles
public import Idealize.ShloMosaic.Lib.Pipeline.Kit

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- What a rectangle reads of contents. -/
abbrev rd {s : Shape} {β : Type} (X : s.Idx → β) (r : Rect s) : r.shape.Idx → β := fun x => X (r.idx x)

variable {nD : Nat} {τ : Topo} {sig : RefSig} {Λ : Labels} {F : FTy → Type} [FloatOps F] {α : Type}

local notation "𝕄" => MT nD τ sig Unit (Elt F) ℕ (UR sig nD τ) ℕ

variable (defs : Defs nD τ sig (Elt F) Λ) (c : Dev nD)

/-- The weakest precondition of a TensorCore program on core `c`. -/
abbrev wpc (p : PG nD τ sig Λ F α) (Q : α → sProp 𝕄) : sProp 𝕄 := wp frame (wpE defs Variants.none (c : Thread nD τ) none) Set.univ p Q

/-- The memref owned whole, reading `x`. -/
abbrev own {s : Shape} {e : EltTy} (M : Memref sig .tc .vmem s e) (x : s.Idx → Elt F e) : sProp 𝕄 := owns (c : Thread nD τ) M fullShare x

/-- `P` at `x` holds `O` at `x`, and has it back at any other. -/
def Acc {X : Type} (P O : X → sProp 𝕄) : Prop := ∀ x, P x ⊢ iprop(O x ∗ (∀ x', O x' -∗ P x'))

omit [FloatOps F] in
theorem acc_self {X : Type} (O : X → sProp 𝕄) : Acc O O := fun x => by
  iintro H; isplitl [H]; · iexact H
  iintro %x' H; iexact H

omit [FloatOps F] in
theorem acc_head {X : Type} {P O : X → sProp 𝕄} {B : sProp 𝕄} (h : Acc P O) : Acc (fun x => iprop(P x ∗ B)) O := fun x => by
  iintro ⟨H, HB⟩
  ihave HH := h x $$ H
  icases HH with ⟨HO, HW⟩
  isplitl [HO]; · iexact HO
  iintro %x' HO
  isplitl [HW HO]
  · iapply HW; iexact HO
  iexact HB

omit [FloatOps F] in
theorem acc_tail {X : Type} {P O : X → sProp 𝕄} {B : sProp 𝕄} (h : Acc P O) : Acc (fun x => iprop(B ∗ P x)) O := fun x => by
  iintro ⟨HB, H⟩
  ihave HH := h x $$ H
  icases HH with ⟨HO, HW⟩
  isplitl [HO]; · iexact HO
  iintro %x' HO
  isplitl [HB]; · iexact HB
  iapply HW; iexact HO

/-! ## One access -/

variable {defs} {c}

/-- A load reads the contents at its rectangle. -/
theorem ld_spec {s : Shape} {e : EltTy} {M : Memref sig .tc .vmem s e} {P : (s.Idx → Elt F e) → sProp 𝕄} (ha : Acc P (own c M))
    {x : s.Idx → Elt F e} {r : Rect s} {h : M.view.LoadsAt r.toLoadRect} {k : (r.shape.Idx → Elt F e) → PG nD τ sig Λ F α} {Q : α → sProp 𝕄}
    (hk : P x ⊢ wpc defs c (k (rd x r)) Q) : P x ⊢ wpc defs c (ldK M r h k) Q := by
  have h1 := ha x
  iintro H
  ihave HH := h1 $$ H
  icases HH with ⟨HO, HW⟩
  unfold own owns
  icases HO with ⟨%f, %hf, HO⟩
  subst hf
  iapply (wp_load (defs := defs) Variants.none (c : Thread nD τ) none Set.univ (r := r.toLoadRect) (hl := h) (S := M.view.set)
    (View.setOn_subset_set _ _)) $$ HO
  iintro HO
  iapply hk
  iapply HW
  iexists f
  isplitr; · ipureintro; rfl
  iexact HO

/-- A store leaves its payload at its rectangle and everything else as it was. -/
theorem st_spec {s : Shape} {e : EltTy} {M : Memref sig .tc .vmem s e} {P : (s.Idx → Elt F e) → sProp 𝕄} (ha : Acc P (own c M))
    {x : s.Idx → Elt F e} {r : Rect s} {w : r.shape.Idx → Elt F e} {h : (M.access r).Stores Finset.univ} {k : PUnit → PG nD τ sig Λ F α}
    {Q : α → sProp 𝕄}
    (hk : ∀ x', rd x' r = w → (∀ i, (∀ j, r.idx j ≠ i) → x' i = x i) → P x' ⊢ wpc defs c (k ⟨⟩) Q) :
    P x ⊢ wpc defs c (stK M r w h k) Q := by
  have h1 := ha x
  iintro H
  ihave HH := h1 $$ H
  icases HH with ⟨HO, HW⟩
  unfold own owns
  icases HO with ⟨%f, %hf, HO⟩
  subst hf
  iapply (wp_store (defs := defs) Variants.none (c : Thread nD τ) none Set.univ (r := r) (w := w) (hx := h) (S := M.view.set)
    (View.set_slice_subset (v := M.view) r)) $$ HO
  iintro HO
  iapply (hk (M.view.read (Elt F) ((M.access r).write (Elt F) f w Finset.univ))
    (funext fun j => View.read_slice_write_emb r f w (Finset.mem_univ j))
    (fun i hi => View.read_slice_write_of_not_mem r f w Finset.univ fun hm => by
      obtain ⟨j, -, hj⟩ := Finset.mem_map.mp hm
      exact hi j hj))
  iapply HW
  iexists _
  isplitr; swap; · iexact HO
  ipureintro; rfl

/-! ## The parts of a step -/

/-- The chunks' lanewise maximum of a scratch's contents over the chunks of `l`, from `m`. -/
def maxOver (s : Vec F Scr .f32) (l : List (Fin 32)) (m : FVec F Blk .f32) : FVec F Blk .f32 :=
  l.foldl (fun m c => maximumf m (rd s (chunk c))) m

theorem maxK_spec {S : Memref sig .tc .vmem Scr .f32} {P : Vec F Scr .f32 → sProp 𝕄} (ha : Acc P (own c S)) {s : Vec F Scr .f32}
    {k : FVec F Blk .f32 → PG nD τ sig Λ F α} {Q : α → sProp 𝕄} :
    ∀ (l : List (Fin 32)) (m : FVec F Blk .f32), (P s ⊢ wpc defs c (k (maxOver s l m)) Q) → P s ⊢ wpc defs c (maxK S l m k) Q
  | [], _, hk => hk
  | _ :: l, _, hk => ld_spec ha (maxK_spec ha l _ hk)

/-- Distinct chunks have no index in common. -/
theorem chunk_disjoint {a b : Fin 32} (h : a ≠ b) (i : Blk.Idx) (j : Blk.Idx) : (chunk a).idx i ≠ (chunk b).idx j := fun e => by
  have e1 := congrArg Fin.val (congrFun e 1)
  rw [Rect.idx_unit_val, Rect.idx_unit_val] at e1
  have hi : (i 1).val < 128 := (i 1).isLt
  have hj : (j 1).val < 128 := (j 1).isLt
  simp at e1
  exact h (Fin.ext (by omega))

theorem numK_spec {S : Memref sig .tc .vmem Scr .f32} {Pm : Memref sig .tc .vmem Scr .bf16} {hP : Pm.IsWhole}
    {P : Vec F Scr .f32 → Vec F Scr .bf16 → sProp 𝕄} (hs : ∀ p, Acc (fun s => P s p) (own c S)) (hp : ∀ s, Acc (P s) (own c Pm))
    {s : Vec F Scr .f32} {top : FVec F Blk .f32} {k : PG nD τ sig Λ F α} {Q : α → sProp 𝕄} :
    ∀ (l : List (Fin 32)), l.Nodup → ∀ p : Vec F Scr .bf16,
      (∀ p', (∀ b ∈ l, rd p' (chunk b) = numV (rd s (chunk b)) top) → (∀ b, b ∉ l → rd p' (chunk b) = rd p (chunk b)) →
        P s p' ⊢ wpc defs c k Q) → P s p ⊢ wpc defs c (numK S Pm hP top l k) Q
  | [], _, p, hk => hk p (fun b hb => absurd hb List.not_mem_nil) (fun _ _ => rfl)
  | a :: l, hl, p, hk => by
    refine ld_spec (P := fun s => P s p) (hs p) ?_
    refine ld_spec (hp s) ?_
    refine st_spec (hp s) fun p₁ h₁ h₂ => ?_
    rw [shapeCast_self] at h₁
    have hother : ∀ b, b ≠ a → rd p₁ (chunk b) = rd p (chunk b) := fun b hb =>
      funext fun j => h₂ _ fun i => chunk_disjoint (Ne.symm hb) i j
    refine numK_spec hs hp l (List.nodup_cons.mp hl).2 p₁ fun p' hin hout => hk p' ?_ ?_
    · intro b hb
      rcases List.mem_cons.mp hb with rfl | hb
      · exact (hout b (List.nodup_cons.mp hl).1).trans h₁
      · exact hin b hb
    · intro b hb
      exact (hout b fun h => hb (List.mem_cons_of_mem _ h)).trans (hother b fun h => hb (h ▸ List.mem_cons_self))

/-! ## The buffers of the body -/

/-- The body's memrefs: the six inputs, the output, the two logits and the two numerators scratches (next or current,
    current or previous, by the parity of the step). -/
structure Refs (sig : RefSig) where
  Q : Memref sig .tc .vmem Que .f32
  G : Memref sig .tc .vmem Row .f32
  C : Memref sig .tc .vmem Tab .f32
  N : Memref sig .tc .vmem Tab .f32
  K : Memref sig .tc .vmem Key .bf16
  V : Memref sig .tc .vmem Vals .bf16
  O : Memref sig .tc .vmem Que .bf16
  Sn : Memref sig .tc .vmem Scr .f32
  Sc : Memref sig .tc .vmem Scr .f32
  Pc : Memref sig .tc .vmem Scr .bf16
  Pp : Memref sig .tc .vmem Scr .bf16

/-- What they hold. -/
structure Sta (F : FTy → Type) where
  q : Vec F Que .f32
  g : Vec F Row .f32
  cos : Vec F Tab .f32
  sin : Vec F Tab .f32
  k : Vec F Key .bf16
  v : Vec F Vals .bf16
  o : Vec F Que .bf16
  sn : Vec F Scr .f32
  sc : Vec F Scr .f32
  pc : Vec F Scr .bf16
  pp : Vec F Scr .bf16

/-- The roles at the next step. -/
def Refs.swap (R : Refs sig) : Refs sig := { R with Sn := R.Sc, Sc := R.Sn, Pc := R.Pp, Pp := R.Pc }
def Sta.swap (σ : Sta F) : Sta F := { σ with sn := σ.sc, sc := σ.sn, pc := σ.pp, pp := σ.pc }

variable (c) in
/-- All of them owned. -/
def st (R : Refs sig) (σ : Sta F) : sProp 𝕄 :=
  iprop(own c R.Q σ.q ∗ own c R.G σ.g ∗ own c R.C σ.cos ∗ own c R.N σ.sin ∗ own c R.K σ.k ∗ own c R.V σ.v ∗ own c R.O σ.o
    ∗ own c R.Sn σ.sn ∗ own c R.Sc σ.sc ∗ own c R.Pc σ.pc ∗ own c R.Pp σ.pp)

theorem st_swap (R : Refs sig) (σ : Sta F) : st (τ := τ) c R σ ⊢ st c R.swap σ.swap := by
  unfold st Refs.swap Sta.swap
  iintro ⟨H1, H2, H3, H4, H5, H6, H7, H8, H9, H10, H11⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H8]; · iexact H8
  isplitl [H11]; · iexact H11
  iexact H10

section Accs
variable (R : Refs sig) (σ : Sta F)
theorem acc_q : Acc (fun x => st (τ := τ) c R { σ with q := x }) (own c R.Q) := by
  unfold st; dsimp only; exact acc_head (acc_self _)
theorem acc_g : Acc (fun x => st (τ := τ) c R { σ with g := x }) (own c R.G) := by
  unfold st; dsimp only; exact acc_tail (acc_head (acc_self _))
theorem acc_cos : Acc (fun x => st (τ := τ) c R { σ with cos := x }) (own c R.C) := by
  unfold st; dsimp only; exact acc_tail (acc_tail (acc_head (acc_self _)))
theorem acc_sin : Acc (fun x => st (τ := τ) c R { σ with sin := x }) (own c R.N) := by
  unfold st; dsimp only; exact acc_tail (acc_tail (acc_tail (acc_head (acc_self _))))
theorem acc_k : Acc (fun x => st (τ := τ) c R { σ with k := x }) (own c R.K) := by
  unfold st; dsimp only; exact acc_tail (acc_tail (acc_tail (acc_tail (acc_head (acc_self _)))))
theorem acc_v : Acc (fun x => st (τ := τ) c R { σ with v := x }) (own c R.V) := by
  unfold st; dsimp only; exact acc_tail (acc_tail (acc_tail (acc_tail (acc_tail (acc_head (acc_self _))))))
theorem acc_o : Acc (fun x => st (τ := τ) c R { σ with o := x }) (own c R.O) := by
  unfold st; dsimp only; exact acc_tail (acc_tail (acc_tail (acc_tail (acc_tail (acc_tail (acc_head (acc_self _)))))))
theorem acc_sn : Acc (fun x => st (τ := τ) c R { σ with sn := x }) (own c R.Sn) := by
  unfold st; dsimp only; exact acc_tail (acc_tail (acc_tail (acc_tail (acc_tail (acc_tail (acc_tail (acc_head (acc_self _))))))))
theorem acc_sc : Acc (fun x => st (τ := τ) c R { σ with sc := x }) (own c R.Sc) := by
  unfold st; dsimp only; exact acc_tail (acc_tail (acc_tail (acc_tail (acc_tail (acc_tail (acc_tail (acc_tail (acc_head (acc_self _)))))))))
theorem acc_pc : Acc (fun x => st (τ := τ) c R { σ with pc := x }) (own c R.Pc) := by
  unfold st; dsimp only; exact acc_tail (acc_tail (acc_tail (acc_tail (acc_tail (acc_tail (acc_tail (acc_tail (acc_tail (acc_head (acc_self _))))))))))
theorem acc_pp : Acc (fun x => st (τ := τ) c R { σ with pp := x }) (own c R.Pp) := by
  unfold st; dsimp only; exact acc_tail (acc_tail (acc_tail (acc_tail (acc_tail (acc_tail (acc_tail (acc_tail (acc_tail (acc_tail (acc_self _))))))))))
end Accs

/-- The whole-array rectangles the step reads its small inputs through. -/
abbrev allG : Rect Row := Rect.unit (s := Row) ![0, 0] Row.size (by decide)
abbrev allK : Rect Key := Rect.unit (s := Key) ![0, 0, 0, 0] Key.size (by decide)
abbrev allV : Rect Vals := Rect.unit (s := Vals) ![0, 0, 0, 0] Vals.size (by decide)

theorem later_nodup : (0 :: later).Nodup := by decide
theorem mem_later : ∀ b : Fin 32, b ∈ 0 :: later := by decide

theorem logitK_spec {R : Refs sig} {σ : Sta F} {qs : F .f32} {oq : Fin 3 → ℕ} {hq : ∀ a, oq a + Tile.size a ≤ Que.size a}
    {oc : Fin 2 → ℕ} {hc : ∀ a, oc a + Blk.size a ≤ Tab.size a} {k : PG nD τ sig Λ F α} {Q : α → sProp 𝕄}
    (hk : ∀ sn, rd sn used = logitV qs (rd σ.q (Rect.unit (s := Que) oq Tile.size hq)) (rd σ.g allG)
        (rd σ.cos (Rect.unit (s := Tab) oc Blk.size hc)) (rd σ.sin (Rect.unit (s := Tab) oc Blk.size hc)) (rd σ.k allK) →
      st c R { σ with sn := sn } ⊢ wpc defs c k Q) :
    st c R σ ⊢ wpc defs c (logitK qs R.Q R.G R.C R.N R.K R.Sn oq hq oc hc k) Q := by
  refine ld_spec (acc_q R σ) (x := σ.q) ?_
  refine ld_spec (acc_g R σ) (x := σ.g) ?_
  refine ld_spec (acc_cos R σ) (x := σ.cos) ?_
  refine ld_spec (acc_sin R σ) (x := σ.sin) ?_
  refine ld_spec (acc_k R σ) (x := σ.k) ?_
  refine ld_spec (acc_sn R σ) (x := σ.sn) ?_
  refine st_spec (acc_sn R σ) (x := σ.sn) fun sn h _ => hk sn ?_
  rw [h, shapeCast_self]

theorem softK_spec {R : Refs sig} {σ : Sta F} {hP : R.Pc.IsWhole} {k : PG nD τ sig Λ F α} {Q : α → sProp 𝕄}
    (hk : ∀ pc, (∀ b, rd pc (chunk b) = numV (rd σ.sc (chunk b)) (topV (maxOver σ.sc later (rd σ.sc (chunk 0))))) →
      st c R { σ with pc := pc } ⊢ wpc defs c k Q) :
    st c R σ ⊢ wpc defs c (softK R.Sc R.Pc hP k) Q := by
  refine ld_spec (acc_sc R σ) (x := σ.sc) ?_
  refine maxK_spec (acc_sc R σ) (s := σ.sc) later _ ?_
  exact numK_spec (P := fun s p => st c R { σ with sc := s, pc := p }) (fun p => acc_sc R { σ with pc := p })
    (fun s => acc_pc R { σ with sc := s }) (s := σ.sc) (0 :: later) later_nodup σ.pc
    fun pc h _ => hk pc fun b => h b (mem_later b)

theorem weighK_spec {R : Refs sig} {σ : Sta F} {oo : Fin 3 → ℕ} {ho : ∀ a, oo a + Tile.size a ≤ Que.size a}
    {hst : (R.O.access (Rect.unit (s := Que) oo Tile.size ho)).Stores Finset.univ} {k : PG nD τ sig Λ F α} {Q : α → sProp 𝕄}
    (hk : ∀ o, rd o (Rect.unit (s := Que) oo Tile.size ho) = weighV (rd σ.pp used) (rd σ.v allV) →
      (∀ i, (∀ j, (Rect.unit (s := Que) oo Tile.size ho).idx j ≠ i) → o i = σ.o i) →
      st c R { σ with o := o } ⊢ wpc defs c k Q) :
    st c R σ ⊢ wpc defs c (weighK R.V R.Pp R.O oo ho hst k) Q := by
  refine ld_spec (acc_pp R σ) (x := σ.pp) ?_
  refine ld_spec (acc_v R σ) (x := σ.v) ?_
  refine ld_spec (acc_o R σ) (x := σ.o) ?_
  exact st_spec (acc_o R σ) (x := σ.o) hk

/-! ## The blocks of the result -/

theorem tile_inb (n : Fin 128) : ∀ a, (![0, 128 * (n.val / 4), 128 * (n.val % 4)] : Fin 3 → ℕ) a + Tile.size a ≤ Que.size a := by
  revert n; decide
theorem rows_inb (n : Fin 128) : ∀ a, (![128 * (n.val / 4), 0] : Fin 2 → ℕ) a + Blk.size a ≤ Tab.size a := by
  revert n; decide

/-- The `n`-th query tile and head. -/
abbrev tileR (n : Fin 128) : Rect Que := Rect.unit (s := Que) ![0, 128 * (n.val / 4), 128 * (n.val % 4)] Tile.size (tile_inb n)
/-- Its rows of the rotation tables. -/
abbrev rowsR (n : Fin 128) : Rect Tab := Rect.unit (s := Tab) ![128 * (n.val / 4), 0] Blk.size (rows_inb n)

/-- The six inputs. -/
structure Inp (F : FTy → Type) where
  q : Vec F Que .f32
  g : Vec F Row .f32
  cos : Vec F Tab .f32
  sin : Vec F Tab .f32
  k : Vec F Key .bf16
  v : Vec F Vals .bf16

/-- The logits of the `n`-th tile and head. -/
def logitB (qs : F .f32) (I : Inp F) (n : Fin 128) : FVec F Log .f32 :=
  logitV qs (rd I.q (tileR n)) (rd I.g allG) (rd I.cos (rowsR n)) (rd I.sin (rowsR n)) (rd I.k allK)

theorem lchunk_inb (b : Fin 32) : ∀ a, (![0, 128 * b.val] : Fin 2 → ℕ) a + Blk.size a ≤ Log.size a := by
  revert b; decide
/-- The `b`-th chunk of 128 columns of the logits. -/
abbrev lchunk (b : Fin 32) : Rect Log := Rect.unit (s := Log) ![0, 128 * b.val] Blk.size (lchunk_inb b)

/-- The lanewise maximum of the logits' chunks. -/
def maxB (L : FVec F Log .f32) : FVec F Blk .f32 := later.foldl (fun m b => maximumf m (rd L (lchunk b))) (rd L (lchunk 0))

/-- The softmax numerators of logits. -/
def numB (L : FVec F Log .f32) : FVec F Log .bf16 := fun i =>
  numV (rd L (lchunk ⟨(i 1).val / 128, by have : (i 1).val < 4096 := (i 1).isLt; omega⟩)) (topV (maxB L))
    (Fin.cons (i 0) (Fin.cons (⟨(i 1).val % 128, Nat.mod_lt _ (by decide)⟩ : Fin 128) finZeroElim) : Blk.Idx)

/-- The result's `n`-th block. -/
def outB (qs : F .f32) (I : Inp F) (n : Fin 128) : FVec F Tile .bf16 := weighV (numB (logitB qs I n)) (rd I.v allV)

/-- The result: every block in its place. -/
def attn (qs : F .f32) (I : Inp F) : Vec F Que .bf16 := fun i =>
  outB qs I ⟨(i 1).val / 128 * 4 + (i 2).val / 128, by
      have h1 : (i 1).val < 4096 := (i 1).isLt
      have h2 : (i 2).val < 512 := (i 2).isLt
      omega⟩
    (Fin.cons (0 : Fin 1) (Fin.cons (⟨(i 1).val % 128, Nat.mod_lt _ (by decide)⟩ : Fin 128)
      (Fin.cons (⟨(i 2).val % 128, Nat.mod_lt _ (by decide)⟩ : Fin 128) finZeroElim)) : Tile.Idx)

theorem ld_chunk {β : Type} (s : Scr.Idx → β) (b : Fin 32) : rd s (chunk b) = rd (rd s used) (lchunk b) := by
  funext j
  refine congrArg s (funext fun a => Fin.ext ?_)
  rw [Rect.idx_unit_val, Rect.idx_unit_val, Rect.idx_unit_val]
  revert a; rw [Fin.forall_fin_two]; constructor <;> simp

/-- Numerators written chunk by chunk are the numerators. -/
theorem num_of_chunks {p : Vec F Scr .bf16} {s : Vec F Scr .f32} {L : FVec F Log .f32} (hs : rd s used = L)
    (hp : ∀ b, rd p (chunk b) = numV (rd s (chunk b)) (topV (maxOver s later (rd s (chunk 0))))) : rd p used = numB L := by
  have hm : maxOver s later (rd s (chunk 0)) = maxB L := by
    have e : ∀ b, rd s (chunk b) = rd L (lchunk b) := fun b => (ld_chunk s b).trans (by rw [hs])
    unfold maxOver maxB; rw [e]; exact congrArg (fun f => List.foldl f _ _) (funext fun m => funext fun b => by rw [e])
  funext i
  have h1 : (i 1).val < 4096 := (i 1).isLt
  have hb := congrFun (hp ⟨(i 1).val / 128, by omega⟩) (Fin.cons (i 0) (Fin.cons (⟨(i 1).val % 128, Nat.mod_lt _ (by decide)⟩ : Fin 128) finZeroElim) : Blk.Idx)
  rw [hm, ld_chunk s, hs] at hb
  refine Eq.trans (congrArg p (funext fun a => Fin.ext ?_)) hb
  rw [Rect.idx_unit_val, Rect.idx_unit_val]
  revert a; rw [Fin.forall_fin_two]; constructor
  · show 0 + (i 0).val = 0 + (i 0).val; rfl
  · show 0 + (i 1).val = 128 * ((i 1).val / 128) + (i 1).val % 128; omega

/-! ## The invariant between steps -/

/-- Before step `n`: the inputs are as given, the current logits are those of pair `n`, the previous numerators those of
    pair `n - 1`, and the output's blocks before `n - 1` are final. -/
structure Inv (qs : F .f32) (I : Inp F) (n : ℕ) (σ : Sta F) : Prop where
  q : σ.q = I.q
  g : σ.g = I.g
  cos : σ.cos = I.cos
  sin : σ.sin = I.sin
  k : σ.k = I.k
  v : σ.v = I.v
  sc : ∀ m : Fin 128, m.val = n → rd σ.sc used = logitB qs I m
  pp : ∀ m : Fin 128, m.val + 1 = n → rd σ.pp used = numB (logitB qs I m)
  o : ∀ m : Fin 128, m.val + 1 < n → rd σ.o (tileR m) = outB qs I m

/-- Distinct tiles have no index in common. -/
theorem tile_disjoint {a b : Fin 128} (h : a ≠ b) (i j : Tile.Idx) : (tileR a).idx i ≠ (tileR b).idx j := fun e => by
  have e1 := congrArg Fin.val (congrFun e 1)
  have e2 := congrArg Fin.val (congrFun e 2)
  rw [Rect.idx_unit_val, Rect.idx_unit_val] at e1 e2
  have hi : (i 1).val < 128 := (i 1).isLt
  have hj : (j 1).val < 128 := (j 1).isLt
  have hi2 : (i 2).val < 128 := (i 2).isLt
  have hj2 : (j 2).val < 128 := (j 2).isLt
  simp at e1 e2
  exact h (Fin.ext (by omega))

/-- The output's blocks after the weighted values of pair `n - 1` are written. -/
theorem out_step {qs : F .f32} {I : Inp F} {n : ℕ} {o o' : Vec F Que .bf16} {pp : Vec F Scr .bf16} {oo : Fin 3 → ℕ}
    {ho : ∀ a, oo a + Tile.size a ≤ Que.size a}
    (hoo : ∀ m : Fin 128, m.val + 1 = n → oo = ![0, 128 * (m.val / 4), 128 * (m.val % 4)])
    (hpp : ∀ m : Fin 128, m.val + 1 = n → rd pp used = numB (logitB qs I m)) (hn : n ≤ 128)
    (hold : ∀ m : Fin 128, m.val + 1 < n → rd o (tileR m) = outB qs I m)
    (hw : rd o' (Rect.unit (s := Que) oo Tile.size ho) = weighV (rd pp used) (rd I.v allV))
    (hu : ∀ i, (∀ j, (Rect.unit (s := Que) oo Tile.size ho).idx j ≠ i) → o' i = o i) :
    ∀ m : Fin 128, m.val < n → rd o' (tileR m) = outB qs I m := by
  intro m hm
  obtain ⟨p, rfl⟩ : ∃ p : Fin 128, p.val + 1 = n := ⟨⟨n - 1, by omega⟩, by show n - 1 + 1 = n; omega⟩
  have := hoo p rfl
  subst this
  by_cases h : m = p
  · subst h
    exact hw.trans (by rw [hpp m rfl]; rfl)
  · rw [← hold m (by have : m.val ≠ p.val := fun e => h (Fin.ext e); omega)]
    exact funext fun j => hu _ fun i => tile_disjoint (Ne.symm h) i j

/-- The whole of a scratch. -/
abbrev whole : Rect Scr := Rect.unit (s := Scr) ![0, 0] Scr.size (by decide)

/-- Before the loop: the previous numerators' scratch is filled (with anything), the first pair's logits are computed. -/
theorem first_run {qs : F .f32} {I : Inp F} {R : Refs sig} {σ : Sta F} (hq : σ.q = I.q) (hg : σ.g = I.g) (hcos : σ.cos = I.cos)
    (hsin : σ.sin = I.sin) (hk : σ.k = I.k) (hv : σ.v = I.v) {w : Vec F Scr .bf16} {h₁ : R.Pp.view.LoadsAt whole.toLoadRect}
    {h₂ : (R.Pp.access whole).Stores Finset.univ} {p k : PG nD τ sig Λ F α} {Q : α → sProp 𝕄}
    (hp : p = ldK R.Pp whole h₁ fun _ => stK R.Pp whole w h₂ fun _ =>
      logitK qs R.Q R.G R.C R.N R.K R.Sc ![0, 0, 0] (by decide) ![0, 0] (by decide) k)
    (hc : ∀ σ' : Sta F, Inv qs I 0 σ' → st c R σ' ⊢ wpc defs c k Q) :
    st c R σ ⊢ wpc defs c p Q := by
  subst hp
  refine ld_spec (acc_pp R σ) ?_
  refine st_spec (acc_pp R σ) fun pp _ _ => ?_
  refine (st_swap R _).trans ?_
  refine logitK_spec (R := R.swap) fun sn hsn => ?_
  refine (st_swap R.swap _).trans (hc _ ⟨hq, hg, hcos, hsin, hk, hv, ?_, ?_, ?_⟩)
  · intro m hm
    obtain rfl : m = 0 := Fin.ext hm
    refine hsn.trans ?_
    cases I
    cases hq; cases hg; cases hcos; cases hsin; cases hk
    rfl
  · intro m hm; exact absurd hm (Nat.succ_ne_zero _)
  · intro m hm; exact absurd hm (Nat.not_lt_zero _)

/-- STEP `n`: from the invariant before it to the invariant before the next, the scratches' roles exchanged. -/
theorem tick_run {qs : F .f32} {I : Inp F} {n : ℕ} (hn : n < 128) {R : Refs sig} {σ : Sta F} (h : Inv qs I n σ) (hP : R.Pc.IsWhole)
    {p : PG nD τ sig Λ F α} {oq : Fin 3 → ℕ} {hq : ∀ a, oq a + Tile.size a ≤ Que.size a} {oc : Fin 2 → ℕ}
    {hc : ∀ a, oc a + Blk.size a ≤ Tab.size a} {oo : Fin 3 → ℕ} {ho : ∀ a, oo a + Tile.size a ≤ Que.size a}
    {hst : (R.O.access (Rect.unit (s := Que) oo Tile.size ho)).Stores Finset.univ} {k : PG nD τ sig Λ F α} {Q : α → sProp 𝕄}
    (hp : p = tick qs R.Q R.G R.C R.N R.K R.V R.O R.Sn R.Sc R.Pc R.Pp hP oq hq oc hc oo ho hst k)
    (hoq : ∀ m : Fin 128, m.val = n + 1 → oq = ![0, 128 * (m.val / 4), 128 * (m.val % 4)])
    (hoc : ∀ m : Fin 128, m.val = n + 1 → oc = ![128 * (m.val / 4), 0])
    (hoo : ∀ m : Fin 128, m.val + 1 = n → oo = ![0, 128 * (m.val / 4), 128 * (m.val % 4)])
    (hk : ∀ σ' : Sta F, Inv qs I (n + 1) σ' → st c R.swap σ' ⊢ wpc defs c k Q) :
    st c R σ ⊢ wpc defs c p Q := by
  subst hp
  refine logitK_spec fun sn hsn => ?_
  refine softK_spec fun pc hpc => ?_
  refine weighK_spec fun o ho' hu => ?_
  refine (st_swap R _).trans (hk _ ?_)
  obtain ⟨h1, h2, h3, h4, h5, h6, hsc, hpp, hold⟩ := h
  refine ⟨h1, h2, h3, h4, h5, h6, ?_, ?_, ?_⟩
  · intro m hm
    have e1 := hoq m hm
    have e2 := hoc m hm
    subst e1 e2
    refine hsn.trans ?_
    rw [h1, h2, h3, h4, h5]; rfl
  · intro m hm
    exact num_of_chunks (hsc m (Nat.succ_injective hm)) hpc
  · intro m hm
    exact out_step hoo hpp hn.le hold (ho'.trans (by rw [h6])) hu m (Nat.lt_of_succ_lt_succ hm)

/-- The last weighted values, after step 127: the whole result. -/
theorem last_run {qs : F .f32} {I : Inp F} {R : Refs sig} {σ : Sta F} (h : Inv qs I 128 σ)
    {oo : Fin 3 → ℕ} {ho : ∀ a, oo a + Tile.size a ≤ Que.size a}
    {hst : (R.O.access (Rect.unit (s := Que) oo Tile.size ho)).Stores Finset.univ} {p k : PG nD τ sig Λ F α} {Q : α → sProp 𝕄}
    (hp : p = weighK R.V R.Pp R.O oo ho hst k) (hoo : oo = ![0, 3968, 384])
    (hk : ∀ σ' : Sta F, σ'.q = I.q → σ'.g = I.g → σ'.cos = I.cos → σ'.sin = I.sin → σ'.k = I.k → σ'.v = I.v → σ'.o = attn qs I →
      st c R σ' ⊢ wpc defs c k Q) :
    st c R σ ⊢ wpc defs c p Q := by
  subst hp
  refine weighK_spec fun o ho' hu => ?_
  obtain ⟨h1, h2, h3, h4, h5, h6, hsc, hpp, hold⟩ := h
  refine hk _ h1 h2 h3 h4 h5 h6 ?_
  have hall := out_step (n := 128) (o := σ.o) (fun m hm => by
    obtain rfl : m = 127 := Fin.ext (by show m.val = 127; omega)
    exact hoo) hpp le_rfl hold (ho'.trans (by rw [h6])) hu
  funext i
  have h1 : (i 1).val < 4096 := (i 1).isLt
  have h2 : (i 2).val < 512 := (i 2).isLt
  have h0 : (i 0).val < 1 := (i 0).isLt
  refine Eq.trans (congrArg o (funext fun a => Fin.ext ?_)) (congrFun (hall ⟨(i 1).val / 128 * 4 + (i 2).val / 128, by omega⟩ (by show _ < 128; omega))
    (Fin.cons (0 : Fin 1) (Fin.cons (⟨(i 1).val % 128, Nat.mod_lt _ (by decide)⟩ : Fin 128)
      (Fin.cons (⟨(i 2).val % 128, Nat.mod_lt _ (by decide)⟩ : Fin 128) finZeroElim)) : Tile.Idx))
  rw [Rect.idx_unit_val]
  revert a; rw [Fin.forall_fin_succ, Fin.forall_fin_two]
  refine ⟨?_, ?_, ?_⟩
  · show (i 0).val = 0 + 0; omega
  · show (i 1).val = 128 * (((i 1).val / 128 * 4 + (i 2).val / 128) / 4) + (i 1).val % 128; omega
  · show (i 2).val = 128 * (((i 1).val / 128 * 4 + (i 2).val / 128) % 4) + (i 2).val % 128; omega

end Cert.Attn

end
-- ==== Proof.BodyIdeal.lean ====
/-
  The body of the kernel's idealization: every point runs the steps of Step.lean, 32 to a trip, so that it leaves the
  attention of its own blocks in the output block.
-/
module

public import proofs.«01_k».proof.Proof.Step
public import proofs.«01_k».proof.Proof.Gen.KernelIdeal

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Attn (PG Refs Sta Inp Inv st wpc tick)

variable {F : FTy → Type} [FloatOps F] [Named F]

local notation "𝕄" => MT nD τ sig Unit (Elt F) ℕ (UR sig nD τ) ℕ

/-- The scale of the logits. -/
abbrev qs : F .f32 := Named.named κ "q_scale" 0x3E0293EE#32

/-- The body's memrefs with the fact that each is a whole buffer. -/
structure Mem where
  arg2 : Memref sig .tc .vmem S1x4096x512 .f32
  harg2 : arg2.IsWhole
  arg3 : Memref sig .tc .vmem S1x128 .f32
  harg3 : arg3.IsWhole
  arg4 : Memref sig .tc .vmem S4096x128 .f32
  harg4 : arg4.IsWhole
  arg5 : Memref sig .tc .vmem S4096x128 .f32
  harg5 : arg5.IsWhole
  arg6 : Memref sig .tc .vmem S1x1x4096x128 .bf16
  harg6 : arg6.IsWhole
  arg7 : Memref sig .tc .vmem S1x1x4096x256 .bf16
  harg7 : arg7.IsWhole
  arg8 : Memref sig .tc .vmem S1x4096x512 .bf16
  harg8 : arg8.IsWhole
  arg9 : Memref sig .tc .vmem S128x4224 .f32
  harg9 : arg9.IsWhole
  arg10 : Memref sig .tc .vmem S128x4224 .f32
  harg10 : arg10.IsWhole
  arg11 : Memref sig .tc .vmem S128x4224 .bf16
  harg11 : arg11.IsWhole
  arg12 : Memref sig .tc .vmem S128x4224 .bf16
  harg12 : arg12.IsWhole

/-- Their roles at an even step. -/
def refs (A : Mem) : Refs sig :=
  ⟨A.arg2, A.arg3, A.arg4, A.arg5, A.arg6, A.arg7, A.arg8, A.arg10, A.arg9, A.arg11, A.arg12⟩

/-- The body as printed, at those memrefs. -/
abbrev prog (i : grid0.Coords) (A : Mem) : PG nD τ sig Λ₀ F PUnit :=
  cc0_attention i A.arg2 A.harg2 A.arg3 A.harg3 A.arg4 A.harg4 A.arg5 A.harg5 A.arg6 A.harg6 A.arg7 A.harg7 A.arg8 A.harg8
    A.arg9 A.harg9 A.arg10 A.harg10 A.arg11 A.harg11 A.arg12 A.harg12

/-! ## Where the steps read and write -/

theorem off3_eq : ∀ (t : Fin k0_t1_loop.trips) (r : Fin 8), 0 < 8 * t.val + r.val →
    k0_off3 t (BitVec.ofNat 32 r.val) = ![0, 128 * (8 * t.val + r.val - 1), 384] := by decide +kernel

theorem trips_eq : k0_t1_loop.trips = 4 := by decide +kernel

/-- Equal coordinates, equal offsets. -/
theorem off_congr {a b c d : ℕ} (h : a = b) (h' : c = d) : (![0, a, c] : Fin 3 → ℕ) = ![0, b, d] := by rw [h, h']
theorem off_congr' {a b : ℕ} (h : a = b) : (![a, 0] : Fin 2 → ℕ) = ![b, 0] := by rw [h]

variable (A : Mem) (t : Fin k0_t1_loop.trips) (r : Fin 8)

/-- The output's accesses are stores of whole words. -/
theorem stores {off : Fin 3 → ℕ} {hb : ∀ a, off a + S1x128x128.size a ≤ S1x4096x512.size a}
    (h : (Rect.unit (s := S1x4096x512) off S1x128x128.size hb).PackedRows (EltTy.packing .bf16)) :
    (A.arg8.access (Rect.unit (s := S1x4096x512) off S1x128x128.size hb)).Stores Finset.univ :=
  View.stores_vmem Facts₀.h_S1x128x128 (A.harg8.storeExact_slice rfl _ h) (fun _ => rfl)

/-- The four steps of one query tile, one per head. -/
def tile (k : PG nD τ sig Λ₀ F PUnit) : PG nD τ sig Λ₀ F PUnit :=
  tick qs A.arg2 A.arg3 A.arg4 A.arg5 A.arg6 A.arg7 A.arg8 A.arg10 A.arg9 A.arg11 A.arg12 A.harg11
    (k0_off1 t (BitVec.ofNat 32 r.val)) (Facts₀.k0_off1_inb t r) (k0_off2 t (BitVec.ofNat 32 r.val)) (Facts₀.k0_off2_inb t r)
    (k0_off3 t (BitVec.ofNat 32 r.val)) (Facts₀.k0_off3_inb t r) (stores A (Facts₀.k0_off3_packedbf16 t r)) <|
  tick qs A.arg2 A.arg3 A.arg4 A.arg5 A.arg6 A.arg7 A.arg8 A.arg9 A.arg10 A.arg12 A.arg11 A.harg12
    (k0_off4 t (BitVec.ofNat 32 r.val)) (Facts₀.k0_off4_inb t r) (k0_off2 t (BitVec.ofNat 32 r.val)) (Facts₀.k0_off2_inb t r)
    (k0_off5 t (BitVec.ofNat 32 r.val)) (Facts₀.k0_off5_inb t r) (stores A (Facts₀.k0_off5_packedbf16 t r)) <|
  tick qs A.arg2 A.arg3 A.arg4 A.arg5 A.arg6 A.arg7 A.arg8 A.arg10 A.arg9 A.arg11 A.arg12 A.harg11
    (k0_off6 t (BitVec.ofNat 32 r.val)) (Facts₀.k0_off6_inb t r) (k0_off2 t (BitVec.ofNat 32 r.val)) (Facts₀.k0_off2_inb t r)
    (k0_off1 t (BitVec.ofNat 32 r.val)) (Facts₀.k0_off1_inb t r) (stores A (Facts₀.k0_off1_packedbf16 t r)) <|
  tick qs A.arg2 A.arg3 A.arg4 A.arg5 A.arg6 A.arg7 A.arg8 A.arg9 A.arg10 A.arg12 A.arg11 A.harg12
    (k0_off7 t (BitVec.ofNat 32 r.val)) (Facts₀.k0_off7_inb t r) (k0_off8 t (BitVec.ofNat 32 r.val)) (Facts₀.k0_off8_inb t r)
    (k0_off4 t (BitVec.ofNat 32 r.val)) (Facts₀.k0_off4_inb t r) (stores A (Facts₀.k0_off4_packedbf16 t r)) k

variable {A t r} {defs : Defs nD τ sig (Elt F) Λ₀} {c : Dev nD} {I : Inp F}

/-- Four steps take the invariant four on. -/
theorem tile_run {n : ℕ} (hn : n = 32 * t.val + 4 * r.val) {σ : Sta F} (h : Inv qs I n σ) {p k : PG nD τ sig Λ₀ F PUnit}
    {Q : PUnit → sProp 𝕄} (hp : p = tile A t r k)
    (hk : ∀ σ', Inv qs I (n + 4) σ' → st c (refs A) σ' ⊢ wpc defs c k Q) : st c (refs A) σ ⊢ wpc defs c p Q := by
  subst hp
  have ht : t.val < 4 := trips_eq ▸ t.isLt
  have hr := r.isLt
  refine Attn.tick_run (by omega) h A.harg11 rfl ?_ ?_ ?_ fun σ h => ?_
  · exact fun m hm => (Gen.k0_off1_eq t r).trans (off_congr (by omega) (by omega))
  · exact fun m hm => (Gen.k0_off2_eq t r).trans (off_congr' (by omega))
  · exact fun m hm => (off3_eq t r (by omega)).trans (off_congr (by omega) (by omega))
  refine Attn.tick_run (R := (refs A).swap) (by omega) h A.harg12 rfl ?_ ?_ ?_ fun σ h => ?_
  · exact fun m hm => (Gen.k0_off4_eq t r).trans (off_congr (by omega) (by omega))
  · exact fun m hm => (Gen.k0_off2_eq t r).trans (off_congr' (by omega))
  · exact fun m hm => (Gen.k0_off5_eq t r).trans (off_congr (by omega) (by omega))
  refine Attn.tick_run (R := refs A) (by omega) h A.harg11 rfl ?_ ?_ ?_ fun σ h => ?_
  · exact fun m hm => (Gen.k0_off6_eq t r).trans (off_congr (by omega) (by omega))
  · exact fun m hm => (Gen.k0_off2_eq t r).trans (off_congr' (by omega))
  · exact fun m hm => (Gen.k0_off1_eq t r).trans (off_congr (by omega) (by omega))
  refine Attn.tick_run (R := (refs A).swap) (by omega) h A.harg12 rfl ?_ ?_ ?_ fun σ h => ?_
  · exact fun m hm => (Gen.k0_off7_eq t r).trans (off_congr (by have := m.isLt; omega) (by omega))
  · exact fun m hm => (Gen.k0_off8_eq t r).trans (off_congr' (by have := m.isLt; omega))
  · exact fun m hm => (Gen.k0_off4_eq t r).trans (off_congr (by omega) (by omega))
  exact hk σ h

/-- What the body leaves: the inputs as they were, the attention of them in the output block. -/
def Done (I : Inp F) (σ : Sta F) : Prop :=
  σ.q = I.q ∧ σ.g = I.g ∧ σ.cos = I.cos ∧ σ.sin = I.sin ∧ σ.k = I.k ∧ σ.v = I.v ∧ σ.o = Attn.attn qs I

set_option maxRecDepth 100000 in
set_option maxHeartbeats 4000000 in
/-- One trip of the loop takes the invariant 32 steps on. -/
theorem trip_run (i : grid0.Coords) (c₀ c₁ : BitVec 32) {σ : Sta F} (h : Inv qs I (32 * t.val) σ) {p : PG nD τ sig Λ₀ F PUnit}
    (hp : p = (do
      let v : FVec F S1x128x128 .bf16 ← k0_part325 i A.arg2 A.harg2 A.arg3 A.harg3 A.arg4 A.harg4 A.arg5 A.harg5 A.arg6 A.harg6 A.arg7 A.harg7
        A.arg8 A.harg8 A.arg9 A.harg9 A.arg10 A.harg10 A.arg11 A.harg11 A.arg12 A.harg12 c₀ c₁ t
      Prog.lift (.store A.arg8 (Rect.unit (s := S1x4096x512) (k0_off4 t 7#32) S1x128x128.size (Facts₀.k0_off4_inb t 7)) v
        Finset.univ (stores A (Facts₀.k0_off4_packedbf16 t 7)) (.inl rfl))
      pure ⟨⟩)) :
    st c (refs A) σ ⊢ wpc defs c p (fun _ => iprop(∃ σ', ⌜Inv qs I (32 * (t.val + 1)) σ'⌝ ∗ st c (refs A) σ')) := by
  subst hp
  refine tile_run (r := 0) rfl h rfl fun σ h => ?_
  refine tile_run (r := 1) rfl h rfl fun σ h => ?_
  refine tile_run (r := 2) rfl h rfl fun σ h => ?_
  refine tile_run (r := 3) rfl h rfl fun σ h => ?_
  refine tile_run (r := 4) rfl h rfl fun σ h => ?_
  refine tile_run (r := 5) rfl h rfl fun σ h => ?_
  refine tile_run (r := 6) rfl h rfl fun σ h => ?_
  refine tile_run (r := 7) rfl h (k := pure ⟨⟩) rfl fun σ h => ?_
  unfold wpc; rw [wp_pure]
  iintro H; imodintro
  iexists σ
  isplitr; · ipureintro; exact h
  iexact H

/-- The loop and what follows it: the invariant holds before step 128. -/
theorem loop_run (i : grid0.Coords) {σ : Sta F} (h : Inv qs I 0 σ) {kk : PUnit → PG nD τ sig Λ₀ F PUnit} {Q : PUnit → sProp 𝕄}
    {body : Fin k0_t1_loop.trips → PUnit → PG nD τ sig Λ₀ F PUnit}
    (hbody : ∀ t acc (σ : Sta F), Inv qs I (32 * t.val) σ → st c (refs A) σ ⊢
      wpc defs c (body t acc) (fun _ => iprop(∃ σ', ⌜Inv qs I (32 * (t.val + 1)) σ'⌝ ∗ st c (refs A) σ')))
    (hk : ∀ σ', Inv qs I 128 σ' → st c (refs A) σ' ⊢ wpc defs c (kk ⟨⟩) Q) :
    st c (refs A) σ ⊢ wpc defs c (Scf.Loop.for k0_t1_loop Gen.k0_t1_ok ⟨⟩ body >>= kk) Q := by
  iintro H
  iapply (Scf.wp_for_bind (σ := PUnit) frame (wpE defs Variants.none (c : Thread nD τ) none) Set.univ _ _ _ Gen.k0_t1_ok ⟨⟩ body
    (fun n _ => iprop(∃ σ', ⌜Inv qs I (32 * n) σ'⌝ ∗ st c (refs A) σ')) (fun t acc => by
      iintro ⟨%σ, %h, H⟩
      iapply (hbody t acc σ h)
      iexact H)) $$ [H]
  · iexists σ
    isplitr; · ipureintro; exact h
    iexact H
  · iintro %_ ⟨%σ', %h', H⟩
    iapply (hk σ' ((congrArg (fun n => Inv qs I (32 * n) σ') trips_eq).mp h'))
    iexact H

set_option maxRecDepth 100000 in
set_option maxHeartbeats 4000000 in
/-- THE BODY: whatever the output block and the scratches hold, it leaves the attention of the input blocks. -/
theorem body_run (A : Mem) (i : grid0.Coords) {σ : Sta F} (hq : σ.q = I.q) (hg : σ.g = I.g) (hcos : σ.cos = I.cos)
    (hsin : σ.sin = I.sin) (hk : σ.k = I.k) (hv : σ.v = I.v) :
    st c (refs A) σ ⊢ wpc defs c (prog i A) (fun _ => iprop(∃ σ', ⌜Done I σ'⌝ ∗ st c (refs A) σ')) := by
  refine Attn.first_run (qs := qs) hq hg hcos hsin hk hv rfl fun σ h => ?_
  refine loop_run i h (fun t _ σ h => trip_run i 0#32 1#32 h rfl) fun σ h => ?_
  refine Attn.last_run (qs := qs) (k := pure ⟨⟩) h rfl rfl fun σ' h1 h2 h3 h4 h5 h6 h7 => ?_
  unfold wpc; rw [wp_pure]
  iintro H; imodintro
  iexists σ'
  isplitr; · ipureintro; exact ⟨h1, h2, h3, h4, h5, h6, h7⟩
  iexact H

end Cert.KernelIdeal.Body

end
-- ==== Proof.RunIdeal.lean ====
/-
  The run of the kernel's idealization: the pipeline's proof data, the body obligation from the body's own theorem
  (BodyIdeal.lean), the launch, and what the result array holds at the end.
-/
module

public import proofs.«01_k».proof.Proof.BodyIdeal
public import proofs.«01_k».proof.Proof.Gen.KernelIdeal.Frame
public import Idealize.ShloMosaic.Lib.Claim

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn (Sta Inp st wpc own)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The input blocks of point `t`. -/
def inp (c : Dev nD) (t : Fin cfg0.N) : Inp F where
  q := iblk m c 0 t
  g := iblk m c 1 t
  cos := iblk m c 2 t
  sin := iblk m c 3 t
  k := iblk m c 4 t
  v := iblk m c 5 t

/-- The arrays as the region finds them; after a point's body each input's buffer at its block, the output's at the
    attention of the blocks; the invariant the scratches at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Attn.attn qs (inp m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = Attn.attn qs (inp m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- The memrefs of point `t`. -/
def mem (t : Fin cfg0.N) : Mem where
  arg2 := st0_0 t
  harg2 := hstage0_0 ((cfg0.slots t 0).cast nbuf0_0)
  arg3 := st0_1 t
  harg3 := hstage0_1 ((cfg0.slots t 1).cast nbuf0_1)
  arg4 := st0_2 t
  harg4 := hstage0_2 ((cfg0.slots t 2).cast nbuf0_2)
  arg5 := st0_3 t
  harg5 := hstage0_3 ((cfg0.slots t 3).cast nbuf0_3)
  arg6 := st0_4 t
  harg6 := hstage0_4 ((cfg0.slots t 4).cast nbuf0_4)
  arg7 := st0_5 t
  harg7 := hstage0_5 ((cfg0.slots t 5).cast nbuf0_5)
  arg8 := st0_6 t
  harg8 := hstage0_6 ((cfg0.slots t 6).cast nbuf0_6)
  arg9 := Memref.whole cc0_scratch0
  harg9 := Memref.isWhole_whole _
  arg10 := Memref.whole cc0_scratch1
  harg10 := Memref.isWhole_whole _
  arg11 := Memref.whole cc0_scratch2
  harg11 := Memref.isWhole_whole _
  arg12 := Memref.whole cc0_scratch3
  harg12 := Memref.isWhole_whole _

/-- All the scratches at anything. -/
abbrev scr (A : Mem) (c : Dev nD) : sProp 𝕄 :=
  iprop((∃ x, own c A.arg9 x) ∗ (∃ x, own c A.arg10 x) ∗ (∃ x, own c A.arg11 x) ∗ (∃ x, own c A.arg12 x))

/-- The scoped buffers that are no staging buffer are the scratches. -/
theorem rest_eq (c : Dev nD) (t : Fin cfg0.N) :
    (Pipeline.scopedRest (Ix := Unit) (Name := ℕ) (U := UR sig nD τ) (Lvl := ℕ) (Val := Elt F) spec0 c : sProp 𝕄) = scr (mem t) c := by
  rw [scopedRest0_eq, ← (Memref.isWhole_whole cc0_scratch0).exists_owns_eq (c := (c : Thread nD τ)) fullShare,
    ← (Memref.isWhole_whole cc0_scratch1).exists_owns_eq (c := (c : Thread nD τ)) fullShare,
    ← (Memref.isWhole_whole cc0_scratch2).exists_owns_eq (c := (c : Thread nD τ)) fullShare,
    ← (Memref.isWhole_whole cc0_scratch3).exists_owns_eq (c := (c : Thread nD τ)) fullShare]
  rfl

/-- The body with the scratches at anything before and after. -/
theorem body_wp (A : Mem) (i : grid0.Coords) (c : Dev nD) (I : Inp F) (o : Vec F S1x4096x512 .bf16) (Q : PUnit → sProp 𝕄) :
    iprop(own c A.arg2 I.q ∗ own c A.arg3 I.g ∗ own c A.arg4 I.cos ∗ own c A.arg5 I.sin ∗ own c A.arg6 I.k ∗ own c A.arg7 I.v
        ∗ own c A.arg8 o ∗ scr A c
        ∗ (iprop(own c A.arg2 I.q ∗ own c A.arg3 I.g ∗ own c A.arg4 I.cos ∗ own c A.arg5 I.sin ∗ own c A.arg6 I.k ∗ own c A.arg7 I.v
            ∗ own c A.arg8 (Attn.attn qs I) ∗ scr A c) -∗ Q ⟨⟩))
      ⊢ wpc (defs₀ (F := F)) c (prog i A) Q := by
  iintro ⟨H0, H1, H2, H3, H4, H5, H6, ⟨⟨%s0, S0⟩, ⟨%s1, S1⟩, ⟨%s2, S2⟩, ⟨%s3, S3⟩⟩, HQ⟩
  unfold wpc
  iapply (wp_wand_r (M := 𝕄) _ _ _)
  isplitl [H0 H1 H2 H3 H4 H5 H6 S0 S1 S2 S3]
  · iapply (body_run (defs := defs₀ (F := F)) (c := c) (I := I) A i
      (σ := ⟨I.q, I.g, I.cos, I.sin, I.k, I.v, o, s1, s0, s2, s3⟩) rfl rfl rfl rfl rfl rfl)
    unfold st refs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S1]; · iexact S1
    isplitl [S0]; · iexact S0
    isplitl [S2]; · iexact S2
    iexact S3
  · iintro %_ ⟨%σ, %hσ, H⟩
    obtain ⟨h1, h2, h3, h4, h5, h6, h7⟩ := hσ
    unfold st refs
    rw [h1, h2, h3, h4, h5, h6, h7]
    icases H with ⟨H0, H1, H2, H3, H4, H5, H6, S1, S0, S2, S3⟩
    iapply HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexists _; iexact S0
    isplitl [S1]; · iexists _; iexact S1
    isplitl [S2]; · iexists _; iexact S2
    iexists _; iexact S3

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1000000 in
/-- The body at any point: the inputs' buffers hold their blocks, so the body's theorem applies; what the core owes
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [rest_eq c t]
  iintro ⟨⟨HS, HP⟩, Ho, ⟨%d0, H0⟩, ⟨%d1, H1⟩, ⟨%d2, H2⟩, ⟨%d3, H3⟩, ⟨%d4, H4⟩, ⟨%d5, H5⟩, ⟨%d6, H6⟩⟩
  generalize (dats m 0 c).before 6 t d6 = o
  iapply (body_wp (mem t) (grid0.coords t) c (inp m c t) o _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's slots is the printed body at its buffers. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data say, every other unscoped buffer as the region
    found it, and every semaphore counter is zero. -/
theorem run_main_quiescent :
    θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every run ends, the argument arrays as launched and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.IdealMath.lean ====
/-
  The mathematics of one row of the attention over the extended reals.

  `kerRow` is the output of one query row as the kernel computes it: scaled queries in the projection's lane order, powers
  of two, one division at the end. `refRow` is the reference's: natural lane order, a division by the square root of 128,
  exponentials, each probability divided by their sum. `ker_eq_ref` says that they agree when gain, keys and rotary
  factors are finite; the queries and the values may be infinite.
-/
module

public import Idealize.ShloMosaic.PureOps.Ideal.Laws
public import Mathlib.Analysis.SpecialFunctions.Pow.Real

@[expose] public section

noncomputable section

namespace Cert.Attn

open Idealize.ShloMosaic

/-- Finite: neither infinity. -/
def Fin' (x : EReal) : Prop := ∃ r : ℝ, x = r

theorem fin_iff (x : EReal) : Fin' x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem Fin'.mul {x y : EReal} : Fin' x → Fin' y → Fin' (x * y) := by
  rintro ⟨a, rfl⟩ ⟨b, rfl⟩; exact ⟨a * b, rfl⟩
theorem Fin'.add {x y : EReal} : Fin' x → Fin' y → Fin' (x + y) := by
  rintro ⟨a, rfl⟩ ⟨b, rfl⟩; exact ⟨a + b, rfl⟩
theorem Fin'.neg {x : EReal} : Fin' x → Fin' (-x) := by
  rintro ⟨a, rfl⟩; exact ⟨-a, rfl⟩
theorem Fin'.sub {x y : EReal} : Fin' x → Fin' y → Fin' (x - y) := by
  rintro ⟨a, rfl⟩ ⟨b, rfl⟩; exact ⟨a - b, rfl⟩
theorem Fin'.sum {ι : Type} (s : Finset ι) {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## Laws of multiplication by a finite nonnegative number -/

theorem coe_mul_sum {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.2 hc) (EReal.coe_ne_top c), ih]

theorem coe_mul_sub {c : ℝ} (hc : 0 ≤ c) (x y : EReal) : (c : EReal) * (x - y) = c * x - c * y := by
  rw [sub_eq_add_neg, EReal.left_distrib_of_nonneg_of_ne_top (EReal.coe_nonneg.2 hc) (EReal.coe_ne_top c), sub_eq_add_neg,
    mul_neg]

theorem coe_mul_le {c : ℝ} (hc : 0 ≤ c) {x y : EReal} (h : x ≤ y) : (c : EReal) * x ≤ c * y :=
  mul_le_mul_of_nonneg_left h (EReal.coe_nonneg.2 hc)

/-! ## Exponentials -/

/-- A power of two at a number divided by log 2 is the exponential. -/
theorem exp2_eq_exp (x : ℝ) : Ideal.exp2 (((Real.log 2)⁻¹ : ℝ) * (x : EReal)) = Ideal.exp x := by
  rw [← EReal.coe_mul, Ideal.exp2_coe, Ideal.exp_coe]
  congr 1
  show (2 : ℝ) ^ ((Real.log 2)⁻¹ * x) = Real.exp x
  rw [Real.rpow_def_of_pos two_pos]
  have : Real.log 2 ≠ 0 := (Real.log_pos one_lt_two).ne'
  congr 1
  field_simp

/-! ## A row's maximum -/

/-- The maximum of a row. -/
def top {n : ℕ} (f : Fin n → EReal) : EReal := Finset.univ.fold max ⊥ f

theorem top_le {n : ℕ} (f : Fin n → EReal) (b : EReal) : top f ≤ b ↔ ∀ j, f j ≤ b := by
  unfold top
  rw [Finset.fold_max_le]
  simp

theorem le_top {n : ℕ} (f : Fin n → EReal) (j : Fin n) : f j ≤ top f := (top_le f _).1 le_rfl j

/-- Whatever is bounded as the maximum is, is the maximum. -/
theorem eq_top_of_le {n : ℕ} {f : Fin n → EReal} {x : EReal} (h : ∀ b, x ≤ b ↔ ∀ j, f j ≤ b) : x = top f :=
  le_antisymm ((h _).2 (le_top f)) ((top_le f _).2 ((h _).1 le_rfl))

theorem top_attained {n : ℕ} [NeZero n] (f : Fin n → EReal) : ∃ j, top f = f j := by
  obtain ⟨j, -, hj⟩ := Finset.exists_max_image Finset.univ f ⟨0, Finset.mem_univ _⟩
  exact ⟨j, le_antisymm ((top_le f _).2 fun i => hj i (Finset.mem_univ i)) (le_top f j)⟩

/-- The maximum of a row times a nonnegative number. -/
theorem top_mul {n : ℕ} [NeZero n] (f : Fin n → EReal) {c : ℝ} (hc : 0 ≤ c) : top (fun j => (c : EReal) * f j) = c * top f := by
  obtain ⟨j, hj⟩ := top_attained f
  refine (eq_top_of_le fun b => ⟨fun h i => (coe_mul_le hc (le_top f i)).trans h, fun h => ?_⟩).symm
  rw [hj]; exact h j

/-! ## The softmax -/

/-- The softmax of a row of finite logits and its weighted values: dividing at the end is dividing each probability,
    and powers of two of logits divided by log 2 are exponentials. -/
theorem softmax_row {n : ℕ} [NeZero n] (L : Fin n → EReal) (hL : ∀ j, Fin' (L j)) (v : Fin n → EReal) :
    Ideal.div (∑ j, Ideal.exp2 (((Real.log 2)⁻¹ : ℝ) * L j - top fun j => (((Real.log 2)⁻¹ : ℝ) : EReal) * L j) * v j)
        (∑ j, Ideal.exp2 (((Real.log 2)⁻¹ : ℝ) * L j - top fun j => (((Real.log 2)⁻¹ : ℝ) : EReal) * L j) * 1)
      = ∑ j, v j * Ideal.div (Ideal.exp (L j - top L)) (0 + ∑ i, Ideal.exp (L i - top L)) := by
  have hl : 0 ≤ (Real.log 2)⁻¹ := inv_nonneg.2 (Real.log_nonneg one_le_two)
  obtain ⟨i, hi⟩ := top_attained L
  obtain ⟨M, hM⟩ : Fin' (top L) := hi ▸ hL i
  choose l hl' using hL
  have he : ∀ j, Ideal.exp2 (((Real.log 2)⁻¹ : ℝ) * L j - top fun j => (((Real.log 2)⁻¹ : ℝ) : EReal) * L j)
      = ((Real.exp (l j - M) : ℝ) : EReal) := fun j => by
    rw [top_mul L hl, ← coe_mul_sub hl, hl' j, hM, ← EReal.coe_sub, exp2_eq_exp, Ideal.exp_coe]
  have he' : ∀ j, Ideal.exp (L j - top L) = ((Real.exp (l j - M) : ℝ) : EReal) := fun j => by
    rw [hl' j, hM, ← EReal.coe_sub, Ideal.exp_coe]
  simp only [he, he', mul_one, zero_add]
  have hD : ∑ j, ((Real.exp (l j - M) : ℝ) : EReal) = ((∑ j, Real.exp (l j - M) : ℝ) : EReal) := by
    exact (map_sum (⟨⟨fun r : ℝ => (r : EReal), EReal.coe_zero⟩, EReal.coe_add⟩ : ℝ →+ EReal) _ _).symm
  rw [hD]
  have hpos : 0 < ∑ j, Real.exp (l j - M) := Finset.sum_pos (fun j _ => Real.exp_pos _) ⟨0, Finset.mem_univ _⟩
  generalize ∑ j, Real.exp (l j - M) = D at hpos
  have hne : (D : EReal) ≠ 0 := by exact_mod_cast hpos.ne'
  simp only [Ideal.div, if_neg hne, ← EReal.coe_inv]
  rw [mul_comm, coe_mul_sum _ _ (inv_nonneg.2 hpos.le)]
  refine Finset.sum_congr rfl fun j _ => ?_
  rw [mul_comm (v j), mul_comm _ (((D⁻¹ : ℝ) : EReal)), mul_assoc]

/-! ## The root mean square -/

/-- The word of 128. -/
theorem word_128 : Ideal.ofBits .f32 0x43000000#32 = ((128 : ℝ) : EReal) := by
  simp [Ideal.ofBits, Ideal.ieee]
  rw [← EReal.coe_mul]
  norm_num

/-- The word of the epsilon is a positive number. -/
theorem word_eps : ∃ e : ℝ, 0 < e ∧ Ideal.ofBits .f32 0x358637BD#32 = (e : EReal) := by
  refine ⟨8796093 * (1 / 8796093022208), by norm_num, ?_⟩
  simp [Ideal.ofBits, Ideal.ieee]
  norm_num

/-- The word of 1. -/
theorem word_one : Ideal.ofBits .f32 0x3F800000#32 = 1 := by
  simp [Ideal.ofBits, Ideal.ieee]
  rw [← EReal.coe_mul]
  norm_num

/-- The reciprocal root mean square of a row. -/
def rms (x : Fin 128 → EReal) : EReal :=
  Ideal.rsqrt (Ideal.div (∑ p, x p * x p) (Ideal.ofBits .f32 0x43000000#32) + Ideal.ofBits .f32 0x358637BD#32)

/-- A normalised entry is finite, whatever the row: a row with an infinite entry is normalised to zeros. -/
theorem fin_mul_rms (x : Fin 128 → EReal) (p : Fin 128) : Fin' (x p * rms x) := by
  obtain ⟨e, he, hw⟩ := word_eps
  have h128 : ((128 : ℝ) : EReal) ≠ 0 := by exact_mod_cast (by norm_num : (128 : ℝ) ≠ 0)
  unfold rms
  rw [word_128, hw]
  simp only [Ideal.div, if_neg h128, ← EReal.coe_inv]
  by_cases h : ∀ q, Fin' (x q)
  · choose r hr using h
    have hs : ∑ q, x q * x q = ((∑ q, r q * r q : ℝ) : EReal) := by
      simp only [hr, ← EReal.coe_mul]
      exact (map_sum (⟨⟨fun r : ℝ => (r : EReal), EReal.coe_zero⟩, EReal.coe_add⟩ : ℝ →+ EReal) _ _).symm
    have hp : 0 < (∑ q, r q * r q) * (128 : ℝ)⁻¹ + e :=
      add_pos_of_nonneg_of_pos (mul_nonneg (Finset.sum_nonneg fun q _ => mul_self_nonneg _) (by norm_num)) he
    rw [hs, ← EReal.coe_mul, ← EReal.coe_add, Ideal.rsqrt_coe, if_neg (not_lt.2 hp.le), if_neg hp.ne', hr p]
    exact ⟨_, (EReal.coe_mul _ _).symm⟩
  · obtain ⟨q, hq⟩ := not_forall.1 h
    have hi : x q = ⊤ ∨ x q = ⊥ := by
      by_contra hc
      exact hq ((fin_iff _).2 (not_or.1 hc))
    have hsq : x q * x q = ⊤ := by rcases hi with hi | hi <;> rw [hi] <;> rfl
    have hnn : ∀ i : Fin 128, 0 ≤ x i * x i := fun i => by
      induction x i with
      | bot => exact _root_.le_top
      | top => exact _root_.le_top
      | coe r => rw [← EReal.coe_mul]; exact EReal.coe_nonneg.2 (mul_self_nonneg r)
    have hs : ∑ i, x i * x i = ⊤ :=
      top_le_iff.1 (hsq ▸ Finset.single_le_sum (f := fun i => x i * x i) (fun i _ => hnn i) (Finset.mem_univ q))
    rw [hs, EReal.top_mul_coe_of_pos (by norm_num), EReal.top_add_coe, Ideal.rsqrt_top, mul_zero]
    exact ⟨0, rfl⟩

/-! ## The two orders of a head's lanes -/

/-- The lane of the projection's order that holds a lane of the natural order, and back: the two top bits swapped. -/
def sw (n : Fin 128) : Fin 128 := ⟨n.val / 32 % 2 * 64 + n.val / 64 * 32 + n.val % 32, by omega⟩

theorem sw_sw (n : Fin 128) : sw (sw n) = n := by revert n; decide

/-- The two orders as a bijection. -/
def swE : Fin 128 ≃ Fin 128 := ⟨sw, sw, sw_sw, sw_sw⟩

theorem sum_sw (f : Fin 128 → EReal) : ∑ n, f (sw n) = ∑ p, f p := Equiv.sum_comp swE f

/-- The other rotary half's lane. -/
def rot (p : Fin 128) : Fin 128 := ⟨(p.val + 64) % 128, by omega⟩

/-- A lane's rotary angle. -/
def ang (p : Fin 128) : Fin 64 := ⟨p.val % 64, by omega⟩

/-! ## The row -/

/-- The normalised queries with their gains, in the projection's order; the gains in the natural order. -/
def normQ (x g : Fin 128 → EReal) (p : Fin 128) : EReal := x p * rms x * g (sw p)

/-- Two halves rotated by angles with cosines `C` and sines `S`. -/
def rotQ (Y : Fin 128 → EReal) (C S : Fin 64 → EReal) (p : Fin 128) : EReal :=
  if p.val < 64 then Y p * C (ang p) - Y (rot p) * S (ang p) else Y p * C (ang p) + Y (rot p) * S (ang p)

/-- The signed sines of the kernel's table. -/
def sgn (S : Fin 64 → EReal) (p : Fin 128) : EReal := if p.val < 64 then -S (ang p) else S (ang p)

/-- The kernel's scale. -/
def scale : EReal := (((Real.sqrt 128)⁻¹ * (Real.log 2)⁻¹ : ℝ) : EReal)

/-- The kernel's query. -/
def kerQ (x g : Fin 128 → EReal) (C S : Fin 64 → EReal) (p : Fin 128) : EReal :=
  x p * rms x * (g (sw p) * scale) * C (ang p) + x (rot p) * rms x * (g (sw (rot p)) * scale) * sgn S p

/-- The kernel's logits. -/
def kerL (x g : Fin 128 → EReal) (C S : Fin 64 → EReal) (k : Fin 4096 → Fin 128 → EReal) (j : Fin 4096) : EReal :=
  ∑ p, kerQ x g C S p * k j p

/-- The kernel's output. -/
def kerRow (x g : Fin 128 → EReal) (C S : Fin 64 → EReal) (k : Fin 4096 → Fin 128 → EReal) (v : Fin 4096 → EReal) : EReal :=
  Ideal.div (∑ j, Ideal.exp2 (kerL x g C S k j - top (kerL x g C S k)) * v j)
    (∑ j, Ideal.exp2 (kerL x g C S k j - top (kerL x g C S k)) * 1)

/-- The reference's logits. -/
def refL (x g : Fin 128 → EReal) (C S : Fin 64 → EReal) (k : Fin 4096 → Fin 128 → EReal) (j : Fin 4096) : EReal :=
  ∑ n, k j (sw n) * Ideal.div (rotQ (normQ x g) C S (sw n)) (Ideal.sqrt (Ideal.ofBits .f32 0x43000000#32))

/-- The reference's output. -/
def refRow (x g : Fin 128 → EReal) (C S : Fin 64 → EReal) (k : Fin 4096 → Fin 128 → EReal) (v : Fin 4096 → EReal) : EReal :=
  ∑ j, v j * Ideal.div (Ideal.exp (refL x g C S k j - top (refL x g C S k)))
    (0 + ∑ i, Ideal.exp (refL x g C S k i - top (refL x g C S k)))

theorem kerQ_eq (x g : Fin 128 → EReal) (C S : Fin 64 → EReal) (p : Fin 128) :
    kerQ x g C S p = scale * rotQ (normQ x g) C S p := by
  have hc : 0 ≤ (Real.sqrt 128)⁻¹ * (Real.log 2)⁻¹ :=
    mul_nonneg (inv_nonneg.2 (Real.sqrt_nonneg _)) (inv_nonneg.2 (Real.log_nonneg one_le_two))
  have e1 : x p * rms x * (g (sw p) * scale) * C (ang p) = scale * (normQ x g p * C (ang p)) := by
    unfold normQ; ac_rfl
  have e2 : ∀ s, x (rot p) * rms x * (g (sw (rot p)) * scale) * s = scale * (normQ x g (rot p) * s) := fun s => by
    unfold normQ; ac_rfl
  unfold kerQ rotQ sgn
  rw [e1, e2]
  split
  · rw [mul_neg, mul_neg, ← sub_eq_add_neg]; exact (coe_mul_sub hc _ _).symm
  · exact (EReal.left_distrib_of_nonneg_of_ne_top (EReal.coe_nonneg.2 hc) (EReal.coe_ne_top _) _ _).symm

theorem fin_rotQ {Y : Fin 128 → EReal} {C S : Fin 64 → EReal} (hY : ∀ p, Fin' (Y p)) (hC : ∀ a, Fin' (C a)) (hS : ∀ a, Fin' (S a))
    (p : Fin 128) : Fin' (rotQ Y C S p) := by
  unfold rotQ
  split
  · exact ((hY p).mul (hC _)).sub ((hY _).mul (hS _))
  · exact ((hY p).mul (hC _)).add ((hY _).mul (hS _))

/-- The square root of 128 is a positive number. -/
theorem sqrt_128 : Ideal.sqrt (Ideal.ofBits .f32 0x43000000#32) = ((Real.sqrt 128 : ℝ) : EReal) := by
  rw [word_128, Ideal.sqrt_coe, if_neg (by norm_num)]

theorem div_sqrt (x : EReal) : Ideal.div x (Ideal.sqrt (Ideal.ofBits .f32 0x43000000#32)) = (((Real.sqrt 128)⁻¹ : ℝ) : EReal) * x := by
  have h : ((Real.sqrt 128 : ℝ) : EReal) ≠ 0 := by exact_mod_cast (Real.sqrt_pos.2 (by norm_num)).ne'
  rw [sqrt_128, Ideal.div, if_neg h, ← EReal.coe_inv, mul_comm]

theorem kerL_eq (x g : Fin 128 → EReal) (C S : Fin 64 → EReal) (k : Fin 4096 → Fin 128 → EReal) :
    kerL x g C S k = fun j => (((Real.log 2)⁻¹ : ℝ) : EReal) * refL x g C S k j := by
  funext j
  unfold kerL refL
  rw [sum_sw fun p => k j p * Ideal.div (rotQ (normQ x g) C S p) (Ideal.sqrt (Ideal.ofBits .f32 0x43000000#32)),
    coe_mul_sum _ _ (inv_nonneg.2 (Real.log_nonneg one_le_two))]
  refine Finset.sum_congr rfl fun p _ => ?_
  rw [kerQ_eq, div_sqrt, scale, EReal.coe_mul, mul_comm (k j p), mul_assoc, mul_assoc, mul_assoc]
  exact mul_left_comm _ _ _

/-- Kernel and reference agree on a row whose gain, keys and rotary factors are finite. -/
theorem ker_eq_ref {x g : Fin 128 → EReal} {C S : Fin 64 → EReal} {k : Fin 4096 → Fin 128 → EReal} (hg : ∀ n, Fin' (g n))
    (hC : ∀ a, Fin' (C a)) (hS : ∀ a, Fin' (S a)) (hk : ∀ j p, Fin' (k j p)) (v : Fin 4096 → EReal) :
    kerRow x g C S k v = refRow x g C S k v := by
  unfold kerRow refRow
  rw [kerL_eq]
  refine softmax_row (refL x g C S k) (fun j => Fin'.sum _ fun n _ => (hk j _).mul ?_) v
  rw [div_sqrt]
  exact Fin'.mul ⟨_, rfl⟩ (fin_rotQ (fun p => (fin_mul_rms x p).mul (hg _)) hC hS _)

end Cert.Attn

end
-- ==== Proof.KernelRow.lean ====
/-
  The kernel body's result over the extended reals, entry by entry.

  `attn_apply` says that the entry of row `t`, head `h` and lane `d` of the output block is `kerRow`-shaped: the weighted values
  of the row's powers of two divided by their sum.
-/
module

public import Idealize.ShloMosaic.Lib.ValueIdx
public import Idealize.ShloMosaic.Lib.KernelVsHost
public import Idealize.ShloMosaic.Lib.Pipeline.Value
public import proofs.«01_k».proof.Proof.IdealMath
public import proofs.«01_k».proof.Proof.Step

@[expose] public section

noncomputable section

namespace Cert.Attn

open Idealize.ShloMosaic Idealize.ShloMosaic.ValueIdx

/-! ## Layout operations at an index -/

variable {α : Type}

theorem cast_tile (x : Tile.Idx → α) (h : Tile.ShapeCasts Blk) (r p : Fin 128) : shapeCast Blk x h (ix2 r p) = x (ix3 0 r p) := by
  refine shapeCast_apply x h _ _ ?_
  rw [Shape.rowMajor_val_three, Shape.rowMajor_val_two]
  show (0 * 128 + r.val) * 128 + p.val = r.val * 128 + p.val
  omega

theorem cast_back (x : Blk.Idx → α) (h : Blk.ShapeCasts Tile) (r p : Fin 128) : shapeCast Tile x h (ix3 0 r p) = x (ix2 r p) := by
  refine shapeCast_apply x h _ _ ?_
  rw [Shape.rowMajor_val_three, Shape.rowMajor_val_two]
  show r.val * 128 + p.val = (0 * 128 + r.val) * 128 + p.val
  omega

theorem cast_col (x : Lane.Idx → α) (h : Lane.ShapeCasts Col) (r : Fin 128) : shapeCast Col x h (ix2 r 0) = x (ix1 r) := by
  refine shapeCast_apply x h _ _ ?_
  rw [Shape.rowMajor_val_one, Shape.rowMajor_val_two]
  show r.val = r.val * 1 + 0
  omega

theorem cast_key (x : Key.Idx → α) (h : Key.ShapeCasts Tab) (j : Fin 4096) (p : Fin 128) :
    shapeCast Tab x h (ix2 j p) = x (ix4 0 0 j p) := by
  refine shapeCast_apply x h _ _ ?_
  rw [Shape.rowMajor_val_four, Shape.rowMajor_val_two]
  show ((0 * 1 + 0) * 4096 + j.val) * 128 + p.val = j.val * 128 + p.val
  omega

theorem cast_val (x : Vals.Idx → α) (h : Vals.ShapeCasts ValM) (j : Fin 4096) (p : Fin 256) :
    shapeCast ValM x h (ix2 j p) = x (ix4 0 0 j p) := by
  refine shapeCast_apply x h _ _ ?_
  rw [Shape.rowMajor_val_four, Shape.rowMajor_val_two]
  show ((0 * 1 + 0) * 4096 + j.val) * 256 + p.val = j.val * 256 + p.val
  omega

theorem bcast_col (x : Col.Idx → α) (h : Col.Broadcasts Blk) (r p : Fin 128) : broadcastTo Blk x h (ix2 r p) = x (ix2 r 0) := by
  refine broadcastTo_apply x h _ _ fun a => ?_
  match a with
  | ⟨0, _⟩ => rfl
  | ⟨1, _⟩ => rfl

theorem bcast_row (x : Row.Idx → α) (h : Row.Broadcasts Blk) (r p : Fin 128) : broadcastTo Blk x h (ix2 r p) = x (ix2 0 p) := by
  refine broadcastTo_apply x h _ _ fun a => ?_
  match a with
  | ⟨0, _⟩ => rfl
  | ⟨1, _⟩ => rfl

theorem rotate_row (x : Blk.Idx → α) (h : Blk.Rotates 1 none) (r p : Fin 128) :
    dynamicRotate 1 64#32 none x h (ix2 r p) = x (ix2 r (rot p)) := by
  refine dynamicRotate_apply 1 64#32 x h _ _ fun b => ?_
  match b with
  | ⟨0, _⟩ => rfl
  | ⟨1, _⟩ =>
    show (p.val + 64) % 128 = (p.val + 128 - 64 % 128) % 128
    omega

theorem slice_vals (x : Wide.Idx → α) (h : Wide.Slices ![0, 0] Blk) (r p : Fin 128) :
    extractStridedSlice Blk ![0, 0] x h (ix2 r p) = x (ix2 r ⟨p.val, by omega⟩) := by
  refine extractStridedSlice_apply _ x h _ _ fun a => ?_
  match a with
  | ⟨0, _⟩ => exact (Nat.zero_add _).symm
  | ⟨1, _⟩ => exact (Nat.zero_add _).symm

theorem slice_ones (x : Wide.Idx → α) (h : Wide.Slices ![0, 128] Col) (r : Fin 128) :
    extractStridedSlice Col ![0, 128] x h (ix2 r 0) = x (ix2 r ⟨128, by omega⟩) := by
  refine extractStridedSlice_apply _ x h _ _ fun a => ?_
  match a with
  | ⟨0, _⟩ => exact (Nat.zero_add _).symm
  | ⟨1, _⟩ => rfl

theorem lift_row (h : Blk.Reduces [1] Lane) (r p : Fin 128) : h.lift (ix1 r) p = ix2 r p := by
  funext a
  match a with
  | ⟨0, _⟩ => rfl
  | ⟨1, _⟩ => rfl

/-- The sum along a row. -/
theorem sum_row (x : FVec Ideal Blk .f32) (h : Blk.Reduces [1] Lane) (hφ) (hacc) (r : Fin 128) :
    multiReduction .add [1] Lane x 0x00000000#32 h hφ hacc (ix1 r) = ∑ p : Fin 128, x (ix2 r p) := by
  rw [Ideal.multiReduction_add_single]
  exact Finset.sum_congr rfl fun p _ => congrArg x (lift_row h r p)

/-- The maximum along a row. -/
theorem max_row (x : FVec Ideal Blk .f32) (h : Blk.Reduces [1] Lane) (hφ) (hacc) (r : Fin 128) :
    multiReduction .maximumf [1] Lane x 0xFF800000#32 h hφ hacc (ix1 r) = top fun p : Fin 128 => x (ix2 r p) := by
  rw [Ideal.multiReduction_maximumf_single]
  have hb : (FloatOps.ofBits .f32 0xFF800000#32 : Ideal .f32) = (⊥ : EReal) := by
    show Ideal.ofBits .f32 0xFF800000#32 = ⊥
    simp [Ideal.ofBits, Ideal.ieee]
  rw [hb]
  exact congrArg (fun f => Finset.univ.fold max (⊥ : EReal) f) (funext fun p => congrArg x (lift_row h r p))

/-! ## The products -/

theorem dotQK_apply (a : FVec Ideal Blk .bf16) (b : FVec Ideal Tab .bf16) (r : Fin 128) (j : Fin 4096) :
    matmul dotQK none a b (constant Log .f32 0x00000000#32) (ix2 r j) = ∑ p : Fin 128, a (ix2 r p) * b (ix2 j p) := by
  simp only [matmul]
  rw [Ideal.matmul_constant_zero_apply, ← Equiv.sum_comp (contrEquiv1 dotQK 128 rfl rfl).symm]
  refine Finset.sum_congr rfl fun p _ => ?_
  congr 1
  · refine congrArg a (funext fun d => ?_)
    match d with
    | ⟨0, _⟩ => rfl
    | ⟨1, _⟩ => rfl
  · refine congrArg b (funext fun d => ?_)
    match d with
    | ⟨0, _⟩ => rfl
    | ⟨1, _⟩ => rfl

theorem dotPV_apply (a : FVec Ideal Log .bf16) (b : FVec Ideal ValM .bf16) (r : Fin 128) (d : Fin 256) :
    matmul dotPV none a b (constant Wide .f32 0x00000000#32) (ix2 r d) = ∑ j : Fin 4096, a (ix2 r j) * b (ix2 j d) := by
  simp only [matmul]
  rw [Ideal.matmul_constant_zero_apply, ← Equiv.sum_comp (contrEquiv1 dotPV 4096 rfl rfl).symm]
  refine Finset.sum_congr rfl fun p _ => ?_
  congr 1
  · refine congrArg a (funext fun d => ?_)
    match d with
    | ⟨0, _⟩ => rfl
    | ⟨1, _⟩ => rfl
  · refine congrArg b (funext fun d => ?_)
    match d with
    | ⟨0, _⟩ => rfl
    | ⟨1, _⟩ => rfl

/-! ## The values -/

/-- A normalised query, with its gain and scale. -/
theorem norm_apply (qs : Ideal .f32) (x : FVec Ideal Tile .f32) (g : FVec Ideal Row .f32) (r p : Fin 128) (h1 h2 h3 h4 h5 hφ hacc) :
    mulf (mulf (shapeCast Blk x h1 : FVec Ideal Blk .f32) (broadcastTo Blk (rsqrt (addf
        (divf (shapeCast Col (multiReduction .add [1] Lane (mulf (shapeCast Blk x h1) (shapeCast Blk x h1) : FVec Ideal Blk .f32)
          0x00000000#32 h2 hφ hacc) h3)
          (broadcast Col (Scalar.ofBits .f32 0x43000000#32))) (broadcast Col (Scalar.ofBits .f32 0x358637BD#32)))) h4))
      (broadcastTo Blk (mulf g (broadcast Row qs)) h5) (ix2 r p)
      = x (ix3 0 r p) * rms (fun q => x (ix3 0 r q)) * (g (ix2 0 p) * qs) := by
  rw [mulf_apply, mulf_apply, cast_tile, bcast_col, bcast_row]
  have hs : shapeCast Col (multiReduction .add [1] Lane (mulf (shapeCast Blk x h1) (shapeCast Blk x h1) : FVec Ideal Blk .f32)
      0x00000000#32 h2 hφ hacc) h3 (ix2 r 0) = ∑ p : Fin 128, x (ix3 0 r p) * x (ix3 0 r p) := by
    rw [cast_col]
    refine (sum_row _ h2 hφ hacc r).trans (Finset.sum_congr rfl fun q _ => ?_)
    rw [mulf_apply, cast_tile]
  show x (ix3 0 r p) * Ideal.rsqrt (Ideal.div (shapeCast Col _ h3 (ix2 r 0)) (Ideal.ofBits .f32 0x43000000#32)
    + Ideal.ofBits .f32 0x358637BD#32) * (g (ix2 0 p) * qs) = _
  rw [hs]
  rfl

/-- A query's entry. -/
theorem queryV_apply (qs : Ideal .f32) (x : FVec Ideal Tile .f32) (g : FVec Ideal Row .f32) (cos sin : FVec Ideal Blk .f32)
    (r p : Fin 128) :
    queryV qs x g cos sin (ix2 r p)
      = x (ix3 0 r p) * rms (fun q => x (ix3 0 r q)) * (g (ix2 0 p) * qs) * cos (ix2 r p)
        + x (ix3 0 r (rot p)) * rms (fun q => x (ix3 0 r q)) * (g (ix2 0 (rot p)) * qs) * sin (ix2 r p) := by
  unfold queryV
  simp only [shapeCast_self]
  refine congrArg₂ (fun a b : EReal => a + b) (congrArg (fun a : EReal => a * cos (ix2 r p)) ?_)
    (congrArg (fun a : EReal => a * sin (ix2 r p)) ?_)
  · exact norm_apply qs x g r p _ _ _ _ _ _ _
  · exact (rotate_row _ _ r p).trans (norm_apply qs x g r (rot p) _ _ _ _ _ _ _)

/-- A logit. -/
theorem logitV_apply (qs : Ideal .f32) (x : FVec Ideal Tile .f32) (g : FVec Ideal Row .f32) (cos sin : FVec Ideal Blk .f32)
    (k : FVec Ideal Key .bf16) (r : Fin 128) (j : Fin 4096) :
    logitV qs x g cos sin k (ix2 r j) = ∑ p : Fin 128, queryV qs x g cos sin (ix2 r p) * k (ix4 0 0 j p) := by
  unfold logitV
  rw [dotQK_apply]
  exact Finset.sum_congr rfl fun p _ => congrArg _ (cast_key k _ j p)

/-- The weighted values. -/
theorem weighV_apply (p : FVec Ideal Log .bf16) (v : FVec Ideal Vals .bf16) (r d : Fin 128) :
    weighV p v (ix3 0 r d) = Ideal.div (∑ j : Fin 4096, p (ix2 r j) * v (ix4 0 0 j ⟨d.val, by omega⟩))
      (∑ j : Fin 4096, p (ix2 r j) * v (ix4 0 0 j ⟨128, by omega⟩)) := by
  unfold weighV
  simp only [cast_back, truncf_apply, divf_apply, bcast_col, slice_vals, slice_ones, dotPV_apply, cast_val]

/-- The chunk of a column. -/
theorem rd_lchunk (L : FVec Ideal Log .f32) (b : Fin 32) (r c : Fin 128) :
    rd L (lchunk b) (ix2 r c) = L (ix2 r ⟨128 * b.val + c.val, by omega⟩) := by
  refine congrArg L (funext fun a => Fin.ext ?_)
  match a with
  | ⟨0, _⟩ => exact (Rect.idx_unit_val (s := Log) _ _ _ _ 0).trans (Nat.zero_add _)
  | ⟨1, _⟩ => exact Rect.idx_unit_val (s := Log) _ _ _ _ 1

theorem foldl_max_le (L : FVec Ideal Log .f32) (i : Blk.Idx) (b : EReal) (l : List (Fin 32)) (m : FVec Ideal Blk .f32) :
    l.foldl (fun m b => maximumf m (rd L (lchunk b))) m i ≤ b ↔ m i ≤ b ∧ ∀ c ∈ l, rd L (lchunk c) i ≤ b := by
  induction l generalizing m with
  | nil => simp
  | cons c l ih =>
    rw [List.foldl_cons, ih, maximumf_apply, max_le_iff, and_assoc, List.forall_mem_cons]

/-- The row maxima: of all of a row's logits. -/
theorem topV_maxB (L : FVec Ideal Log .f32) (r c : Fin 128) : topV (maxB L) (ix2 r c) = top fun j : Fin 4096 => L (ix2 r j) := by
  unfold topV
  simp only [bcast_col, shapeCast_self, cast_col]
  refine (max_row (maxB L) _ _ _ r).trans (eq_top_of_le fun b => ?_)
  rw [top_le]
  constructor
  · intro h j
    have := ((foldl_max_le L _ b _ _).1 (h ⟨j.val % 128, by omega⟩))
    have hc : rd L (lchunk ⟨j.val / 128, by omega⟩) (ix2 r ⟨j.val % 128, by omega⟩) ≤ b := by
      rcases List.mem_cons.1 (mem_later ⟨j.val / 128, by omega⟩) with h0 | hl
      · rw [h0]; exact this.1
      · exact this.2 _ hl
    rw [rd_lchunk] at hc
    refine le_of_eq_of_le (congrArg (fun q => L (ix2 r q)) (Fin.ext ?_)) hc
    show j.val = 128 * (j.val / 128) + j.val % 128
    omega
  · intro h q
    refine (foldl_max_le L _ b _ _).2 ⟨?_, fun c _ => ?_⟩ <;> rw [rd_lchunk] <;> exact h _

/-- A softmax numerator. -/
theorem numB_apply (L : FVec Ideal Log .f32) (r : Fin 128) (j : Fin 4096) :
    numB L (ix2 r j) = Ideal.exp2 (L (ix2 r j) - top fun i : Fin 4096 => L (ix2 r i)) := by
  have hi : (Fin.cons r (Fin.cons (⟨j.val % 128, Nat.mod_lt _ (by decide)⟩ : Fin 128) finZeroElim) : Blk.Idx)
      = ix2 r ⟨j.val % 128, Nat.mod_lt _ (by decide)⟩ := by
    funext a
    match a with
    | ⟨0, _⟩ => rfl
    | ⟨1, _⟩ => rfl
  show numV (rd L (lchunk ⟨j.val / 128, _⟩)) (topV (maxB L))
    (Fin.cons r (Fin.cons (⟨j.val % 128, Nat.mod_lt _ (by decide)⟩ : Fin 128) finZeroElim) : Blk.Idx) = _
  rw [hi]
  show Ideal.exp2 (rd L (lchunk ⟨j.val / 128, _⟩) (ix2 r _) - topV (maxB L) (ix2 r _)) = _
  rw [topV_maxB, rd_lchunk]
  refine congrArg (fun z => Ideal.exp2 (z - _)) (congrArg (fun q => L (ix2 r q)) (Fin.ext ?_))
  show 128 * (j.val / 128) + j.val % 128 = j.val
  omega

/-! ## The block -/

theorem rd_unit {s : Shape} {α : Type} (x : s.Idx → α) {off : Fin s.rank → ℕ} {sz : Fin s.rank → ℕ} (h) (i : (⟨s.rank, sz⟩ : Shape).Idx) (k : s.Idx)
    (hk : ∀ a, (k a).val = off a + (i a).val) : rd x (Rect.unit (s := s) off sz h) i = x k :=
  congrArg x (funext fun a => Fin.ext ((Rect.idx_unit_val (s := s) _ _ _ _ a).trans (hk a).symm))

variable (I : Inp Ideal) (t : Fin 4096) (c : Fin 512)

/-- The tile and head of a row and column. -/
def pt : Fin 128 := ⟨t.val / 128 * 4 + c.val / 128, by omega⟩

/-- A head's queries. -/
def headQ (q : Fin 128) : EReal := I.q (ix3 0 t ⟨c.val / 128 * 128 + q.val, by omega⟩)

theorem rd_q (q : Fin 128) : rd I.q (tileR (pt t c)) (ix3 0 ⟨t.val % 128, by omega⟩ q) = headQ I t c q := by
  refine rd_unit I.q _ _ _ fun a => ?_
  match a with
  | ⟨0, _⟩ => rfl
  | ⟨1, _⟩ =>
    show t.val = 128 * ((t.val / 128 * 4 + c.val / 128) / 4) + t.val % 128
    omega
  | ⟨2, _⟩ =>
    show c.val / 128 * 128 + q.val = 128 * ((t.val / 128 * 4 + c.val / 128) % 4) + q.val
    omega

theorem rd_rows (x : Vec Ideal Tab .f32) (p : Fin 128) : rd x (rowsR (pt t c)) (ix2 ⟨t.val % 128, by omega⟩ p) = x (ix2 t p) := by
  refine rd_unit x _ _ _ fun a => ?_
  match a with
  | ⟨0, _⟩ =>
    show t.val = 128 * ((t.val / 128 * 4 + c.val / 128) / 4) + t.val % 128
    omega
  | ⟨1, _⟩ => exact (Nat.zero_add _).symm

theorem rd_g (p : Fin 128) : rd I.g allG (ix2 0 p) = I.g (ix2 0 p) := by
  refine rd_unit I.g _ _ _ fun a => ?_
  match a with
  | ⟨0, _⟩ => rfl
  | ⟨1, _⟩ => exact (Nat.zero_add _).symm

theorem rd_k (j : Fin 4096) (p : Fin 128) : rd I.k allK (ix4 0 0 j p) = I.k (ix4 0 0 j p) := by
  refine rd_unit I.k _ _ _ fun a => ?_
  match a with
  | ⟨0, _⟩ => rfl
  | ⟨1, _⟩ => rfl
  | ⟨2, _⟩ => exact (Nat.zero_add _).symm
  | ⟨3, _⟩ => exact (Nat.zero_add _).symm

theorem rd_v (j : Fin 4096) (p : Fin 256) : rd I.v allV (ix4 0 0 j p) = I.v (ix4 0 0 j p) := by
  refine rd_unit I.v _ _ _ fun a => ?_
  match a with
  | ⟨0, _⟩ => rfl
  | ⟨1, _⟩ => rfl
  | ⟨2, _⟩ => exact (Nat.zero_add _).symm
  | ⟨3, _⟩ => exact (Nat.zero_add _).symm

/-- The logits of a row are the kernel's. -/
theorem logitB_apply {g : Fin 128 → EReal} {C S : Fin 64 → EReal} {k : Fin 4096 → Fin 128 → EReal}
    (hg : ∀ p, I.g (ix2 0 p) = g (sw p)) (hC : ∀ p, I.cos (ix2 t p) = C (ang p)) (hS : ∀ p, I.sin (ix2 t p) = sgn S p)
    (hk : ∀ j p, I.k (ix4 0 0 j p) = k j p) (j : Fin 4096) :
    logitB scale I (pt t c) (ix2 ⟨t.val % 128, by omega⟩ j) = kerL (headQ I t c) g C S k j := by
  unfold logitB kerL
  rw [logitV_apply]
  refine Finset.sum_congr rfl fun p _ => ?_
  rw [queryV_apply, rd_k, hk]
  refine congrArg (fun a : EReal => a * k j p) ?_
  have ec := (rd_rows t c I.cos p).trans (hC p)
  have es := (rd_rows t c I.sin p).trans (hS p)
  unfold kerQ
  simp only [rd_q, rd_g, hg]
  exact congrArg₂ (fun a b : EReal => _ * a + _ * b) ec es

/-- An entry of the block is the kernel's row at it. -/
theorem attn_apply {g : Fin 128 → EReal} {C S : Fin 64 → EReal} {k : Fin 4096 → Fin 128 → EReal}
    (hg : ∀ p, I.g (ix2 0 p) = g (sw p)) (hC : ∀ p, I.cos (ix2 t p) = C (ang p)) (hS : ∀ p, I.sin (ix2 t p) = sgn S p)
    (hk : ∀ j p, I.k (ix4 0 0 j p) = k j p) (h1 : ∀ j, I.v (ix4 0 0 j ⟨128, by omega⟩) = (1 : EReal)) :
    attn scale I (ix3 0 t c) = kerRow (headQ I t c) g C S k fun j => I.v (ix4 0 0 j ⟨c.val % 128, by omega⟩) := by
  have hi : (Fin.cons (0 : Fin 1) (Fin.cons (⟨t.val % 128, Nat.mod_lt _ (by decide)⟩ : Fin 128)
      (Fin.cons (⟨c.val % 128, Nat.mod_lt _ (by decide)⟩ : Fin 128) finZeroElim)) : Tile.Idx)
      = ix3 0 ⟨t.val % 128, Nat.mod_lt _ (by decide)⟩ ⟨c.val % 128, Nat.mod_lt _ (by decide)⟩ := by
    funext a
    match a with
    | ⟨0, _⟩ => rfl
    | ⟨1, _⟩ => rfl
    | ⟨2, _⟩ => rfl
  show outB scale I (pt t c) (Fin.cons (0 : Fin 1) (Fin.cons (⟨t.val % 128, Nat.mod_lt _ (by decide)⟩ : Fin 128)
      (Fin.cons (⟨c.val % 128, Nat.mod_lt _ (by decide)⟩ : Fin 128) finZeroElim)) : Tile.Idx) = _
  rw [hi]
  unfold outB kerRow
  rw [weighV_apply]
  simp only [numB_apply, rd_v, h1, logitB_apply I t c hg hC hS hk]

end Cert.Attn

end
-- ==== Proof.KernelHost.lean ====
/-
  What the host computes before the kernel: the rotation tables, the gain in the kernel's lane order, and the values with
  a column of ones beside them, each as a term of the arguments and then at an index.
-/
module

public import proofs.«01_k».proof.Proof.RunIdeal
public import proofs.«01_k».proof.Proof.KernelRow

@[expose] public section

noncomputable section

namespace Cert.KernelIdeal.Body

open Idealize.ShloMosaic Idealize.ShloMosaic.TcCoe Idealize.ShloMosaic.ValueIdx
open Cert.KernelIdeal.Gen

variable {F : FTy → Type} [FloatOps F] [Named F]
variable (m : (ℓ : Loc nD τ sig) → Buf (Elt F) ℓ) (c : Dev nD)

/-! ## The terms -/

/-- The frequencies: ten thousand to the power of minus a sixty-fourth of twice the lane. -/
def freq : Vec F S32 .f32 :=
  Host.powf (broadcastInDim S32 ![] bcast_S_S32 (constant S_ .f32 0x461C4000#32))
    (Host.divf (Host.negf (addf (broadcastInDim S32 ![] bcast_S_S32 (constant S_ .f32 0x00000000#32))
      (mulf (broadcastInDim S32 ![] bcast_S_S32 (constant S_ .f32 0x40000000#32)) (sitofp .f32 (iotaInDim S32 32 0)))))
      (broadcastInDim S32 ![] bcast_S_S32 (constant S_ .f32 0x42800000#32)))

/-- A token's grid row. -/
def rowPos : Vec F S4096 .f32 :=
  shapeCast _ (broadcastInDim S64x64 ![0] bcast_S64_S64x64_0 (sitofp .f32 (iotaInDim S64 32 0) : Vec F S64 .f32)) shapeCasts_S64x64_S4096

/-- A token's grid column. -/
def colPos : Vec F S4096 .f32 :=
  shapeCast _ (broadcastInDim S64x64 ![0, 1] bcast_S1x64_S64x64_0_1
    (shapeCast S1x64 (sitofp .f32 (iotaInDim S64 32 0) : Vec F S64 .f32) shapeCasts_S64_S1x64)) shapeCasts_S64x64_S4096

/-- A position times each frequency. -/
def angOf (p : Vec F S4096 .f32) : Vec F S4096x32 .f32 :=
  mulf (broadcastInDim S4096x32 ![0, 1] bcast_S4096x1_S4096x32_0_1 (broadcastInDim S4096x1 ![0] bcast_S4096_S4096x1_0 p))
    (broadcastInDim S4096x32 ![0, 1] bcast_S1x32_S4096x32_0_1 (broadcastInDim S1x32 ![1] bcast_S32_S1x32_1 freq))

/-- The angles: the row's beside the column's. -/
def angs : Vec F S4096x64 .f32 :=
  concatenate S4096x64 1 [⟨S4096x32, angOf rowPos⟩, ⟨S4096x32, angOf colPos⟩] concatenates_S4096x32_S4096x32_S4096x64_d1

theorem V_cos : (V m c main_v30 : Vec F S4096x128 .f32)
    = concatenate S4096x128 1 [⟨S4096x64, Host.cos angs⟩, ⟨S4096x64, Host.cos angs⟩] concatenates_S4096x64_S4096x64_S4096x128_d1 := by
  unfold angs angOf rowPos colPos freq
  unfold_abbrev_sides
  simp only [hostOps0, hostOps0_1, hostOps0_2, List.flatten_cons, List.flatten_nil, List.append_nil, List.cons_append, List.nil_append]
  after_results
  rfl

theorem V_sin : (V m c main_v34 : Vec F S4096x128 .f32)
    = concatenate S4096x128 1 [⟨S4096x64, Host.negf (Host.sin angs)⟩, ⟨S4096x64, Host.sin angs⟩] concatenates_S4096x64_S4096x64_S4096x128_d1 := by
  unfold angs angOf rowPos colPos freq
  unfold_abbrev_sides
  simp only [hostOps0, hostOps0_1, hostOps0_2, List.flatten_cons, List.flatten_nil, List.append_nil, List.cons_append, List.nil_append]
  after_results
  rfl

/-- The lane order as indices. -/
def lanes : Vec F S128 .i32 :=
  select (constantI S128 1 0#1 : Vec F S128 .i1)
    (addi (fun i => lit0 (S128.rowMajor i) : Vec F S128 .i32) (broadcastInDim S128 ![] bcast_S_S128 (constantI S_ 32 128#32)))
    (fun i => lit0 (S128.rowMajor i))

theorem V_gain : (V m c main_v40 : Vec F S1x128 .f32)
    = shapeCast S1x128 (Host.gather gather_S128_S128x1_S128_n_0_n_n_0_1_1 (m ((c : Thread nD τ).loc main_arg1) : Vec F S128 .f32)
        (broadcastInDim S128x1 ![0] bcast_S128_S128x1_0 (lanes : Vec F S128 .i32)) : Vec F S128 .f32) shapeCasts_S128_S1x128 := by
  unfold lanes
  unfold_abbrev_sides
  simp only [hostOps0, hostOps0_1, hostOps0_2, List.flatten_cons, List.flatten_nil, List.append_nil, List.cons_append, List.nil_append]
  after_results
  rfl

/-- One in the first lane, zero in the others. -/
def ones : Vec F S8x2x4096x128 .f32 :=
  select (cmpi .eq (iotaInDim S8x2x4096x128 32 3) (broadcastInDim S8x2x4096x128 ![] bcast_S_S8x2x4096x128 (constantI S_ 32 0#32)))
    (broadcastInDim S8x2x4096x128 ![] bcast_S_S8x2x4096x128 (constant S_ .f32 0x3F800000#32))
    (broadcastInDim S8x2x4096x128 ![] bcast_S_S8x2x4096x128 (constant S_ .f32 0x00000000#32))

theorem V_vals : (V m c main_v46 : Vec F S8x2x4096x256 .bf16)
    = concatenate S8x2x4096x256 3 [⟨S8x2x4096x128, (m ((c : Thread nD τ).loc main_arg3) : Vec F S8x2x4096x128 .bf16)⟩,
        ⟨S8x2x4096x128, truncf .bf16 ones bitsLt_bf16_f32⟩] concatenates_S8x2x4096x128_S8x2x4096x128_S8x2x4096x256_d3 := by
  unfold ones
  unfold_abbrev_sides
  simp only [hostOps0, hostOps0_1, hostOps0_2, List.flatten_cons, List.flatten_nil, List.append_nil, List.cons_append, List.nil_append]
  after_results
  rfl

/-! ## At an index -/

section Values

open Cert.Attn

theorem angOf_apply (p : Vec Ideal S4096 .f32) (t : Fin 4096) (d : Fin 32) :
    (angOf p : Vec Ideal S4096x32 .f32) (ix2 t d) = (p (ix1 t) * (freq : Vec Ideal S32 .f32) (ix1 d) : EReal) := by
  unfold angOf
  generalize (freq : Vec Ideal S32 .f32) = f
  refine congrArg₂ (fun a b : EReal => a * b) ?_ ?_
  · refine (broadcastInDim_apply _ _ _ _ (ix2 t 0) fun a => ?_).trans (broadcastInDim_apply _ _ _ _ (ix1 t) fun a => ?_)
    · match a with
      | ⟨0, _⟩ => rfl
      | ⟨1, _⟩ => rfl
    · match a with
      | ⟨0, _⟩ => rfl
  · refine (broadcastInDim_apply _ _ _ _ (ix2 0 d) fun a => ?_).trans (broadcastInDim_apply _ _ _ _ (ix1 d) fun a => ?_)
    · match a with
      | ⟨0, _⟩ => rfl
      | ⟨1, _⟩ => rfl
    · match a with
      | ⟨0, _⟩ => rfl

theorem fin_rowPos (t : Fin 4096) : Fin' ((rowPos : Vec Ideal S4096 .f32) (ix1 t)) := by
  refine ⟨((BitVec.ofNat 32 (t.val / 64)).toInt : ℝ), ?_⟩
  unfold rowPos
  refine (shapeCast_apply _ _ _ (ix2 ⟨t.val / 64, by omega⟩ ⟨t.val % 64, by omega⟩) ?_).trans
    (broadcastInDim_apply _ _ _ _ (ix1 ⟨t.val / 64, by omega⟩) fun a => ?_)
  · rw [Shape.rowMajor_val_two, Shape.rowMajor_val_one]
    show t.val / 64 * 64 + t.val % 64 = t.val
    omega
  · match a with
    | ⟨0, _⟩ => rfl

theorem fin_colPos (t : Fin 4096) : Fin' ((colPos : Vec Ideal S4096 .f32) (ix1 t)) := by
  refine ⟨((BitVec.ofNat 32 (t.val % 64)).toInt : ℝ), ?_⟩
  unfold colPos
  refine (shapeCast_apply _ _ _ (ix2 ⟨t.val / 64, by omega⟩ ⟨t.val % 64, by omega⟩) ?_).trans
    ((broadcastInDim_apply _ _ _ _ (ix2 0 ⟨t.val % 64, by omega⟩) fun a => ?_).trans
      (shapeCast_apply _ _ _ (ix1 ⟨t.val % 64, by omega⟩) ?_))
  · rw [Shape.rowMajor_val_two, Shape.rowMajor_val_one]
    show t.val / 64 * 64 + t.val % 64 = t.val
    omega
  · match a with
    | ⟨0, _⟩ => rfl
    | ⟨1, _⟩ => rfl
  · rw [Shape.rowMajor_val_two, Shape.rowMajor_val_one]
    show t.val % 64 = 0 * 64 + t.val % 64
    omega

theorem fin_freq (d : Fin 32) : Fin' ((freq : Vec Ideal S32 .f32) (ix1 d)) := by
  have e : (freq : Vec Ideal S32 .f32) (ix1 d) = Ideal.pow (Ideal.ofBits .f32 0x461C4000#32)
      (Ideal.div (-(Ideal.ofBits .f32 0x00000000#32 + Ideal.ofBits .f32 0x40000000#32 * (((BitVec.ofNat 32 d.val).toInt : ℝ) : EReal)))
        (Ideal.ofBits .f32 0x42800000#32)) := rfl
  have h0 : ∃ r : ℝ, Ideal.ofBits .f32 0x461C4000#32 = r := ⟨_, by simp [Ideal.ofBits, Ideal.ieee]; rfl⟩
  have h1 : ∃ r : ℝ, Ideal.ofBits .f32 0x00000000#32 = r := ⟨0, by simp [Ideal.ofBits, Ideal.ieee]⟩
  have h2 : ∃ r : ℝ, Ideal.ofBits .f32 0x40000000#32 = r := ⟨_, by simp [Ideal.ofBits, Ideal.ieee]; rfl⟩
  have h3 : Ideal.ofBits .f32 0x42800000#32 = ((64 : ℝ) : EReal) := by
    simp [Ideal.ofBits, Ideal.ieee]; rw [← EReal.coe_mul]; norm_num
  obtain ⟨r0, e0⟩ := h0
  obtain ⟨r1, e1⟩ := h1
  obtain ⟨r2, e2⟩ := h2
  rw [e, e0, e1, e2, h3]
  refine ⟨Real.rpow r0 (-(r1 + r2 * ((BitVec.ofNat 32 d.val).toInt : ℝ)) * (64 : ℝ)⁻¹), ?_⟩
  unfold Ideal.div
  rw [if_neg (by norm_num), ← EReal.coe_mul, ← EReal.coe_add, ← EReal.coe_neg, ← EReal.coe_inv, ← EReal.coe_mul]
  rfl

/-- The angle of a token at a lane: its grid row's in the first half of the lanes, its grid column's in the second. -/
def th (t : Fin 4096) (a : Fin 64) : EReal :=
  if h : a.val < 32 then (angOf rowPos : Vec Ideal S4096x32 .f32) (ix2 t ⟨a.val, h⟩)
  else (angOf colPos : Vec Ideal S4096x32 .f32) (ix2 t ⟨a.val - 32, by omega⟩)

/-- Its cosine and sine. -/
def cosT (t : Fin 4096) (a : Fin 64) : EReal := Ideal.cos (th t a)
def sinT (t : Fin 4096) (a : Fin 64) : EReal := Ideal.sin (th t a)

theorem fin_th (t : Fin 4096) (a : Fin 64) : Fin' (th t a) := by
  unfold th
  split
  · rw [angOf_apply]; exact (fin_rowPos t).mul (fin_freq _)
  · rw [angOf_apply]; exact (fin_colPos t).mul (fin_freq _)

theorem fin_cosT (t : Fin 4096) (a : Fin 64) : Fin' (cosT t a) := by
  obtain ⟨r, e⟩ := fin_th t a
  exact ⟨Real.cos r, by unfold cosT; rw [e]; rfl⟩

theorem fin_sinT (t : Fin 4096) (a : Fin 64) : Fin' (sinT t a) := by
  obtain ⟨r, e⟩ := fin_th t a
  exact ⟨Real.sin r, by unfold sinT; rw [e]; rfl⟩

theorem angs_apply (t : Fin 4096) (a : Fin 64) : (angs : Vec Ideal S4096x64 .f32) (ix2 t a) = th t a := by
  unfold angs th
  split
  · refine concatenate_pair_apply_left (t := S4096x64) (s₁ := S4096x32) (s₂ := S4096x32) 1 _ _ _ _ rfl _ fun b => ?_
    match b with
    | ⟨0, _⟩ => rfl
    | ⟨1, _⟩ => rfl
  · rename_i h
    refine concatenate_pair_apply_right (t := S4096x64) (s₁ := S4096x32) (s₂ := S4096x32) 1 _ _ _ _ rfl rfl _ (fun b hb => ?_) ?_
    · match b with
      | ⟨0, _⟩ => rfl
      | ⟨1, _⟩ => exact absurd rfl hb
    · show a.val - 32 + 32 = a.val
      omega

/-- Two halves of sixty-four lanes, joined, at a lane. -/
theorem halves_apply {α : Type} (x y : S4096x64.Idx → α) (h) (t : Fin 4096) (p : Fin 128) :
    concatenate S4096x128 1 [⟨S4096x64, x⟩, ⟨S4096x64, y⟩] h (ix2 t p) = if p.val < 64 then x (ix2 t (ang p)) else y (ix2 t (ang p)) := by
  split
  · rename_i hp
    refine concatenate_pair_apply_left (t := S4096x128) (s₁ := S4096x64) (s₂ := S4096x64) 1 _ _ _ _ rfl _ fun b => ?_
    match b with
    | ⟨0, _⟩ => rfl
    | ⟨1, _⟩ => exact Nat.mod_eq_of_lt hp
  · rename_i hp
    refine concatenate_pair_apply_right (t := S4096x128) (s₁ := S4096x64) (s₂ := S4096x64) 1 _ _ _ _ rfl rfl _ (fun b hb => ?_) ?_
    · match b with
      | ⟨0, _⟩ => rfl
      | ⟨1, _⟩ => exact absurd rfl hb
    · show p.val % 64 + 64 = p.val
      omega

variable (m : (ℓ : Loc nD τ sig) → Buf (Elt Ideal) ℓ)

theorem V_cos_apply (t : Fin 4096) (p : Fin 128) : (V m c main_v30 : Vec Ideal S4096x128 .f32) (ix2 t p) = cosT t (ang p) := by
  rw [V_cos, halves_apply, ite_self]
  exact congrArg Ideal.cos (angs_apply t _)

theorem V_sin_apply (t : Fin 4096) (p : Fin 128) : (V m c main_v34 : Vec Ideal S4096x128 .f32) (ix2 t p) = sgn (sinT t) p := by
  rw [V_sin, halves_apply]
  unfold sgn sinT
  rw [← angs_apply]
  rfl

theorem lanes_apply (p : Fin 128) : ((lanes : Vec Ideal S128 .i32) (ix1 p)).toInt.toNat = (sw p).val := by
  have e : (lanes : Vec Ideal S128 .i32) (ix1 p) = lit0 p := by
    unfold lanes
    refine (select_zero _ _).trans ?_
    exact congrArg lit0 (Fin.ext (Shape.rowMajor_val_one _))
  rw [e]
  revert p
  decide

theorem gather_apply (x : Vec Ideal S128 .f32) (idx : Vec Ideal S128x1 .i32) (p : Fin 128) :
    (Host.gather gather_S128_S128x1_S128_n_0_n_n_0_1_1 x idx : Vec Ideal S128 .f32) (ix1 p)
      = x (ix1 ⟨min (idx (ix2 p 0)).toInt.toNat 127, by omega⟩) := by
  unfold Host.gather
  congr 1
  funext a
  obtain rfl : a = 0 := Subsingleton.elim _ _
  refine Fin.ext ?_
  show gather_S128_S128x1_S128_n_0_n_n_0_1_1.start (ix1 p) idx 0 + gather_S128_S128x1_S128_n_0_n_n_0_1_1.batchCoord (ix1 p) 0
    + gather_S128_S128x1_S128_n_0_n_n_0_1_1.offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S128_S128x1_S128_n_0_n_n_0_1_1.startIndexMap from List.mem_singleton.mpr rfl)]
  have hsi : gather_S128_S128x1_S128_n_0_n_n_0_1_1.siIdx (ix1 p) ⟨List.idxOf (0 : Fin 1) gather_S128_S128x1_S128_n_0_n_n_0_1_1.startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem V_gain_apply (p : Fin 128) :
    (V m c main_v40 : Vec Ideal S1x128 .f32) (ix2 0 p) = (m ((c : Thread nD τ).loc main_arg1) : Vec Ideal S128 .f32) (ix1 (sw p)) := by
  rw [V_gain]
  refine (shapeCast_apply _ _ _ (ix1 p) ?_).trans ((gather_apply _ _ p).trans (congrArg _ (congrArg ix1 (Fin.ext ?_))))
  · rw [Shape.rowMajor_val_two, Shape.rowMajor_val_one]
    show p.val = 0 * 128 + p.val
    omega
  · have e : (broadcastInDim S128x1 ![0] bcast_S128_S128x1_0 (lanes : Vec Ideal S128 .i32) : Vec Ideal S128x1 .i32) (ix2 p 0) = lanes (ix1 p) :=
      broadcastInDim_apply _ _ _ _ _ fun a => match a with | ⟨0, _⟩ => rfl
    show min ((broadcastInDim S128x1 ![0] bcast_S128_S128x1_0 (lanes : Vec Ideal S128 .i32) : Vec Ideal S128x1 .i32) (ix2 p 0)).toInt.toNat 127 = _
    rw [e, lanes_apply]
    have := (sw p).isLt
    omega

theorem V_vals_apply (b : Fin 8) (g : Fin 2) (j : Fin 4096) (d : Fin 128) :
    (V m c main_v46 : Vec Ideal S8x2x4096x256 .bf16) (ix4 b g j ⟨d.val, by omega⟩)
      = (m ((c : Thread nD τ).loc main_arg3) : Vec Ideal S8x2x4096x128 .bf16) (ix4 b g j d) := by
  rw [V_vals]
  refine concatenate_pair_apply_left (t := S8x2x4096x256) (s₁ := S8x2x4096x128) (s₂ := S8x2x4096x128) 3 _ _ _ _ rfl _ fun a => ?_
  match a with
  | ⟨0, _⟩ => rfl
  | ⟨1, _⟩ => rfl
  | ⟨2, _⟩ => rfl
  | ⟨3, _⟩ => rfl

theorem V_vals_one (b : Fin 8) (g : Fin 2) (j : Fin 4096) :
    (V m c main_v46 : Vec Ideal S8x2x4096x256 .bf16) (ix4 b g j ⟨128, by omega⟩) = (1 : EReal) := by
  rw [V_vals]
  refine (concatenate_pair_apply_right (t := S8x2x4096x256) (s₁ := S8x2x4096x128) (s₂ := S8x2x4096x128) 3 _ _ _ (ix4 b g j ⟨128, by omega⟩) rfl rfl (ix4 b g j 0) (fun a ha => ?_) rfl).trans ?_
  · match a with
    | ⟨0, _⟩ => rfl
    | ⟨1, _⟩ => rfl
    | ⟨2, _⟩ => rfl
    | ⟨3, _⟩ => exact absurd rfl ha
  · exact word_one

end Values

end Cert.KernelIdeal.Body

end
-- ==== Proof.KernelValue.lean ====
/-
  The kernel's result at an index: the blocks of the six inputs at theirs, the result array from its blocks, and the run
  read at it.
-/
module

public import proofs.«01_k».proof.Proof.KernelHost
public import Idealize.ShloMosaic.Lib.Pipeline.ValueKit.Geometry

@[expose] public section

noncomputable section

namespace Cert.KernelIdeal.Body

open Idealize.ShloMosaic Idealize.ShloMosaic.TcCoe Idealize.ShloMosaic.ValueIdx
open Cert.KernelIdeal.Gen Cert.Attn

/-! ## The result as a function of the arguments -/

section Result

variable (q : S8x4096x1024.Idx → EReal) (g : S128.Idx → EReal) (k v : S8x2x4096x128.Idx → EReal)

/-- The queries of a result column's head. -/
def rowQ (b : Fin 8) (t : Fin 4096) (e : Fin 1024) (p : Fin 128) : EReal := q (ix3 b t ⟨e.val / 128 * 128 + p.val, by omega⟩)

/-- A result column's group of heads. -/
def grp (e : Fin 1024) : Fin 2 := ⟨e.val / 512, by omega⟩

/-- The kernel's result at an index. -/
def outK (b : Fin 8) (t : Fin 4096) (e : Fin 1024) : EReal :=
  kerRow (rowQ q b t e) (fun n => g (ix1 n)) (cosT t) (sinT t) (fun j p => k (ix4 b (grp e) j p))
    fun j => v (ix4 b (grp e) j ⟨e.val % 128, by omega⟩)

end Result

/-! ## The blocks at an index -/

theorem idx_q : ∀ t : Fin cfg0.N, win0_0.index t = ![t.val / 2, 0, t.val % 2] := by decide +kernel
theorem idx_g : ∀ t : Fin cfg0.N, win0_1.index t = ![0, 0] := by decide +kernel
theorem idx_cos : ∀ t : Fin cfg0.N, win0_2.index t = ![0, 0] := by decide +kernel
theorem idx_sin : ∀ t : Fin cfg0.N, win0_3.index t = ![0, 0] := by decide +kernel
theorem idx_k : ∀ t : Fin cfg0.N, win0_4.index t = ![t.val / 2, t.val % 2, 0, 0] := by decide +kernel
theorem idx_v : ∀ t : Fin cfg0.N, win0_5.index t = ![t.val / 2, t.val % 2, 0, 0] := by decide +kernel
theorem idx_o : ∀ t : Fin cfg0.N, win0_6.index t = ![t.val / 2, 0, t.val % 2] := by decide +kernel

variable (m : (ℓ : Loc nD τ sig) → Buf (Elt Ideal) ℓ) (c : Dev nD) (t : Fin cfg0.N)

/-- A point's batch and group. -/
def bat : Fin 8 := ⟨t.val / 2, by have := t.isLt; have h : cfg0.N = 16 := N_0; omega⟩
def gro : Fin 2 := ⟨t.val % 2, by omega⟩

theorem blk_q (r : Fin 4096) (x : Fin 512) : (inp m c t).q (ix3 0 r x)
    = (m ((c : Thread nD τ).loc main_arg0) : Vec Ideal S8x4096x1024 .f32) (ix3 (bat t) r ⟨t.val % 2 * 512 + x.val, by omega⟩) := by
  rw [← V_main_arg0 m c]
  refine congrArg (V m c main_arg0) ?_
  blk_ext [idx_q t]
  all_goals rfl

theorem blk_g (p : Fin 128) : (inp m c t).g (ix2 0 p)
    = (m ((c : Thread nD τ).loc main_arg1) : Vec Ideal S128 .f32) (ix1 (sw p)) := by
  refine Eq.trans (congrArg (V m c main_v40) ?_) (V_gain_apply c m p)
  blk_ext [idx_g t]

theorem blk_cos (r : Fin 4096) (p : Fin 128) : (inp m c t).cos (ix2 r p) = cosT r (ang p) := by
  refine Eq.trans (congrArg (V m c main_v30) ?_) (V_cos_apply c m r p)
  blk_ext [idx_cos t]

theorem blk_sin (r : Fin 4096) (p : Fin 128) : (inp m c t).sin (ix2 r p) = sgn (sinT r) p := by
  refine Eq.trans (congrArg (V m c main_v34) ?_) (V_sin_apply c m r p)
  blk_ext [idx_sin t]

theorem blk_k (j : Fin 4096) (p : Fin 128) : (inp m c t).k (ix4 0 0 j p)
    = (m ((c : Thread nD τ).loc main_arg2) : Vec Ideal S8x2x4096x128 .bf16) (ix4 (bat t) (gro t) j p) := by
  rw [← V_main_arg2 m c]
  refine congrArg (V m c main_arg2) ?_
  blk_ext [idx_k t]
  all_goals rfl

theorem blk_vals (j : Fin 4096) (p : Fin 256) : (inp m c t).v (ix4 0 0 j p)
    = (V m c main_v46 : Vec Ideal S8x2x4096x256 .bf16) (ix4 (bat t) (gro t) j p) := by
  refine congrArg (V m c main_v46) ?_
  blk_ext [idx_v t]
  all_goals rfl

theorem blk_v (j : Fin 4096) (d : Fin 128) : (inp m c t).v (ix4 0 0 j ⟨d.val, by omega⟩)
    = (m ((c : Thread nD τ).loc main_arg3) : Vec Ideal S8x2x4096x128 .bf16) (ix4 (bat t) (gro t) j d) :=
  (blk_vals m c t j _).trans (V_vals_apply c m (bat t) (gro t) j d)

theorem blk_one (j : Fin 4096) : (inp m c t).v (ix4 0 0 j ⟨128, by omega⟩) = (1 : EReal) :=
  (blk_vals m c t j _).trans (V_vals_one c m (bat t) (gro t) j)

/-! ## The result array -/

/-- The kernel's result array. -/
def result : Buf (Elt Ideal) ((c : Thread nD τ).loc main_v47) := fun i : S8x4096x1024.Idx =>
  outK (m ((c : Thread nD τ).loc main_arg0)) (m ((c : Thread nD τ).loc main_arg1)) (m ((c : Thread nD τ).loc main_arg2))
    (m ((c : Thread nD τ).loc main_arg3)) (i 0) (i 1) (i 2)

theorem qs_eq : (qs : Ideal .f32) = scale := rfl

/-- What a point leaves at an index of its block. -/
theorem attn_eq (r : Fin 4096) (x : Fin 512) : (Attn.attn qs (inp m c t) : Vec Ideal S1x4096x512 .bf16) (ix3 0 r x)
    = outK (m ((c : Thread nD τ).loc main_arg0)) (m ((c : Thread nD τ).loc main_arg1)) (m ((c : Thread nD τ).loc main_arg2))
      (m ((c : Thread nD τ).loc main_arg3)) (bat t) r ⟨t.val % 2 * 512 + x.val, by omega⟩ := by
  rw [qs_eq]
  refine (attn_apply (g := fun n => (m ((c : Thread nD τ).loc main_arg1) : Vec Ideal S128 .f32) (ix1 n)) (inp m c t) r x (fun p => blk_g m c t p) (fun p => blk_cos m c t r p) (fun p => blk_sin m c t r p)
    (fun j p => blk_k m c t j p) (fun j => blk_one m c t j)).trans ?_
  unfold outK
  have eg : grp ⟨t.val % 2 * 512 + x.val, by omega⟩ = gro t := Fin.ext (by show (t.val % 2 * 512 + x.val) / 512 = t.val % 2; omega)
  have eq : headQ (inp m c t) r x = rowQ (m ((c : Thread nD τ).loc main_arg0)) (bat t) r ⟨t.val % 2 * 512 + x.val, by omega⟩ := by
    funext p
    refine (blk_q m c t r _).trans (congrArg _ (congrArg (ix3 _ _) (Fin.ext ?_)))
    show t.val % 2 * 512 + (x.val / 128 * 128 + p.val) = (t.val % 2 * 512 + x.val) / 128 * 128 + p.val
    omega
  have ev : (fun j => (inp m c t).v (ix4 0 0 j ⟨x.val % 128, by omega⟩)) = fun j : Fin 4096 =>
      (m ((c : Thread nD τ).loc main_arg3) : Vec Ideal S8x2x4096x128 .bf16) (ix4 (bat t) (gro t) j ⟨(t.val % 2 * 512 + x.val) % 128, by omega⟩) := by
    funext j
    refine (blk_v m c t j ⟨x.val % 128, by omega⟩).trans (congrArg _ (congrArg (ix4 _ _ _) (Fin.ext ?_)))
    show x.val % 128 = (t.val % 2 * 512 + x.val) % 128
    omega
  rw [eq, ev, eg]

theorem final : (dats m 0 c).arrAt 6 cfg0.N = result m c := by
  refine (dats m 0 c).arrAt_eq_of_covers 6 _ (by decide +kernel) fun t _ y => ?_
  blk_simp
  rw [after0_6]
  refine (congrArg _ (eq_ix3 y)).trans ((attn_eq m c t (y 1) (y 2)).trans ?_)
  have h0 : (win0_6.blk t).view.emb y 0 = bat t := Fin.ext (by
    blk_simp [idx_o t]
    rfl)
  have h1 : (win0_6.blk t).view.emb y 1 = y 1 := Fin.ext (by
    blk_simp [idx_o t])
  have h2 : (win0_6.blk t).view.emb y 2 = ⟨t.val % 2 * 512 + (y 2).val, by have h : (y 2).val < 512 := (y 2).isLt; show _ < 1024; omega⟩ := Fin.ext (by
    blk_simp [idx_o t])
  unfold result
  show _ = outK _ _ _ _ ((win0_6.blk t).view.emb y 0) ((win0_6.blk t).view.emb y 1) ((win0_6.blk t).view.emb y 2)
  rw [h0, h1, h2]
  rfl

/-- The run, read: the result array holds the kernel's result, the arguments are as launched. -/
theorem run (ρ : Dev nD → PrngReg) : θ_run defs (onTc (τ := τ) (main (F := Ideal))) ⟨m, fun _ => 0, ρ⟩ fun r => ∀ c : Dev nD,
      r.2.mem ((c.tc : Thread nD τ).loc main_v47) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 6).trans (final m c), h.2.1 c⟩) (θ_run_and (run_main m ρ) (frame m ρ))

end Cert.KernelIdeal.Body

end
-- ==== Proof.ReferenceValue.lean ====
/-
  The reference's result at an index, one stage at a time: the normalised queries in the natural order of the lanes, the
  two rotations, the logits, the softmax and the weighted values.
-/
module

public import proofs.«01_k».proof.Proof.KernelValue
public import proofs.«01_k».proof.Proof.Gen.ReferenceIdeal.Read
public import Idealize.ShloMosaic.Lib.ValueIdxRank6

@[expose] public section

noncomputable section

namespace Cert.ReferenceIdeal.Row

open Idealize.ShloMosaic Idealize.ShloMosaic.ValueIdx Cert.ReferenceIdeal Cert.ReferenceIdeal.Gen Cert.ReferenceIdeal.Read
open Cert.Attn
open Cert.KernelIdeal.Body (cosT sinT th angOf rowPos colPos rowQ grp)

variable (x0 : (⟨S8x4096x1024, .f32⟩ : BufTy).Contents (Elt Ideal)) (x1 : (⟨S128, .f32⟩ : BufTy).Contents (Elt Ideal))
variable (x2 x3 : (⟨S8x2x4096x128, .bf16⟩ : BufTy).Contents (Elt Ideal))
variable (b : Fin 8) (t : Fin 4096) (h : Fin 8)

/-- A head's queries, in the projection's order. -/
def hq (p : Fin 128) : EReal := x0 (ix3 b t ⟨h.val * 128 + p.val, by omega⟩)

/-! ## The natural order -/

theorem v0_eq (p : Fin 128) : val_main_v0 (F := Ideal) x0 (ix4 b t h p) = hq x0 b t h p :=
  shapeCast_apply x0 _ _ (ix3 b t ⟨h.val * 128 + p.val, by omega⟩) (by
    rw [Shape.rowMajor_val_three, Shape.rowMajor_val_four]
    show (b.val * 4096 + t.val) * 1024 + (h.val * 128 + p.val) = ((b.val * 4096 + t.val) * 8 + h.val) * 128 + p.val
    omega)

theorem v3_eq (n : Fin 128) : val_main_v3 (F := Ideal) x0 (ix4 b t h n) = hq x0 b t h (sw n) := by
  rw [← v0_eq]
  refine (shapeCast_apply _ _ _ (ix6 b t h ⟨n.val / 64, by omega⟩ ⟨n.val / 32 % 2, by omega⟩ ⟨n.val % 32, by omega⟩) ?_).trans
    ((val_main_v2_apply _ _).trans (shapeCast_apply _ _ _ (ix4 b t h (sw n)) ?_))
  · rw [Shape.rowMajor_val_six, Shape.rowMajor_val_four]
    show ((((b.val * 4096 + t.val) * 8 + h.val) * 2 + n.val / 64) * 2 + n.val / 32 % 2) * 32 + n.val % 32
      = ((b.val * 4096 + t.val) * 8 + h.val) * 128 + n.val
    omega
  · rw [Shape.rowMajor_val_six, Shape.rowMajor_val_four]
    show ((b.val * 4096 + t.val) * 8 + h.val) * 128 + (n.val / 32 % 2 * 64 + n.val / 64 * 32 + n.val % 32)
      = ((((b.val * 4096 + t.val) * 8 + h.val) * 2 + n.val / 32 % 2) * 2 + n.val / 64) * 32 + n.val % 32
    omega

theorem v7_eq (g : Fin 2) (j : Fin 4096) (n : Fin 128) :
    val_main_v7 (F := Ideal) x2 (ix4 b g j n) = x2 (ix4 b g j (sw n)) := by
  refine (shapeCast_apply _ _ _ (ix6 b g j ⟨n.val / 64, by omega⟩ ⟨n.val / 32 % 2, by omega⟩ ⟨n.val % 32, by omega⟩) ?_).trans
    ((val_main_v6_apply _ _).trans (shapeCast_apply _ _ _ (ix4 b g j (sw n)) ?_))
  · rw [Shape.rowMajor_val_six, Shape.rowMajor_val_four]
    show ((((b.val * 2 + g.val) * 4096 + j.val) * 2 + n.val / 64) * 2 + n.val / 32 % 2) * 32 + n.val % 32
      = ((b.val * 2 + g.val) * 4096 + j.val) * 128 + n.val
    omega
  · rw [Shape.rowMajor_val_six, Shape.rowMajor_val_four]
    show ((b.val * 2 + g.val) * 4096 + j.val) * 128 + (n.val / 32 % 2 * 64 + n.val / 64 * 32 + n.val % 32)
      = ((((b.val * 2 + g.val) * 4096 + j.val) * 2 + n.val / 32 % 2) * 2 + n.val / 64) * 32 + n.val % 32
    omega

/-! ## The normalised queries -/

theorem word_zero : Ideal.ofBits .f32 0x00000000#32 = 0 := by simp [Ideal.ofBits, Ideal.ieee]

theorem v9_eq : val_main_v9 (F := Ideal) x0 (ix3 b t h) = ∑ p, hq x0 b t h p * hq x0 b t h p := by
  rw [val_main_v9_apply]
  have e : ∀ k : Fin 128, val_main_v8 (F := Ideal) x0 (idx_main_v9 (ix3 b t h) k) = hq x0 b t h (sw k) * hq x0 b t h (sw k) := fun k => by
    rw [show idx_main_v9 (ix3 b t h) k = ix4 b t h k from eq_ix4 _, val_main_v8_apply, v3_eq]
    rfl
  simp only [e]
  rw [sum_sw fun p => hq x0 b t h p * hq x0 b t h p]
  exact (congrArg (fun a : EReal => a + _) word_zero).trans (zero_add _)

theorem v15_eq : val_main_v15 (F := Ideal) x0 (ix4 b t h 0) = rms (hq x0 b t h) := by
  have e : val_main_v10 (F := Ideal) x0 (ix4 b t h 0) = ∑ p, hq x0 b t h p * hq x0 b t h p :=
    (val_main_v10_apply _ _).trans ((congrArg (val_main_v9 (F := Ideal) x0) (eq_ix3 _)).trans (v9_eq x0 b t h))
  rw [val_main_v15_apply, val_main_v14_apply, val_main_v12_apply, e]
  rfl

theorem v20_eq (n : Fin 128) : val_main_v20 (F := Ideal) x0 x1 (ix4 b t h n) = normQ (hq x0 b t h) (fun n => x1 (ix1 n)) (sw n) := by
  have e : val_main_v16 (F := Ideal) x0 (ix4 b t h n) = rms (hq x0 b t h) :=
    (val_main_v16_apply _ _).trans ((congrArg (val_main_v15 (F := Ideal) x0) (eq_ix4 _)).trans (v15_eq x0 b t h))
  have e' : val_main_v19 (F := Ideal) x1 (ix4 b t h n) = x1 (ix1 n) :=
    (val_main_v19_apply _ _).trans ((val_main_v18_apply _ _).trans (congrArg x1 (eq_ix1 _)))
  rw [val_main_v20_apply, val_main_v17_apply, e, e', v3_eq]
  unfold normQ
  rw [sw_sw]
  rfl

/-! ## The angles -/

theorem v42_eq : val_main_v42 (F := Ideal) = angOf rowPos := rfl
theorem v47_eq : val_main_v47 (F := Ideal) = angOf colPos := rfl

theorem row_th (a : Fin 32) : val_main_v42 (F := Ideal) (ix2 t a) = th t ⟨a.val, by omega⟩ := by
  unfold th
  rw [dif_pos a.isLt, v42_eq]

theorem col_th (a : Fin 32) : val_main_v47 (F := Ideal) (ix2 t a) = th t ⟨32 + a.val, by omega⟩ := by
  unfold th
  rw [dif_neg (by show ¬ 32 + a.val < 32; omega), v47_eq]
  exact congrArg _ (congrArg (ix2 t) (Fin.ext (by show a.val = 32 + a.val - 32; omega)))

theorem cos_row (a : Fin 32) : val_main_v50 (F := Ideal) (ix2 t a) = cosT t ⟨a.val, by omega⟩ := congrArg Ideal.cos (row_th t a)
theorem sin_row (a : Fin 32) : val_main_v52 (F := Ideal) (ix2 t a) = sinT t ⟨a.val, by omega⟩ := congrArg Ideal.sin (row_th t a)
theorem cos_col (a : Fin 32) : val_main_v71 (F := Ideal) (ix2 t a) = cosT t ⟨32 + a.val, by omega⟩ := congrArg Ideal.cos (col_th t a)
theorem sin_col (a : Fin 32) : val_main_v73 (F := Ideal) (ix2 t a) = sinT t ⟨32 + a.val, by omega⟩ := congrArg Ideal.sin (col_th t a)

theorem v57_eq (a : Fin 32) : val_main_v57 (F := Ideal) (ix4 b t h a) = cosT t ⟨a.val, by omega⟩ :=
  (val_main_v57_apply _).trans ((val_main_v56_apply _).trans ((val_main_v51_apply _).trans
    ((congrArg (val_main_v50 (F := Ideal)) (eq_ix2 _)).trans (cos_row t a))))
theorem v60_eq (a : Fin 32) : val_main_v60 (F := Ideal) (ix4 b t h a) = sinT t ⟨a.val, by omega⟩ :=
  (val_main_v60_apply _).trans ((val_main_v59_apply _).trans ((val_main_v53_apply _).trans
    ((congrArg (val_main_v52 (F := Ideal)) (eq_ix2 _)).trans (sin_row t a))))
theorem v64_eq (a : Fin 32) : val_main_v64 (F := Ideal) (ix4 b t h a) = cosT t ⟨a.val, by omega⟩ :=
  (val_main_v64_apply _).trans ((val_main_v63_apply _).trans ((val_main_v51_apply _).trans
    ((congrArg (val_main_v50 (F := Ideal)) (eq_ix2 _)).trans (cos_row t a))))
theorem v67_eq (a : Fin 32) : val_main_v67 (F := Ideal) (ix4 b t h a) = sinT t ⟨a.val, by omega⟩ :=
  (val_main_v67_apply _).trans ((val_main_v66_apply _).trans ((val_main_v53_apply _).trans
    ((congrArg (val_main_v52 (F := Ideal)) (eq_ix2 _)).trans (sin_row t a))))
theorem v78_eq (a : Fin 32) : val_main_v78 (F := Ideal) (ix4 b t h a) = cosT t ⟨32 + a.val, by omega⟩ :=
  (val_main_v78_apply _).trans ((val_main_v77_apply _).trans ((val_main_v72_apply _).trans
    ((congrArg (val_main_v71 (F := Ideal)) (eq_ix2 _)).trans (cos_col t a))))
theorem v81_eq (a : Fin 32) : val_main_v81 (F := Ideal) (ix4 b t h a) = sinT t ⟨32 + a.val, by omega⟩ :=
  (val_main_v81_apply _).trans ((val_main_v80_apply _).trans ((val_main_v74_apply _).trans
    ((congrArg (val_main_v73 (F := Ideal)) (eq_ix2 _)).trans (sin_col t a))))
theorem v85_eq (a : Fin 32) : val_main_v85 (F := Ideal) (ix4 b t h a) = cosT t ⟨32 + a.val, by omega⟩ :=
  (val_main_v85_apply _).trans ((val_main_v84_apply _).trans ((val_main_v72_apply _).trans
    ((congrArg (val_main_v71 (F := Ideal)) (eq_ix2 _)).trans (cos_col t a))))
theorem v88_eq (a : Fin 32) : val_main_v88 (F := Ideal) (ix4 b t h a) = sinT t ⟨32 + a.val, by omega⟩ :=
  (val_main_v88_apply _).trans ((val_main_v87_apply _).trans ((val_main_v74_apply _).trans
    ((congrArg (val_main_v73 (F := Ideal)) (eq_ix2 _)).trans (sin_col t a))))

/-! ## The rotations -/

/-- The normalised queries, in the projection's order. -/
abbrev Y : Fin 128 → EReal := normQ (hq x0 b t h) fun n => x1 (ix1 n)

theorem v54_eq (a : Fin 32) : val_main_v54 (F := Ideal) x0 x1 (ix4 b t h a) = Y x0 x1 b t h (sw ⟨a.val, by omega⟩) :=
  (val_main_v54_apply _ _ _).trans ((val_main_v48_apply _ _ _).trans
    ((congrArg (val_main_v20 (F := Ideal) x0 x1) (eq_ix4 _)).trans (v20_eq x0 x1 b t h _)))
theorem v55_eq (a : Fin 32) : val_main_v55 (F := Ideal) x0 x1 (ix4 b t h a) = Y x0 x1 b t h (sw ⟨32 + a.val, by omega⟩) :=
  (val_main_v55_apply _ _ _).trans ((val_main_v48_apply _ _ _).trans
    ((congrArg (val_main_v20 (F := Ideal) x0 x1) (eq_ix4 _)).trans (v20_eq x0 x1 b t h _)))
theorem v75_eq (a : Fin 32) : val_main_v75 (F := Ideal) x0 x1 (ix4 b t h a) = Y x0 x1 b t h (sw ⟨64 + a.val, by omega⟩) :=
  (val_main_v75_apply _ _ _).trans ((val_main_v49_apply _ _ _).trans
    ((congrArg (val_main_v20 (F := Ideal) x0 x1) (eq_ix4 _)).trans (v20_eq x0 x1 b t h _)))
theorem v76_eq (a : Fin 32) : val_main_v76 (F := Ideal) x0 x1 (ix4 b t h a) = Y x0 x1 b t h (sw ⟨64 + (32 + a.val), by omega⟩) :=
  (val_main_v76_apply _ _ _).trans ((val_main_v49_apply _ _ _).trans
    ((congrArg (val_main_v20 (F := Ideal) x0 x1) (eq_ix4 _)).trans (v20_eq x0 x1 b t h _)))

/-- The rotated queries, in the projection's order. -/
abbrev R : Fin 128 → EReal := rotQ (Y x0 x1 b t h) (cosT t) (sinT t)

/-- A lane of a first half, rotated. -/
theorem rot_lo {n n' : Fin 128} {a : Fin 64} (hp : (sw n).val < 64) (hr : rot (sw n) = sw n') (ha : ang (sw n) = a) :
    R x0 x1 b t h (sw n) = Y x0 x1 b t h (sw n) * cosT t a - Y x0 x1 b t h (sw n') * sinT t a := by
  show rotQ _ _ _ _ = _
  unfold rotQ
  rw [if_pos hp, hr, ha]

/-- A lane of a second half, rotated. -/
theorem rot_hi {n n' : Fin 128} {a : Fin 64} (hp : ¬(sw n).val < 64) (hr : rot (sw n) = sw n') (ha : ang (sw n) = a) :
    R x0 x1 b t h (sw n) = Y x0 x1 b t h (sw n) * cosT t a + Y x0 x1 b t h (sw n') * sinT t a := by
  show rotQ _ _ _ _ = _
  unfold rotQ
  rw [if_neg hp, hr, ha]

theorem v62_eq (a : Fin 32) : val_main_v62 (F := Ideal) x0 x1 (ix4 b t h a) = R x0 x1 b t h (sw ⟨a.val, by omega⟩) := by
  rw [val_main_v62_apply, val_main_v58_apply, val_main_v61_apply, v54_eq, v55_eq, v57_eq, v60_eq,
    rot_lo x0 x1 b t h (n := ⟨a.val, by omega⟩) (n' := ⟨32 + a.val, by omega⟩) (a := ⟨a.val, by omega⟩)
      (by revert a; decide) (by revert a; decide) (by revert a; decide)]
  rfl

theorem v69_eq (a : Fin 32) : val_main_v69 (F := Ideal) x0 x1 (ix4 b t h a) = R x0 x1 b t h (sw ⟨32 + a.val, by omega⟩) := by
  rw [val_main_v69_apply, val_main_v65_apply, val_main_v68_apply, v54_eq, v55_eq, v64_eq, v67_eq,
    rot_hi x0 x1 b t h (n := ⟨32 + a.val, by omega⟩) (n' := ⟨a.val, by omega⟩) (a := ⟨a.val, by omega⟩)
      (by revert a; decide) (by revert a; decide) (by revert a; decide)]
  rfl

theorem v83_eq (a : Fin 32) : val_main_v83 (F := Ideal) x0 x1 (ix4 b t h a) = R x0 x1 b t h (sw ⟨64 + a.val, by omega⟩) := by
  rw [val_main_v83_apply, val_main_v79_apply, val_main_v82_apply, v75_eq, v76_eq, v78_eq, v81_eq,
    rot_lo x0 x1 b t h (n := ⟨64 + a.val, by omega⟩) (n' := ⟨64 + (32 + a.val), by omega⟩) (a := ⟨32 + a.val, by omega⟩)
      (by revert a; decide) (by revert a; decide) (by revert a; decide)]
  rfl

theorem v90_eq (a : Fin 32) : val_main_v90 (F := Ideal) x0 x1 (ix4 b t h a) = R x0 x1 b t h (sw ⟨64 + (32 + a.val), by omega⟩) := by
  rw [val_main_v90_apply, val_main_v86_apply, val_main_v89_apply, v75_eq, v76_eq, v85_eq, v88_eq,
    rot_hi x0 x1 b t h (n := ⟨64 + (32 + a.val), by omega⟩) (n' := ⟨64 + a.val, by omega⟩) (a := ⟨32 + a.val, by omega⟩)
      (by revert a; decide) (by revert a; decide) (by revert a; decide)]
  rfl

/-- Two halves of a last axis joined, at a lane. -/
theorem join_apply {n d : ℕ} (hn : n = d + d) (x y : (⟨4, ![8, 4096, 8, d]⟩ : Shape).Idx → EReal) (hc) (l : Fin n) :
    concatenate ⟨4, ![8, 4096, 8, n]⟩ 3 [⟨⟨4, ![8, 4096, 8, d]⟩, x⟩, ⟨⟨4, ![8, 4096, 8, d]⟩, y⟩] hc (ix4 b t h l)
      = if hl : l.val < d then x (ix4 b t h ⟨l.val, hl⟩) else y (ix4 b t h ⟨l.val - d, by omega⟩) := by
  split
  · refine concatenate_pair_apply_left (t := ⟨4, ![8, 4096, 8, n]⟩) (s₁ := ⟨4, ![8, 4096, 8, d]⟩) (s₂ := ⟨4, ![8, 4096, 8, d]⟩) 3 _ _ _ _ rfl _ fun a => ?_
    match a with
    | ⟨0, _⟩ => rfl
    | ⟨1, _⟩ => rfl
    | ⟨2, _⟩ => rfl
    | ⟨3, _⟩ => rfl
  · rename_i hl
    refine concatenate_pair_apply_right (t := ⟨4, ![8, 4096, 8, n]⟩) (s₁ := ⟨4, ![8, 4096, 8, d]⟩) (s₂ := ⟨4, ![8, 4096, 8, d]⟩) 3 _ _ _ _ rfl rfl _ (fun a ha => ?_) ?_
    · match a with
      | ⟨0, _⟩ => rfl
      | ⟨1, _⟩ => rfl
      | ⟨2, _⟩ => rfl
      | ⟨3, _⟩ => exact absurd rfl ha
    · show l.val - d + d = l.val
      omega

theorem v92_eq (n : Fin 128) : val_main_v92 (F := Ideal) x0 x1 (ix4 b t h n) = R x0 x1 b t h (sw n) := by
  refine (join_apply b t h (n := 128) (d := 64) rfl _ _ _ n).trans ?_
  split
  · refine (join_apply b t h (n := 64) (d := 32) rfl _ _ _ _).trans ?_
    split
    · exact v62_eq x0 x1 b t h _
    · refine (v69_eq x0 x1 b t h _).trans (congrArg (fun q => R x0 x1 b t h (sw q)) (Fin.ext ?_))
      show 32 + (n.val - 32) = n.val
      rename_i h1 h2
      have : ¬ n.val < 32 := h2
      omega
  · refine (join_apply b t h (n := 64) (d := 32) rfl _ _ _ _).trans ?_
    rename_i h1
    split
    · refine (v83_eq x0 x1 b t h _).trans (congrArg (fun q => R x0 x1 b t h (sw q)) (Fin.ext ?_))
      show 64 + (n.val - 64) = n.val
      omega
    · refine (v90_eq x0 x1 b t h _).trans (congrArg (fun q => R x0 x1 b t h (sw q)) (Fin.ext ?_))
      show 64 + (32 + (n.val - 64 - 32)) = n.val
      rename_i h2
      have : ¬ n.val - 64 < 32 := h2
      omega

/-! ## The logits -/

/-- A group's head. -/
def hd (g : Fin 2) (r : Fin 4) : Fin 8 := ⟨g.val * 4 + r.val, by omega⟩

variable (g : Fin 2) (r : Fin 4)

/-- A query's logits against its group's keys. -/
abbrev L : Fin 4096 → EReal :=
  refL (hq x0 b t (hd g r)) (fun n => x1 (ix1 n)) (cosT t) (sinT t) fun j p => x2 (ix4 b g j p)

theorem v95_eq (n : Fin 128) : val_main_v95 (F := Ideal) x0 x1 (ix4 b t h n)
    = Ideal.div (R x0 x1 b t h (sw n)) (Ideal.sqrt (Ideal.ofBits .f32 0x43000000#32)) := by
  rw [val_main_v95_apply, v92_eq, val_main_v94_apply]
  rfl

theorem v96_eq (n : Fin 128) : val_main_v96 (F := Ideal) x0 x1 (ix5 b t g r n)
    = Ideal.div (R x0 x1 b t (hd g r) (sw n)) (Ideal.sqrt (Ideal.ofBits .f32 0x43000000#32)) := by
  rw [← v95_eq]
  refine shapeCast_apply _ _ _ (ix4 b t (hd g r) n) ?_
  rw [Shape.rowMajor_val_four, Shape.rowMajor_val_five]
  show ((b.val * 4096 + t.val) * 8 + (g.val * 4 + r.val)) * 128 + n.val
    = (((b.val * 4096 + t.val) * 2 + g.val) * 4 + r.val) * 128 + n.val
  omega

theorem v98_eq (s : Fin 4096) : val_main_v98 (F := Ideal) x0 x1 x2 (ix5 b g r t s) = L x0 x1 x2 b t g r s := by
  refine (val_main_v98_apply _ _ _ _).trans ((val_main_v97_apply _ _ _ _).trans (Finset.sum_congr rfl fun n _ => ?_))
  exact congrArg₂ (fun a c : EReal => a * c)
    ((congrArg (val_main_v7 (F := Ideal) x2) (eq_ix4 _)).trans (v7_eq x2 b g s n))
    ((congrArg (val_main_v96 (F := Ideal) x0 x1) (eq_ix5 _)).trans (v96_eq x0 x1 b t g r n))

/-! ## The softmax -/

theorem word_bot : Ideal.ofBits .f32 0xFF800000#32 = ⊥ := by simp [Ideal.ofBits, Ideal.ieee]

/-- A reduce to the maximum over the last axis, from −∞. -/
theorem reduce_top (y : S8x2x4x4096x4096.Idx → Ideal .f32) (init : S_.Idx → Ideal .f32) (h0 : init (Shape.Idx.first h_S_) = (⊥ : EReal)) :
    Host.reduce FloatOps.maximumf y init reducesTo_S8x2x4x4096x4096_S8x2x4x4096_d4 h_S_ (ix4 b g r t)
      = top fun s : Fin 4096 => y (ix5 b g r t s) := by
  have hr : S8x2x4x4096x4096.Reduces [4] S8x2x4x4096 := by decide
  rw [Host.reduce_eq_fold_single FloatOps.maximumf y _ _ hr, h0]
  have hf : (y ∘ hr.lift (ix4 b g r t)) = fun s : Fin 4096 => y (ix5 b g r t s) := funext fun k =>
    congrArg y (funext fun a => Fin.ext (by
      match a with | ⟨0, _⟩ => rfl | ⟨1, _⟩ => rfl | ⟨2, _⟩ => rfl | ⟨3, _⟩ => rfl | ⟨4, _⟩ => rfl))
  exact congrArg (fun f => Finset.fold max (⊥ : EReal) f (Finset.univ : Finset (Fin 4096))) hf

theorem v99_eq : val_main_v99 (F := Ideal) x0 x1 x2 (ix4 b g r t) = top (L x0 x1 x2 b t g r) := by
  have hf : (fun s : Fin 4096 => val_main_v98 (F := Ideal) x0 x1 x2 (ix5 b g r t s)) = L x0 x1 x2 b t g r :=
    funext (v98_eq x0 x1 x2 b t g r)
  rw [← hf]
  unfold val_main_v99
  generalize val_main_v98 (F := Ideal) x0 x1 x2 = y
  exact reduce_top b t g r y _ word_bot

theorem v101_eq : val_main_v101 (F := Ideal) x0 x1 x2 (ix4 b g r t) = top (L x0 x1 x2 b t g r) := by
  rw [val_main_v101_apply, v99_eq, val_main_v100_apply]
  exact (congrArg (fun w : EReal => max w _) word_bot).trans (max_eq_right bot_le)

/-- A key's unnormalised weight. -/
abbrev E (s : Fin 4096) : EReal := Ideal.exp (L x0 x1 x2 b t g r s - top (L x0 x1 x2 b t g r))

theorem v105_eq (s : Fin 4096) : val_main_v105 (F := Ideal) x0 x1 x2 (ix5 b g r t s) = E x0 x1 x2 b t g r s := by
  have e : val_main_v103 (F := Ideal) x0 x1 x2 (ix5 b g r t s) = top (L x0 x1 x2 b t g r) :=
    (val_main_v103_apply _ _ _ _).trans ((val_main_v102_apply _ _ _ _).trans
      ((congrArg (val_main_v101 (F := Ideal) x0 x1 x2) (eq_ix4 _)).trans (v101_eq x0 x1 x2 b t g r)))
  rw [val_main_v105_apply, val_main_v104_apply, v98_eq, e]
  rfl

theorem v106_eq : val_main_v106 (F := Ideal) x0 x1 x2 (ix4 b g r t) = 0 + ∑ s, E x0 x1 x2 b t g r s := by
  refine (val_main_v106_apply _ _ _ _).trans (congrArg₂ (fun a c : EReal => a + c) word_zero (Finset.sum_congr rfl fun s _ => ?_))
  exact (congrArg (val_main_v105 (F := Ideal) x0 x1 x2) (eq_ix5 _)).trans (v105_eq x0 x1 x2 b t g r s)

theorem v110_eq (s : Fin 4096) : val_main_v110 (F := Ideal) x0 x1 x2 (ix5 b g r t s)
    = Ideal.div (E x0 x1 x2 b t g r s) (0 + ∑ i, E x0 x1 x2 b t g r i) := by
  have e : val_main_v108 (F := Ideal) x0 x1 x2 (ix5 b g r t s) = 0 + ∑ i, E x0 x1 x2 b t g r i :=
    (val_main_v108_apply _ _ _ _).trans ((val_main_v107_apply _ _ _ _).trans
      ((congrArg (val_main_v106 (F := Ideal) x0 x1 x2) (eq_ix4 _)).trans (v106_eq x0 x1 x2 b t g r)))
  rw [val_main_v110_apply, val_main_v109_apply, v105_eq, e]
  rfl

/-! ## The output -/

theorem v111_eq (d : Fin 128) : val_main_v111 (F := Ideal) x0 x1 x2 x3 (ix5 b g d r t)
    = refRow (hq x0 b t (hd g r)) (fun n => x1 (ix1 n)) (cosT t) (sinT t) (fun j p => x2 (ix4 b g j p))
        fun j => x3 (ix4 b g j d) := by
  refine (val_main_v111_apply _ _ _ _ _).trans (Finset.sum_congr rfl fun s _ => ?_)
  exact congrArg₂ (fun a c : EReal => a * c) (congrArg x3 (eq_ix4 _))
    ((congrArg (val_main_v110 (F := Ideal) x0 x1 x2) (eq_ix5 _)).trans (v110_eq x0 x1 x2 b t g r s))

/-- The reference's result, an element at a time. -/
theorem v114_eq (e : Fin 1024) : val_main_v114 (F := Ideal) x0 x1 x2 x3 (ix3 b t e)
    = refRow (rowQ x0 b t e) (fun n => x1 (ix1 n)) (cosT t) (sinT t) (fun j p => x2 (ix4 b (grp e) j p))
        fun j => x3 (ix4 b (grp e) j ⟨e.val % 128, by omega⟩) := by
  have hq_eq : hq x0 b t (hd (grp e) ⟨e.val / 128 % 4, by omega⟩) = rowQ x0 b t e := funext fun p =>
    congrArg (fun q => x0 (ix3 b t q)) (Fin.ext (by
      show (e.val / 512 * 4 + e.val / 128 % 4) * 128 + p.val = e.val / 128 * 128 + p.val
      omega))
  rw [← hq_eq, ← v111_eq]
  refine (val_main_v114_apply _ _ _ _ _).trans ((shapeCast_apply _ _ _ (ix5 b t (grp e) ⟨e.val / 128 % 4, by omega⟩ ⟨e.val % 128, by omega⟩) ?_).trans
    ((val_main_v112_apply _ _ _ _ _).trans (congrArg (val_main_v111 (F := Ideal) x0 x1 x2 x3) (eq_ix5 _))))
  rw [Shape.rowMajor_val_five, Shape.rowMajor_val_three]
  show (((b.val * 4096 + t.val) * 2 + e.val / 512) * 4 + e.val / 128 % 4) * 128 + e.val % 128 = (b.val * 4096 + t.val) * 1024 + e.val
  omega

end Cert.ReferenceIdeal.Row

end
-- ==== Proof.Algebraic.lean ====
/-
  The kernel's result is the reference's, for finite gain and keys.
-/
module

public import proofs.«01_k».proof.Defs
public import proofs.«01_k».proof.Proof.ReferenceValue

@[expose] public section

namespace Cert.Proof

open Idealize.ShloMosaic Idealize.ShloMosaic.ValueIdx Idealize.SL.Sem Cert.Attn
open Cert.KernelIdeal.Body (result fin_cosT fin_sinT)

/-- The precondition's shape facts. -/
theorem pre_facts : Cert.Pre_gain_and_keys_finite.Facts := ⟨by decide, by decide⟩

/-- Below +∞ in magnitude is finite. -/
theorem fin_of_abs_lt {x w : EReal} (hw : w = ⊤) (h : Ideal.cmp .olt (max x (-x)) w = 1#1) : Fin' x := by
  subst hw
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  refine (fin_iff x).2 ⟨fun hx => ?_, fun hx => ?_⟩
  · subst hx; exact absurd hlt (by simp)
  · subst hx; exact absurd hlt (by simp)

theorem word_top : Ideal.ofBits .f32 0x7F800000#32 = ⊤ := by simp [Ideal.ofBits, Ideal.ieee]
theorem word_top16 : Ideal.ofBits .bf16 0x7F80#16 = ⊤ := by simp [Ideal.ofBits, Ideal.ieee]

section

variable (m : (ℓ : Loc Cert.KernelIdeal.nD Cert.KernelIdeal.τ Cert.KernelIdeal.sig) → Buf (Elt Ideal) ℓ)
variable (hm : Cert.Pre_KernelIdeal_gain_and_keys_finite (hPre_gain_and_keys_finite := pre_facts) m) (c : Dev Cert.KernelIdeal.nD)

include hm

/-- Under the precondition the gain is finite. -/
theorem fin_gain (n : Fin 128) :
    Fin' ((m ((c.tc : Thread Cert.KernelIdeal.nD Cert.KernelIdeal.τ).loc Cert.KernelIdeal.main_arg1) : Cert.KernelIdeal.S128.Idx → EReal) (ix1 n)) :=
  fin_of_abs_lt word_top (congrFun (hm c).1 (ix1 n))

/-- So are the keys. -/
theorem fin_keys (b : Fin 8) (g : Fin 2) (j : Fin 4096) (p : Fin 128) :
    Fin' ((m ((c.tc : Thread Cert.KernelIdeal.nD Cert.KernelIdeal.τ).loc Cert.KernelIdeal.main_arg2) : Cert.KernelIdeal.S8x2x4096x128.Idx → EReal) (ix4 b g j p)) :=
  fin_of_abs_lt word_top16 (congrFun (hm c).2 (ix4 b g j p))

/-- Under the precondition the reference's value of the kernel's arguments is the kernel's result. -/
theorem value_eq : Cert.ReferenceIdeal.Read.val_main_v114 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = result m c := by
  funext i
  have hi : i = ix3 (i 0) (i 1) (i 2) := eq_ix3 i
  rw [hi]
  exact (Cert.ReferenceIdeal.Row.v114_eq _ _ _ _ (i 0) (i 1) (i 2)).trans
    (ker_eq_ref (fin_gain m hm c) (fin_cosT _) (fin_sinT _) (fun j p => fin_keys m hm c _ _ j p) _).symm

end

/-- Over the extended reals the kernel computes the reference's attention, whenever the gain and the keys are finite. -/
theorem algebraic : Cert.algebraic_KernelIdeal_ReferenceIdeal_pre_gain_and_keys_finite (hKernelIdeal := Cert.KernelIdeal.Gen.facts)
    (hReferenceIdeal := Cert.ReferenceIdeal.Gen.facts) (hPre_gain_and_keys_finite := pre_facts) := by
  intro m ρ m' ρ' hm hargs
  refine ⟨fun c => result m c, Cert.KernelIdeal.Body.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3⟩ := hargs c
  rw [Cert.ReferenceIdeal.Read.val_main_v114_eq, e0, e1, e2, e3]
  exact value_eq m hm c

end Cert.Proof
-- ==== Proof.FeedForwardMath.lean ====
/-
  The feed-forward part over the extended reals, one token at a time: the residual with the attention's projection, the
  normalised row, the squared rectifier, and the sum over the hidden channels, whole and in four chunks.
-/
module

public import Idealize.ShloMosaic.PureOps.Ideal

@[expose] public section

noncomputable section

namespace Cert.Ffn

open Idealize.ShloMosaic

/-- The reciprocal root of the mean square of a row of 1024, with its small number added. -/
def rms (y : Fin 1024 → EReal) : EReal :=
  Ideal.rsqrt (Ideal.div (∑ p, y p * y p) (Ideal.ofBits .f32 0x44800000#32) + Ideal.ofBits .f32 0x358637BD#32)

/-- A normalised entry. -/
def norm (y g : Fin 1024 → EReal) (p : Fin 1024) : EReal := y p * rms y * g p

/-- The squared rectifier. -/
def relu2 (z : EReal) : EReal := max z 0 * max z 0

/-- The residual and the attention's projection. -/
def res (x a : Fin 1024 → EReal) (w : Fin 1024 → Fin 1024 → EReal) (p : Fin 1024) : EReal := x p + ∑ k, a k * w k p

/-- A hidden channel. -/
def hid {n : ℕ} (y : Fin 1024 → EReal) (u : Fin 1024 → Fin n → EReal) (f : Fin n) : EReal := relu2 (∑ k, y k * u k f)

/-- The hidden channels of one chunk, projected down. -/
def part {n : ℕ} (y : Fin 1024 → EReal) (u : Fin 1024 → Fin n → EReal) (d : Fin n → Fin 1024 → EReal) (p : Fin 1024) : EReal :=
  ∑ f, hid y u f * d f p

/-- A hidden channel of a chunk of 1024 among the 4096. -/
def ch (c : Fin 4) (f : Fin 1024) : Fin 4096 := ⟨c.val * 1024 + f.val, by omega⟩

/-- The chunks cover the hidden channels once. -/
theorem sum_ch (F : Fin 4096 → EReal) : ∑ c : Fin 4, ∑ f : Fin 1024, F (ch c f) = ∑ f, F f := by
  rw [← Finset.sum_product' Finset.univ Finset.univ fun c f => F (ch c f)]
  refine Finset.sum_bij' (fun q _ => ch q.1 q.2) (fun f _ => (⟨f.val / 1024, by omega⟩, ⟨f.val % 1024, by omega⟩)) (fun _ _ => Finset.mem_univ _)
    (fun _ _ => Finset.mem_univ _) (fun q _ => ?_) (fun f _ => ?_) fun _ _ => rfl
  · refine Prod.ext (Fin.ext ?_) (Fin.ext ?_)
    · show (q.1.val * 1024 + q.2.val) / 1024 = q.1.val
      omega
    · show (q.1.val * 1024 + q.2.val) % 1024 = q.2.val
      omega
  · refine Fin.ext ?_
    show f.val / 1024 * 1024 + f.val % 1024 = f.val
    omega

/-- A chunk's columns of the up projection, and its rows of the down projection. -/
def cols (u : Fin 1024 → Fin 4096 → EReal) (c : Fin 4) (k f : Fin 1024) : EReal := u k (ch c f)
def rows (d : Fin 4096 → Fin 1024 → EReal) (c : Fin 4) (f p : Fin 1024) : EReal := d (ch c f) p

/-- The four chunks, added one after the other, are the whole sum. -/
theorem chunks (s : EReal) (y : Fin 1024 → EReal) (u : Fin 1024 → Fin 4096 → EReal) (d : Fin 4096 → Fin 1024 → EReal) (p : Fin 1024) :
    s + part y (cols u 0) (rows d 0) p + part y (cols u 1) (rows d 1) p + part y (cols u 2) (rows d 2) p + part y (cols u 3) (rows d 3) p
      = s + part y u d p := by
  have h : part y u d p = ∑ c : Fin 4, part y (cols u c) (rows d c) p := (sum_ch fun f => hid y u f * d f p).symm
  rw [h, Fin.sum_univ_four]
  simp only [add_assoc]

/-- The row after the feed-forward part. -/
def mid (y g : Fin 1024 → EReal) (u : Fin 1024 → Fin 4096 → EReal) (d : Fin 4096 → Fin 1024 → EReal) (p : Fin 1024) : EReal :=
  y p + part (norm y g) u d p

/-- The row of the result. -/
def out (x a : Fin 1024 → EReal) (w : Fin 1024 → Fin 1024 → EReal) (g : Fin 1024 → EReal) (u : Fin 1024 → Fin 4096 → EReal)
    (d : Fin 4096 → Fin 1024 → EReal) (gf : Fin 1024 → EReal) : Fin 1024 → EReal := norm (mid (res x a w) g u d) gf

end Cert.Ffn

end
-- ==== Proof.FeedForwardRow.lean ====
/-
  The feed-forward kernel's body over the extended reals: the block that it stores, entry by entry, from the blocks that it reads.
-/
module

public import Idealize.ShloMosaic.Lib.ValueIdx
public import Idealize.ShloMosaic.Lib.KernelVsHost
public import Idealize.ShloMosaic.Lib.Pipeline.ValueKit.Tiles
public import proofs.«01_k».proof.Proof.FeedForwardMath
public import proofs.«01_k».proof.Proof.Gen.FeedForwardIdeal.Frame

@[expose] public section

noncomputable section

namespace Cert.FeedForwardIdeal.Body

open Idealize.ShloMosaic Idealize.ShloMosaic.ValueIdx Cert.FeedForwardIdeal Cert.FeedForwardIdeal.Gen Cert.Ffn

/-! ## Operations at an index -/

theorem cast_col {α : Type} (x : S512.Idx → α) (h : S512.ShapeCasts S512x1) (r : Fin 512) : shapeCast S512x1 x h (ix2 r 0) = x (ix1 r) := by
  refine shapeCast_apply x h _ _ ?_
  rw [Shape.rowMajor_val_one, Shape.rowMajor_val_two]
  show r.val = r.val * 1 + 0
  omega

theorem bcast_col {α : Type} (x : S512x1.Idx → α) (h : S512x1.Broadcasts S512x1024) (r : Fin 512) (p : Fin 1024) :
    broadcastTo S512x1024 x h (ix2 r p) = x (ix2 r 0) := by
  refine broadcastTo_apply x h _ _ fun a => ?_
  match a with
  | ⟨0, _⟩ => rfl
  | ⟨1, _⟩ => rfl

theorem bcast_row {α : Type} (x : S1x1024.Idx → α) (h : S1x1024.Broadcasts S512x1024) (r : Fin 512) (p : Fin 1024) :
    broadcastTo S512x1024 x h (ix2 r p) = x (ix2 0 p) := by
  refine broadcastTo_apply x h _ _ fun a => ?_
  match a with
  | ⟨0, _⟩ => rfl
  | ⟨1, _⟩ => rfl

/-- A cast of a shape to itself. -/
theorem cast_self {α : Type} {s : Shape} (x : s.Idx → α) (h : s.ShapeCasts s) : shapeCast s x h = x :=
  funext fun i => shapeCast_apply x h i i rfl

theorem sum_row (x : FVec Ideal S512x1024 .f32) (h : S512x1024.Reduces [1] S512) (hφ) (hacc) (r : Fin 512) :
    multiReduction .add [1] S512 x 0x00000000#32 h hφ hacc (ix1 r) = ∑ p : Fin 1024, x (ix2 r p) := by
  rw [Ideal.multiReduction_add_single]
  refine Finset.sum_congr rfl fun p _ => congrArg x (funext fun a => ?_)
  match a with
  | ⟨0, _⟩ => rfl
  | ⟨1, _⟩ => rfl

theorem dot_apply (a : FVec Ideal S512x1024 .bf16) (b : FVec Ideal S1024x1024 .bf16) (r : Fin 512) (p : Fin 1024) :
    matmul dot_S512x1024_S1024x1024_S512x1024_1_0_0_1_n_n none a b (constant S512x1024 .f32 0x00000000#32) (ix2 r p)
      = ∑ k : Fin 1024, a (ix2 r k) * b (ix2 k p) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  congr 1
  · refine congrArg a (funext fun d => ?_)
    match d with
    | ⟨0, _⟩ => rfl
    | ⟨1, _⟩ => rfl
  · refine congrArg b (funext fun d => ?_)
    match d with
    | ⟨0, _⟩ => rfl
    | ⟨1, _⟩ => rfl

/-! ## The normalised block -/

section

variable {F : FTy → Type} [FloatOps F]

/-- The mean squares of a block's rows, with the small number added. -/
def meanV (y : FVec F S512x1024 .f32) : FVec F S512x1 .f32 :=
  addf (divf (shapeCast S512x1 (multiReduction .add [1] S512 (mulf y y) 0x00000000#32 reduces_S512x1024_S512 (.inl rfl) rfl) shapeCasts_S512_S512x1)
    (broadcast S512x1 (Scalar.ofBits .f32 0x44800000#32))) (broadcast S512x1 (Scalar.ofBits .f32 0x358637BD#32))

/-- A block, each row normalised. -/
def normV (y : FVec F S512x1024 .f32) (g : Vec F S1x1024 .f32) : FVec F S512x1024 .f32 :=
  mulf (mulf y (broadcastTo S512x1024 (rsqrt (meanV y)) broadcasts_S512x1_S512x1024))
    (broadcastTo S512x1024 (shapeCast S1x1024 g shapeCasts_S1x1024_S1x1024) broadcasts_S1x1024_S512x1024)

/-- A block plus one chunk of the feed-forward part. -/
def chunkV (acc : FVec F S512x1024 .f32) (n : FVec F S512x1024 .bf16) (u d : Vec F S1024x1024 .bf16) : FVec F S512x1024 .f32 :=
  addf acc (matmul dot_S512x1024_S1024x1024_S512x1024_1_0_0_1_n_n none
    (truncf .bf16 (mulf
      (maximumf (matmul dot_S512x1024_S1024x1024_S512x1024_1_0_0_1_n_n none n (shapeCast S1024x1024 u shapeCasts_S1024x1024_S1024x1024)
        (constant S512x1024 .f32 0x00000000#32)) (broadcast S512x1024 (Scalar.ofBits .f32 0x00000000#32)))
      (maximumf (matmul dot_S512x1024_S1024x1024_S512x1024_1_0_0_1_n_n none n (shapeCast S1024x1024 u shapeCasts_S1024x1024_S1024x1024)
        (constant S512x1024 .f32 0x00000000#32)) (broadcast S512x1024 (Scalar.ofBits .f32 0x00000000#32)))) bitsLt_bf16_f32)
    (shapeCast S1024x1024 d shapeCasts_S1024x1024_S1024x1024) (constant S512x1024 .f32 0x00000000#32))

/-- The residual block. -/
abbrev resV (x : Vec F S512x1024 .f32) (a : Vec F S512x1024 .bf16) (w : Vec F S1024x1024 .bf16) : FVec F S512x1024 .f32 := k0_pay2 x a w

/-- The residual block, normalised. -/
abbrev hV (x : Vec F S512x1024 .f32) (a : Vec F S512x1024 .bf16) (w : Vec F S1024x1024 .bf16) (g : Vec F S1x1024 .f32) : FVec F S512x1024 .bf16 :=
  truncf .bf16 (normV (resV x a w) g) bitsLt_bf16_f32

variable (x0 : Vec F S512x1024 .f32) (x1 : Vec F S512x1024 .bf16) (x2 : Vec F S1024x1024 .bf16) (x3 : Vec F S1x1024 .f32)
variable (x4 : Vec F S1024x4096 .bf16) (x5 : Vec F S4096x1024 .bf16) (x6 : Vec F S1x1024 .f32)

/-- The block after the feed-forward part. -/
def midV : FVec F S512x1024 .f32 :=
  chunkV (chunkV (chunkV (chunkV (resV x0 x1 x2) (hV x0 x1 x2 x3) (View.ld x4 r0_3) (View.ld x5 r0_4))
    (hV x0 x1 x2 x3) (View.ld x4 r0_5) (View.ld x5 r0_6)) (hV x0 x1 x2 x3) (View.ld x4 r0_7) (View.ld x5 r0_8))
    (hV x0 x1 x2 x3) (View.ld x4 r0_9) (View.ld x5 r0_10)

/-- What the body stores. -/
theorem out_eq : out0_7 x0 x1 x2 x3 x4 x5 x6 = normV (midV x0 x1 x2 x3 x4 x5) x6 := by
  unfold out0_7
  rw [View.canon_cons_unit_lit _ _ _ (by decide)]
  unfold k0_pay10 k0_pay11 k0_pay12 k0_pay13
  rw [View.ld_unit_lit _ x0 (by decide), View.ld_unit_lit _ x1 (by decide), View.ld_unit_lit _ x2 (by decide), View.ld_unit_lit _ x3 (by decide),
    View.ld_unit_lit _ x6 (by decide)]
  rfl

end

/-! ## At an index -/

theorem word_zero : (Scalar.ofBits .f32 0x00000000#32 : Ideal .f32) = (0 : EReal) := by
  show Ideal.ofBits .f32 0x00000000#32 = 0
  simp [Ideal.ofBits, Ideal.ieee]

theorem normV_apply (y : FVec Ideal S512x1024 .f32) (g : Vec Ideal S1x1024 .f32) (r : Fin 512) (p : Fin 1024) :
    normV y g (ix2 r p) = norm (fun k => y (ix2 r k)) (fun k => g (ix2 0 k)) p := by
  unfold normV
  rw [mulf_apply, mulf_apply, bcast_col, bcast_row, cast_self]
  have hs : shapeCast S512x1 (multiReduction .add [1] S512 (mulf y y) 0x00000000#32 reduces_S512x1024_S512 (.inl rfl) rfl) shapeCasts_S512_S512x1 (ix2 r 0)
      = ∑ k : Fin 1024, y (ix2 r k) * y (ix2 r k) := by
    rw [cast_col]
    exact sum_row _ _ _ _ r
  show y (ix2 r p) * Ideal.rsqrt (Ideal.div (shapeCast S512x1 _ _ (ix2 r 0)) (Ideal.ofBits .f32 0x44800000#32)
    + Ideal.ofBits .f32 0x358637BD#32) * g (ix2 0 p) = _
  rw [hs]
  rfl

theorem chunkV_apply (acc : FVec Ideal S512x1024 .f32) (n : FVec Ideal S512x1024 .bf16) (u d : Vec Ideal S1024x1024 .bf16) (r : Fin 512) (p : Fin 1024) :
    chunkV acc n u d (ix2 r p)
      = acc (ix2 r p) + part (fun k => n (ix2 r k)) (fun k f => u (ix2 k f)) (fun f q => d (ix2 f q)) p := by
  unfold chunkV
  rw [cast_self, cast_self, addf_apply, dot_apply]
  refine congrArg (fun a : EReal => acc (ix2 r p) + a) (Finset.sum_congr rfl fun f _ => congrArg (fun a : EReal => a * d (ix2 f p)) ?_)
  show max (matmul _ none n u _ (ix2 r f)) (Scalar.ofBits .f32 0x00000000#32 : Ideal .f32) * max (matmul _ none n u _ (ix2 r f)) (Scalar.ofBits .f32 0x00000000#32 : Ideal .f32) = _
  rw [word_zero, dot_apply]
  rfl

theorem resV_apply (x : Vec Ideal S512x1024 .f32) (a : Vec Ideal S512x1024 .bf16) (w : Vec Ideal S1024x1024 .bf16) (r : Fin 512) (p : Fin 1024) :
    resV x a w (ix2 r p) = res (fun k => x (ix2 r k)) (fun k => a (ix2 r k)) (fun k q => w (ix2 k q)) p := by
  unfold resV k0_pay2
  rw [cast_self]
  rw [addf_apply, dot_apply]
  rfl

theorem ld_cols (x : Vec Ideal S1024x4096 .bf16) (c : Fin 4) (off) (h) (h0 : off 0 = 0) (h1 : off 1 = c.val * 1024) (k f : Fin 1024) :
    View.ld x (Rect.unit (s := S1024x4096) off S1024x1024.size h) (ix2 k f) = x (ix2 k (ch c f)) :=
  congrArg x (funext fun a => Fin.ext ((Rect.idx_unit_val (s := S1024x4096) _ _ _ _ a).trans (by
    match a with
    | ⟨0, _⟩ => show off 0 + k.val = k.val; omega
    | ⟨1, _⟩ => show off 1 + f.val = c.val * 1024 + f.val; omega)))

theorem ld_rows (x : Vec Ideal S4096x1024 .bf16) (c : Fin 4) (off) (h) (h0 : off 0 = c.val * 1024) (h1 : off 1 = 0) (f p : Fin 1024) :
    View.ld x (Rect.unit (s := S4096x1024) off S1024x1024.size h) (ix2 f p) = x (ix2 (ch c f) p) :=
  congrArg x (funext fun a => Fin.ext ((Rect.idx_unit_val (s := S4096x1024) _ _ _ _ a).trans (by
    match a with
    | ⟨0, _⟩ => show off 0 + f.val = c.val * 1024 + f.val; omega
    | ⟨1, _⟩ => show off 1 + p.val = p.val; omega)))

section

variable (x0 : Vec Ideal S512x1024 .f32) (x1 : Vec Ideal S512x1024 .bf16) (x2 : Vec Ideal S1024x1024 .bf16) (x3 : Vec Ideal S1x1024 .f32)
variable (x4 : Vec Ideal S1024x4096 .bf16) (x5 : Vec Ideal S4096x1024 .bf16) (x6 : Vec Ideal S1x1024 .f32)

theorem midV_apply (r : Fin 512) (p : Fin 1024) : midV x0 x1 x2 x3 x4 x5 (ix2 r p)
    = mid (res (fun k => x0 (ix2 r k)) (fun k => x1 (ix2 r k)) (fun k q => x2 (ix2 k q))) (fun k => x3 (ix2 0 k)) (fun k f => x4 (ix2 k f))
        (fun f q => x5 (ix2 f q)) p := by
  have hn : (fun k => hV x0 x1 x2 x3 (ix2 r k)) = norm (res (fun k => x0 (ix2 r k)) (fun k => x1 (ix2 r k)) (fun k q => x2 (ix2 k q))) (fun k => x3 (ix2 0 k)) := by
    funext k
    refine (normV_apply (resV x0 x1 x2) x3 r k).trans ?_
    rw [show (fun k => resV x0 x1 x2 (ix2 r k)) = _ from funext fun k => resV_apply x0 x1 x2 r k]
  have hu : ∀ (c : Fin 4) (off) (h) (h0 : off 0 = 0) (h1 : off 1 = c.val * 1024),
      (fun k f => View.ld x4 (Rect.unit (s := S1024x4096) off S1024x1024.size h) (ix2 k f)) = cols (fun k f => x4 (ix2 k f)) c :=
    fun c off h h0 h1 => funext fun k => funext fun f => ld_cols x4 c off h h0 h1 k f
  have hd : ∀ (c : Fin 4) (off) (h) (h0 : off 0 = c.val * 1024) (h1 : off 1 = 0),
      (fun f q => View.ld x5 (Rect.unit (s := S4096x1024) off S1024x1024.size h) (ix2 f q)) = rows (fun f q => x5 (ix2 f q)) c :=
    fun c off h h0 h1 => funext fun k => funext fun f => ld_rows x5 c off h h0 h1 k f
  unfold midV
  rw [chunkV_apply, chunkV_apply, chunkV_apply, chunkV_apply, hn, resV_apply,
    hu 0 _ _ rfl rfl, hu 1 _ _ rfl rfl, hu 2 _ _ rfl rfl, hu 3 _ _ rfl rfl, hd 0 _ _ rfl rfl, hd 1 _ _ rfl rfl, hd 2 _ _ rfl rfl, hd 3 _ _ rfl rfl]
  exact chunks _ _ _ _ p

/-- The stored block, entry by entry. -/
theorem out_apply (r : Fin 512) (p : Fin 1024) : out0_7 x0 x1 x2 x3 x4 x5 x6 (ix2 r p)
    = out (fun k => x0 (ix2 r k)) (fun k => x1 (ix2 r k)) (fun k q => x2 (ix2 k q)) (fun k => x3 (ix2 0 k)) (fun k f => x4 (ix2 k f))
        (fun f q => x5 (ix2 f q)) (fun k => x6 (ix2 0 k)) p := by
  rw [out_eq, normV_apply]
  unfold out
  rw [show (fun k => midV x0 x1 x2 x3 x4 x5 (ix2 r k)) = _ from funext fun k => midV_apply x0 x1 x2 x3 x4 x5 r k]

end

end Cert.FeedForwardIdeal.Body

end
-- ==== Proof.FeedForwardValue.lean ====
/-
  The feed-forward kernel's result at an index: the host's arrays, the blocks of the seven inputs, the result array from
  its blocks, and the run read at it.
-/
module

public import proofs.«01_k».proof.Proof.FeedForwardRow
public import proofs.«01_k».proof.Proof.Gen.FeedForwardIdeal.Value
public import Idealize.ShloMosaic.Lib.Pipeline.ValueKit.Geometry

@[expose] public section

noncomputable section

namespace Cert.FeedForwardIdeal.Body

open Idealize.ShloMosaic Idealize.ShloMosaic.TcCoe Idealize.ShloMosaic.ValueIdx Idealize.SL.Sem
open Cert.FeedForwardIdeal Cert.FeedForwardIdeal.Gen Cert.Ffn

variable (m : (ℓ : Loc nD τ sig) → Buf (Elt Ideal) ℓ) (c : Dev nD) (t : Fin cfg0.N)

/-! ## The host's arrays -/

theorem V_out_proj : (V m c main_v0 : Vec Ideal S1024x1024 .bf16)
    = truncf (F := Ideal) .bf16 (m ((c : Thread nD τ).loc main_arg2) : Vec Ideal S1024x1024 .f32) bitsLt_bf16_f32 := by
  unfold_abbrev_sides
  after_results

theorem V_gain : (V m c main_v1 : Vec Ideal S1x1024 .f32)
    = shapeCast S1x1024 (m ((c : Thread nD τ).loc main_arg3) : Vec Ideal S1024 .f32) shapeCasts_S1024_S1x1024 := by
  unfold_abbrev_sides
  after_results
  rfl

theorem V_up : (V m c main_v2 : Vec Ideal S1024x4096 .bf16)
    = truncf (F := Ideal) .bf16 (m ((c : Thread nD τ).loc main_arg4) : Vec Ideal S1024x4096 .f32) bitsLt_bf16_f32 := by
  unfold_abbrev_sides
  after_results

theorem V_down : (V m c main_v3 : Vec Ideal S4096x1024 .bf16)
    = truncf (F := Ideal) .bf16 (m ((c : Thread nD τ).loc main_arg5) : Vec Ideal S4096x1024 .f32) bitsLt_bf16_f32 := by
  unfold_abbrev_sides
  after_results

theorem V_final : (V m c main_v4 : Vec Ideal S1x1024 .f32)
    = shapeCast S1x1024 (m ((c : Thread nD τ).loc main_arg6) : Vec Ideal S1024 .f32) shapeCasts_S1024_S1x1024 := by
  unfold_abbrev_sides
  after_results
  rfl

theorem cast_row {α : Type} (x : S1024.Idx → α) (h : S1024.ShapeCasts S1x1024) (p : Fin 1024) : shapeCast S1x1024 x h (ix2 0 p) = x (ix1 p) := by
  refine shapeCast_apply x h _ _ ?_
  rw [Shape.rowMajor_val_one, Shape.rowMajor_val_two]
  show p.val = 0 * 1024 + p.val
  omega

/-! ## The blocks at an index -/

theorem idx_x : ∀ t : Fin cfg0.N, win0_0.index t = ![t.val, 0] := by decide +kernel
theorem idx_a : ∀ t : Fin cfg0.N, win0_1.index t = ![t.val, 0] := by decide +kernel
theorem idx_w : ∀ t : Fin cfg0.N, win0_2.index t = ![0, 0] := by decide +kernel
theorem idx_g : ∀ t : Fin cfg0.N, win0_3.index t = ![0, 0] := by decide +kernel
theorem idx_u : ∀ t : Fin cfg0.N, win0_4.index t = ![0, 0] := by decide +kernel
theorem idx_d : ∀ t : Fin cfg0.N, win0_5.index t = ![0, 0] := by decide +kernel
theorem idx_f : ∀ t : Fin cfg0.N, win0_6.index t = ![0, 0] := by decide +kernel
theorem idx_o : ∀ t : Fin cfg0.N, win0_7.index t = ![t.val, 0] := by decide +kernel

/-- A row of a point's block among all rows. -/
def row (r : Fin 512) : Fin 32768 := ⟨t.val * 512 + r.val, by have := t.isLt; have h : cfg0.N = 64 := N_0; omega⟩

theorem blk_x (r : Fin 512) (p : Fin 1024) : (iblk m c 0 t : Vec Ideal S512x1024 .f32) (ix2 r p)
    = (m ((c : Thread nD τ).loc main_arg0) : Vec Ideal S32768x1024 .f32) (ix2 (row t r) p) := by
  rw [← V_main_arg0 m c]
  refine congrArg (V m c main_arg0) ?_
  blk_ext [idx_x t]
  all_goals rfl

theorem blk_a (r : Fin 512) (p : Fin 1024) : (iblk m c 1 t : Vec Ideal S512x1024 .bf16) (ix2 r p)
    = (m ((c : Thread nD τ).loc main_arg1) : Vec Ideal S32768x1024 .bf16) (ix2 (row t r) p) := by
  rw [← V_main_arg1 m c]
  refine congrArg (V m c main_arg1) ?_
  blk_ext [idx_a t]
  all_goals rfl

theorem blk_w (k p : Fin 1024) : (iblk m c 2 t : Vec Ideal S1024x1024 .bf16) (ix2 k p)
    = (m ((c : Thread nD τ).loc main_arg2) : S1024x1024.Idx → EReal) (ix2 k p) := by
  refine Eq.trans (congrArg (V m c main_v0) ?_) (congrFun (V_out_proj m c) (ix2 k p))
  blk_ext [idx_w t]

theorem blk_g (p : Fin 1024) : (iblk m c 3 t : Vec Ideal S1x1024 .f32) (ix2 0 p)
    = (m ((c : Thread nD τ).loc main_arg3) : S1024.Idx → EReal) (ix1 p) := by
  refine Eq.trans (congrArg (V m c main_v1) ?_) ((congrFun (V_gain m c) (ix2 0 p)).trans (cast_row _ _ p))
  blk_ext [idx_g t]

theorem blk_u (k : Fin 1024) (f : Fin 4096) : (iblk m c 4 t : Vec Ideal S1024x4096 .bf16) (ix2 k f)
    = (m ((c : Thread nD τ).loc main_arg4) : S1024x4096.Idx → EReal) (ix2 k f) := by
  refine Eq.trans (congrArg (V m c main_v2) ?_) (congrFun (V_up m c) (ix2 k f))
  blk_ext [idx_u t]

theorem blk_d (f : Fin 4096) (p : Fin 1024) : (iblk m c 5 t : Vec Ideal S4096x1024 .bf16) (ix2 f p)
    = (m ((c : Thread nD τ).loc main_arg5) : S4096x1024.Idx → EReal) (ix2 f p) := by
  refine Eq.trans (congrArg (V m c main_v3) ?_) (congrFun (V_down m c) (ix2 f p))
  blk_ext [idx_d t]

theorem blk_f (p : Fin 1024) : (iblk m c 6 t : Vec Ideal S1x1024 .f32) (ix2 0 p)
    = (m ((c : Thread nD τ).loc main_arg6) : S1024.Idx → EReal) (ix1 p) := by
  refine Eq.trans (congrArg (V m c main_v4) ?_) ((congrFun (V_final m c) (ix2 0 p)).trans (cast_row _ _ p))
  blk_ext [idx_f t]

/-! ## The result array -/

section Result

variable (x a : S32768x1024.Idx → EReal) (w : S1024x1024.Idx → EReal) (g : S1024.Idx → EReal) (u : S1024x4096.Idx → EReal)
variable (d : S4096x1024.Idx → EReal) (gf : S1024.Idx → EReal)

/-- The result at a row and a column. -/
def outK (i : Fin 32768) (p : Fin 1024) : EReal :=
  out (fun k => x (ix2 i k)) (fun k => a (ix2 i k)) (fun k q => w (ix2 k q)) (fun k => g (ix1 k)) (fun k f => u (ix2 k f)) (fun f q => d (ix2 f q))
    (fun k => gf (ix1 k)) p

end Result

/-- The kernel's result array. -/
def result : Buf (Elt Ideal) ((c : Thread nD τ).loc main_v5) := fun i : S32768x1024.Idx =>
  outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- What a point leaves at an index of its block. -/
theorem point_eq (r : Fin 512) (p : Fin 1024) :
    out0_7 (iblk m c 0 t) (iblk m c 1 t) (iblk m c 2 t) (iblk m c 3 t) (iblk m c 4 t) (iblk m c 5 t) (iblk m c 6 t) (ix2 r p)
      = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t r) p := by
  refine (out_apply _ _ _ _ _ _ _ r p).trans ?_
  unfold outK
  rw [funext (blk_x m c t r), funext (blk_a m c t r), funext fun k => funext (blk_w m c t k), funext (blk_g m c t),
    funext fun k => funext (blk_u m c t k), funext fun f => funext (blk_d m c t f), funext (blk_f m c t)]

theorem final : (dats m 0 c).arrAt 7 cfg0.N = result m c := by
  refine (dats m 0 c).arrAt_eq_of_covers 7 _ (by decide +kernel) fun t _ y => ?_
  blk_simp
  rw [after0_7]
  refine (congrArg _ (eq_ix2 y)).trans ((point_eq m c t (y 0) (y 1)).trans ?_)
  have h0 : (win0_7.blk t).view.emb y 0 = row t (y 0) := Fin.ext (by
    blk_simp [idx_o t]
    rfl)
  have h1 : (win0_7.blk t).view.emb y 1 = y 1 := Fin.ext (by
    blk_simp [idx_o t])
  unfold result
  show _ = outK _ _ _ _ _ _ _ ((win0_7.blk t).view.emb y 0) ((win0_7.blk t).view.emb y 1)
  rw [h0, h1]

/-- The run, read: the result array holds the kernel's result, the arguments are as launched. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.FeedForwardIdeal.Value.run_blocks m ρ)

end Cert.FeedForwardIdeal.Body

end
-- ==== Proof.FeedForwardEqual.lean ====
/-
  The feed-forward reference's result at an index, and the kernel's result beside it.
-/
module

public import proofs.«01_k».proof.Defs
public import proofs.«01_k».proof.Proof.FeedForwardValue
public import proofs.«01_k».proof.Proof.Gen.FeedForwardReferenceIdeal.Read

@[expose] public section

noncomputable section

namespace Cert.FeedForwardReferenceIdeal.Row

open Idealize.ShloMosaic Idealize.ShloMosaic.ValueIdx Cert.FeedForwardReferenceIdeal Cert.FeedForwardReferenceIdeal.Gen
open Cert.FeedForwardReferenceIdeal.Read Cert.Ffn

theorem word_zero : (FloatOps.ofBits .f32 0x00000000#32 : Ideal .f32) = (0 : EReal) := by
  show Ideal.ofBits .f32 0x00000000#32 = 0
  simp [Ideal.ofBits, Ideal.ieee]

variable (x0 : (⟨S32768x1024, .f32⟩ : BufTy).Contents (Elt Ideal)) (x1 : (⟨S32768x1024, .bf16⟩ : BufTy).Contents (Elt Ideal))
variable (x2 : (⟨S1024x1024, .f32⟩ : BufTy).Contents (Elt Ideal)) (x3 : (⟨S1024, .f32⟩ : BufTy).Contents (Elt Ideal))
variable (x4 : (⟨S1024x4096, .f32⟩ : BufTy).Contents (Elt Ideal)) (x5 : (⟨S4096x1024, .f32⟩ : BufTy).Contents (Elt Ideal))
variable (x6 : (⟨S1024, .f32⟩ : BufTy).Contents (Elt Ideal)) (i : Fin 32768)

/-- The residual's row. -/
abbrev resR : Fin 1024 → EReal := res (fun k => x0 (ix2 i k)) (fun k => x1 (ix2 i k)) fun k q => x2 (ix2 k q)

theorem v2_eq (p : Fin 1024) : val_main_v2 (F := Ideal) x0 x1 x2 (ix2 i p) = resR x0 x1 x2 i p := by
  refine (val_main_v2_apply x0 x1 x2 _).trans ?_
  refine congrArg (fun z : EReal => x0 (ix2 i p) + z) ((val_main_v1_apply x1 x2 _).trans (Finset.sum_congr rfl fun k _ => ?_))
  rw [val_main_v0_apply]
  exact congrArg₂ (fun s z : EReal => s * z) (congrArg x1 (eq_ix2 _)) (congrArg x2 (eq_ix2 _))

theorem v4_eq : val_main_v4 (F := Ideal) x0 x1 x2 (ix1 i) = ∑ k, resR x0 x1 x2 i k * resR x0 x1 x2 i k := by
  refine (val_main_v4_apply x0 x1 x2 _).trans ?_
  rw [val_main_cst_apply, word_zero, zero_add]
  refine Finset.sum_congr rfl fun k _ => (congrArg (val_main_v3 (F := Ideal) x0 x1 x2) (eq_ix2 _)).trans ((val_main_v3_apply x0 x1 x2 _).trans ?_)
  exact congrArg₂ (fun s z : EReal => s * z) (v2_eq x0 x1 x2 i k) (v2_eq x0 x1 x2 i k)

theorem v10_eq : val_main_v10 (F := Ideal) x0 x1 x2 (ix2 i 0) = rms (resR x0 x1 x2 i) := by
  refine (val_main_v10_apply x0 x1 x2 _).trans (congrArg Ideal.rsqrt ?_)
  refine (val_main_v9_apply x0 x1 x2 _).trans ?_
  refine congrArg₂ (fun s z : EReal => s + z) ((val_main_v7_apply x0 x1 x2 _).trans (congrArg₂ Ideal.div ?_ ?_)) ?_
  · exact (val_main_v5_apply x0 x1 x2 _).trans ((congrArg (val_main_v4 (F := Ideal) x0 x1 x2) (eq_ix1 _)).trans (v4_eq x0 x1 x2 i))
  · exact val_main_v6_apply _
  · exact val_main_v8_apply _

theorem v15_eq (p : Fin 1024) : val_main_v15 (F := Ideal) x0 x1 x2 x3 (ix2 i p) = norm (resR x0 x1 x2 i) (fun k => x3 (ix1 k)) p := by
  refine (val_main_v15_apply x0 x1 x2 x3 _).trans (congrArg₂ (fun s z : EReal => s * z) ?_ ?_)
  · refine (val_main_v12_apply x0 x1 x2 _).trans (congrArg₂ (fun s z : EReal => s * z) (v2_eq x0 x1 x2 i p) ?_)
    exact (val_main_v11_apply x0 x1 x2 _).trans ((congrArg (val_main_v10 (F := Ideal) x0 x1 x2) (eq_ix2 _)).trans (v10_eq x0 x1 x2 i))
  · exact (val_main_v14_apply x3 _).trans ((val_main_v13_apply x3 _).trans (congrArg x3 (eq_ix1 _)))

theorem v19_eq (f : Fin 4096) : val_main_v19 (F := Ideal) x0 x1 x2 x3 x4 (ix2 i f)
    = hid (norm (resR x0 x1 x2 i) fun k => x3 (ix1 k)) (fun k f => x4 (ix2 k f)) f := by
  have h : val_main_v18 (F := Ideal) x0 x1 x2 x3 x4 (ix2 i f)
      = max (∑ k, norm (resR x0 x1 x2 i) (fun k => x3 (ix1 k)) k * x4 (ix2 k f)) 0 := by
    refine (val_main_v18_apply x0 x1 x2 x3 x4 _).trans (congrArg₂ (fun s z : EReal => max s z) ?_ ?_)
    · refine (val_main_v16_apply x0 x1 x2 x3 x4 _).trans (Finset.sum_congr rfl fun k _ => ?_)
      exact congrArg₂ (fun s z : EReal => s * z) ((congrArg (val_main_v15 (F := Ideal) x0 x1 x2 x3) (eq_ix2 _)).trans (v15_eq x0 x1 x2 x3 i k))
        (congrArg x4 (eq_ix2 _))
    · exact (val_main_v17_apply _).trans ((val_main_cst_2_apply _).trans word_zero)
  exact (val_main_v19_apply x0 x1 x2 x3 x4 _).trans (congrArg₂ (fun s z : EReal => s * z) h h)

/-- The row after the feed-forward part. -/
abbrev midR : Fin 1024 → EReal := mid (resR x0 x1 x2 i) (fun k => x3 (ix1 k)) (fun k f => x4 (ix2 k f)) fun f q => x5 (ix2 f q)

theorem v21_eq (p : Fin 1024) : val_main_v21 (F := Ideal) x0 x1 x2 x3 x4 x5 (ix2 i p) = midR x0 x1 x2 x3 x4 x5 i p := by
  refine (val_main_v21_apply x0 x1 x2 x3 x4 x5 _).trans (congrArg₂ (fun s z : EReal => s + z) (v2_eq x0 x1 x2 i p) ?_)
  refine (val_main_v20_apply x0 x1 x2 x3 x4 x5 _).trans (Finset.sum_congr rfl fun f _ => ?_)
  exact congrArg₂ (fun s z : EReal => s * z) ((congrArg (val_main_v19 (F := Ideal) x0 x1 x2 x3 x4) (eq_ix2 _)).trans (v19_eq x0 x1 x2 x3 x4 i f))
    (congrArg x5 (eq_ix2 _))

theorem v23_eq : val_main_v23 (F := Ideal) x0 x1 x2 x3 x4 x5 (ix1 i) = ∑ k, midR x0 x1 x2 x3 x4 x5 i k * midR x0 x1 x2 x3 x4 x5 i k := by
  refine (val_main_v23_apply x0 x1 x2 x3 x4 x5 _).trans ?_
  rw [val_main_cst_3_apply, word_zero, zero_add]
  refine Finset.sum_congr rfl fun k _ => (congrArg (val_main_v22 (F := Ideal) x0 x1 x2 x3 x4 x5) (eq_ix2 _)).trans ((val_main_v22_apply x0 x1 x2 x3 x4 x5 _).trans ?_)
  exact congrArg₂ (fun s z : EReal => s * z) (v21_eq x0 x1 x2 x3 x4 x5 i k) (v21_eq x0 x1 x2 x3 x4 x5 i k)

theorem v29_eq : val_main_v29 (F := Ideal) x0 x1 x2 x3 x4 x5 (ix2 i 0) = rms (midR x0 x1 x2 x3 x4 x5 i) := by
  refine (val_main_v29_apply x0 x1 x2 x3 x4 x5 _).trans (congrArg Ideal.rsqrt ?_)
  refine (val_main_v28_apply x0 x1 x2 x3 x4 x5 _).trans ?_
  refine congrArg₂ (fun s z : EReal => s + z) ((val_main_v26_apply x0 x1 x2 x3 x4 x5 _).trans (congrArg₂ Ideal.div ?_ ?_)) ?_
  · exact (val_main_v24_apply x0 x1 x2 x3 x4 x5 _).trans ((congrArg (val_main_v23 (F := Ideal) x0 x1 x2 x3 x4 x5) (eq_ix1 _)).trans (v23_eq x0 x1 x2 x3 x4 x5 i))
  · exact val_main_v25_apply _
  · exact val_main_v27_apply _

/-- The reference's result, entry by entry. -/
theorem v34_eq (p : Fin 1024) : val_main_v34 (F := Ideal) x0 x1 x2 x3 x4 x5 x6 (ix2 i p) = norm (midR x0 x1 x2 x3 x4 x5 i) (fun k => x6 (ix1 k)) p := by
  refine (val_main_v34_apply x0 x1 x2 x3 x4 x5 x6 _).trans (congrArg₂ (fun s z : EReal => s * z) ?_ ?_)
  · refine (val_main_v31_apply x0 x1 x2 x3 x4 x5 _).trans (congrArg₂ (fun s z : EReal => s * z) (v21_eq x0 x1 x2 x3 x4 x5 i p) ?_)
    exact (val_main_v30_apply x0 x1 x2 x3 x4 x5 _).trans ((congrArg (val_main_v29 (F := Ideal) x0 x1 x2 x3 x4 x5) (eq_ix2 _)).trans (v29_eq x0 x1 x2 x3 x4 x5 i))
  · exact (val_main_v33_apply x6 _).trans ((val_main_v32_apply x6 _).trans (congrArg x6 (eq_ix1 _)))

end Cert.FeedForwardReferenceIdeal.Row

namespace Cert.Proof.Ffn

open Idealize.ShloMosaic Idealize.ShloMosaic.ValueIdx Idealize.SL.Sem
open Cert.FeedForwardIdeal.Body (result)

/-- Over the extended reals the kernel computes the reference's feed-forward part and final norm. -/
theorem algebraic : Cert.algebraic_FeedForwardIdeal_FeedForwardReferenceIdeal (hFeedForwardIdeal := Cert.FeedForwardIdeal.Gen.facts)
    (hFeedForwardReferenceIdeal := Cert.FeedForwardReferenceIdeal.Gen.facts) := by
  intro m ρ m' ρ' _ hargs
  refine ⟨fun c => result m c, Cert.FeedForwardIdeal.Body.run m ρ, ?_⟩
  refine (θ_run Cert.FeedForwardReferenceIdeal.defs _ _).mono (fun r h c => ⟨(h c).1.trans ?_, (h c).2⟩)
    (Cert.FeedForwardReferenceIdeal.Value.run (F := Ideal) m' ρ')
  obtain ⟨e0, e1, e2, e3, e4, e5, e6⟩ := hargs c
  rw [Cert.FeedForwardReferenceIdeal.Read.val_main_v34_eq, e0, e1, e2, e3, e4, e5, e6]
  funext i
  have hi : i = ix2 (i 0) (i 1) := eq_ix2 i
  rw [hi]
  exact Cert.FeedForwardReferenceIdeal.Row.v34_eq _ _ _ _ _ _ _ (i 0) (i 1)

end Cert.Proof.Ffn

end
-- ==== Proof.SampleValue.lean ====
/-
  The feed-forward kernel on the batch of 16 sequences: its result at an index. A point's block is that of the batch of 8;
  there are twice as many.
-/
module

public import proofs.«01_k».proof.Proof.FeedForwardValue
public import proofs.«01_k».proof.Proof.Gen.SampleFeedForwardIdeal.Value
public import Idealize.ShloMosaic.Lib.Pipeline.ValueKit.Geometry

@[expose] public section

noncomputable section

namespace Cert.SampleFeedForwardIdeal.Body

open Idealize.ShloMosaic Idealize.ShloMosaic.TcCoe Idealize.ShloMosaic.ValueIdx Idealize.SL.Sem
open Cert.SampleFeedForwardIdeal Cert.SampleFeedForwardIdeal.Gen Cert.Ffn

variable (m : (ℓ : Loc nD τ sig) → Buf (Elt Ideal) ℓ) (c : Dev nD) (t : Fin cfg0.N)

/-! ## The host's arrays -/

theorem V_out_proj : (V m c main_v0 : Vec Ideal S1024x1024 .bf16)
    = truncf (F := Ideal) .bf16 (m ((c : Thread nD τ).loc main_arg2) : Vec Ideal S1024x1024 .f32) bitsLt_bf16_f32 := by
  unfold_abbrev_sides
  after_results

theorem V_gain : (V m c main_v1 : Vec Ideal S1x1024 .f32)
    = shapeCast S1x1024 (m ((c : Thread nD τ).loc main_arg3) : Vec Ideal S1024 .f32) shapeCasts_S1024_S1x1024 := by
  unfold_abbrev_sides
  after_results
  rfl

theorem V_up : (V m c main_v2 : Vec Ideal S1024x4096 .bf16)
    = truncf (F := Ideal) .bf16 (m ((c : Thread nD τ).loc main_arg4) : Vec Ideal S1024x4096 .f32) bitsLt_bf16_f32 := by
  unfold_abbrev_sides
  after_results

theorem V_down : (V m c main_v3 : Vec Ideal S4096x1024 .bf16)
    = truncf (F := Ideal) .bf16 (m ((c : Thread nD τ).loc main_arg5) : Vec Ideal S4096x1024 .f32) bitsLt_bf16_f32 := by
  unfold_abbrev_sides
  after_results

theorem V_final : (V m c main_v4 : Vec Ideal S1x1024 .f32)
    = shapeCast S1x1024 (m ((c : Thread nD τ).loc main_arg6) : Vec Ideal S1024 .f32) shapeCasts_S1024_S1x1024 := by
  unfold_abbrev_sides
  after_results
  rfl

/-- A point stores what a point of the other batch stores of the same blocks. -/
theorem out_eq (x0 : Vec Ideal S512x1024 .f32) (x1 : Vec Ideal S512x1024 .bf16) (x2 : Vec Ideal S1024x1024 .bf16) (x3 : Vec Ideal S1x1024 .f32)
    (x4 : Vec Ideal S1024x4096 .bf16) (x5 : Vec Ideal S4096x1024 .bf16) (x6 : Vec Ideal S1x1024 .f32) :
    out0_7 x0 x1 x2 x3 x4 x5 x6 = Cert.FeedForwardIdeal.Gen.out0_7 x0 x1 x2 x3 x4 x5 x6 := rfl

/-! ## The blocks at an index -/

theorem idx_x : ∀ t : Fin cfg0.N, win0_0.index t = ![t.val, 0] := by decide +kernel
theorem idx_a : ∀ t : Fin cfg0.N, win0_1.index t = ![t.val, 0] := by decide +kernel
theorem idx_w : ∀ t : Fin cfg0.N, win0_2.index t = ![0, 0] := by decide +kernel
theorem idx_g : ∀ t : Fin cfg0.N, win0_3.index t = ![0, 0] := by decide +kernel
theorem idx_u : ∀ t : Fin cfg0.N, win0_4.index t = ![0, 0] := by decide +kernel
theorem idx_d : ∀ t : Fin cfg0.N, win0_5.index t = ![0, 0] := by decide +kernel
theorem idx_f : ∀ t : Fin cfg0.N, win0_6.index t = ![0, 0] := by decide +kernel
theorem idx_o : ∀ t : Fin cfg0.N, win0_7.index t = ![t.val, 0] := by decide +kernel

/-- A row of a point's block among all rows. -/
def row (r : Fin 512) : Fin 65536 := ⟨t.val * 512 + r.val, by have := t.isLt; have h : cfg0.N = 128 := N_0; omega⟩

theorem blk_x (r : Fin 512) (p : Fin 1024) : (iblk m c 0 t : Vec Ideal S512x1024 .f32) (ix2 r p)
    = (m ((c : Thread nD τ).loc main_arg0) : Vec Ideal S65536x1024 .f32) (ix2 (row t r) p) := by
  rw [← V_main_arg0 m c]
  refine congrArg (V m c main_arg0) ?_
  blk_ext [idx_x t]
  all_goals rfl

theorem blk_a (r : Fin 512) (p : Fin 1024) : (iblk m c 1 t : Vec Ideal S512x1024 .bf16) (ix2 r p)
    = (m ((c : Thread nD τ).loc main_arg1) : Vec Ideal S65536x1024 .bf16) (ix2 (row t r) p) := by
  rw [← V_main_arg1 m c]
  refine congrArg (V m c main_arg1) ?_
  blk_ext [idx_a t]
  all_goals rfl

theorem blk_w (k p : Fin 1024) : (iblk m c 2 t : Vec Ideal S1024x1024 .bf16) (ix2 k p)
    = (m ((c : Thread nD τ).loc main_arg2) : S1024x1024.Idx → EReal) (ix2 k p) := by
  refine Eq.trans (congrArg (V m c main_v0) ?_) (congrFun (V_out_proj m c) (ix2 k p))
  blk_ext [idx_w t]

theorem blk_g (p : Fin 1024) : (iblk m c 3 t : Vec Ideal S1x1024 .f32) (ix2 0 p)
    = (m ((c : Thread nD τ).loc main_arg3) : S1024.Idx → EReal) (ix1 p) := by
  refine Eq.trans (congrArg (V m c main_v1) ?_) ((congrFun (V_gain m c) (ix2 0 p)).trans (Cert.FeedForwardIdeal.Body.cast_row _ _ p))
  blk_ext [idx_g t]

theorem blk_u (k : Fin 1024) (f : Fin 4096) : (iblk m c 4 t : Vec Ideal S1024x4096 .bf16) (ix2 k f)
    = (m ((c : Thread nD τ).loc main_arg4) : S1024x4096.Idx → EReal) (ix2 k f) := by
  refine Eq.trans (congrArg (V m c main_v2) ?_) (congrFun (V_up m c) (ix2 k f))
  blk_ext [idx_u t]

theorem blk_d (f : Fin 4096) (p : Fin 1024) : (iblk m c 5 t : Vec Ideal S4096x1024 .bf16) (ix2 f p)
    = (m ((c : Thread nD τ).loc main_arg5) : S4096x1024.Idx → EReal) (ix2 f p) := by
  refine Eq.trans (congrArg (V m c main_v3) ?_) (congrFun (V_down m c) (ix2 f p))
  blk_ext [idx_d t]

theorem blk_f (p : Fin 1024) : (iblk m c 6 t : Vec Ideal S1x1024 .f32) (ix2 0 p)
    = (m ((c : Thread nD τ).loc main_arg6) : S1024.Idx → EReal) (ix1 p) := by
  refine Eq.trans (congrArg (V m c main_v4) ?_) ((congrFun (V_final m c) (ix2 0 p)).trans (Cert.FeedForwardIdeal.Body.cast_row _ _ p))
  blk_ext [idx_f t]

/-! ## The result array -/

section Result

variable (x a : S65536x1024.Idx → EReal) (w : S1024x1024.Idx → EReal) (g : S1024.Idx → EReal) (u : S1024x4096.Idx → EReal)
variable (d : S4096x1024.Idx → EReal) (gf : S1024.Idx → EReal)

/-- The result at a row and a column. -/
def outK (i : Fin 65536) (p : Fin 1024) : EReal :=
  out (fun k => x (ix2 i k)) (fun k => a (ix2 i k)) (fun k q => w (ix2 k q)) (fun k => g (ix1 k)) (fun k f => u (ix2 k f)) (fun f q => d (ix2 f q))
    (fun k => gf (ix1 k)) p

end Result

/-- The kernel's result array. -/
def result : Buf (Elt Ideal) ((c : Thread nD τ).loc main_v5) := fun i : S65536x1024.Idx =>
  outK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- What a point leaves at an index of its block. -/
theorem point_eq (r : Fin 512) (p : Fin 1024) :
    out0_7 (iblk m c 0 t) (iblk m c 1 t) (iblk m c 2 t) (iblk m c 3 t) (iblk m c 4 t) (iblk m c 5 t) (iblk m c 6 t) (ix2 r p)
      = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t r) p := by
  refine (congrFun (out_eq _ _ _ _ _ _ _) _).trans ((Cert.FeedForwardIdeal.Body.out_apply _ _ _ _ _ _ _ r p).trans ?_)
  unfold outK
  rw [funext (blk_x m c t r), funext (blk_a m c t r), funext fun k => funext (blk_w m c t k), funext (blk_g m c t),
    funext fun k => funext (blk_u m c t k), funext fun f => funext (blk_d m c t f), funext (blk_f m c t)]

theorem final : (dats m 0 c).arrAt 7 cfg0.N = result m c := by
  refine (dats m 0 c).arrAt_eq_of_covers 7 _ (by decide +kernel) fun t _ y => ?_
  blk_simp
  rw [after0_7]
  refine (congrArg _ (eq_ix2 y)).trans ((point_eq m c t (y 0) (y 1)).trans ?_)
  have h0 : (win0_7.blk t).view.emb y 0 = row t (y 0) := Fin.ext (by
    blk_simp [idx_o t]
    rfl)
  have h1 : (win0_7.blk t).view.emb y 1 = y 1 := Fin.ext (by
    blk_simp [idx_o t])
  unfold result
  show _ = outK _ _ _ _ _ _ _ ((win0_7.blk t).view.emb y 0) ((win0_7.blk t).view.emb y 1)
  rw [h0, h1]

/-- The run, read: the result array holds the kernel's result, the arguments are as launched. -/
theorem run (ρ : Dev nD → PrngReg) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Cert.SampleFeedForwardIdeal.Value.run_blocks m ρ)

end Cert.SampleFeedForwardIdeal.Body

end
-- ==== Proof.SampleEqual.lean ====
/-
  The feed-forward reference on the batch of 16 sequences: its result at an index, and the kernel's result beside it.
-/
module

public import proofs.«01_k».proof.Defs
public import proofs.«01_k».proof.Proof.SampleValue
public import proofs.«01_k».proof.Proof.Gen.SampleFeedForwardReferenceIdeal.Read

@[expose] public section

noncomputable section

namespace Cert.SampleFeedForwardReferenceIdeal.Row

open Idealize.ShloMosaic Idealize.ShloMosaic.ValueIdx Cert.SampleFeedForwardReferenceIdeal Cert.SampleFeedForwardReferenceIdeal.Gen
open Cert.SampleFeedForwardReferenceIdeal.Read Cert.Ffn

theorem word_zero : (FloatOps.ofBits .f32 0x00000000#32 : Ideal .f32) = (0 : EReal) := by
  show Ideal.ofBits .f32 0x00000000#32 = 0
  simp [Ideal.ofBits, Ideal.ieee]

variable (x0 : (⟨S65536x1024, .f32⟩ : BufTy).Contents (Elt Ideal)) (x1 : (⟨S65536x1024, .bf16⟩ : BufTy).Contents (Elt Ideal))
variable (x2 : (⟨S1024x1024, .f32⟩ : BufTy).Contents (Elt Ideal)) (x3 : (⟨S1024, .f32⟩ : BufTy).Contents (Elt Ideal))
variable (x4 : (⟨S1024x4096, .f32⟩ : BufTy).Contents (Elt Ideal)) (x5 : (⟨S4096x1024, .f32⟩ : BufTy).Contents (Elt Ideal))
variable (x6 : (⟨S1024, .f32⟩ : BufTy).Contents (Elt Ideal)) (i : Fin 65536)

/-- The residual's row. -/
abbrev resR : Fin 1024 → EReal := res (fun k => x0 (ix2 i k)) (fun k => x1 (ix2 i k)) fun k q => x2 (ix2 k q)

theorem v2_eq (p : Fin 1024) : val_main_v2 (F := Ideal) x0 x1 x2 (ix2 i p) = resR x0 x1 x2 i p := by
  refine (val_main_v2_apply x0 x1 x2 _).trans ?_
  refine congrArg (fun z : EReal => x0 (ix2 i p) + z) ((val_main_v1_apply x1 x2 _).trans (Finset.sum_congr rfl fun k _ => ?_))
  rw [val_main_v0_apply]
  exact congrArg₂ (fun s z : EReal => s * z) (congrArg x1 (eq_ix2 _)) (congrArg x2 (eq_ix2 _))

theorem v4_eq : val_main_v4 (F := Ideal) x0 x1 x2 (ix1 i) = ∑ k, resR x0 x1 x2 i k * resR x0 x1 x2 i k := by
  refine (val_main_v4_apply x0 x1 x2 _).trans ?_
  rw [val_main_cst_apply, word_zero, zero_add]
  refine Finset.sum_congr rfl fun k _ => (congrArg (val_main_v3 (F := Ideal) x0 x1 x2) (eq_ix2 _)).trans ((val_main_v3_apply x0 x1 x2 _).trans ?_)
  exact congrArg₂ (fun s z : EReal => s * z) (v2_eq x0 x1 x2 i k) (v2_eq x0 x1 x2 i k)

theorem v10_eq : val_main_v10 (F := Ideal) x0 x1 x2 (ix2 i 0) = rms (resR x0 x1 x2 i) := by
  refine (val_main_v10_apply x0 x1 x2 _).trans (congrArg Ideal.rsqrt ?_)
  refine (val_main_v9_apply x0 x1 x2 _).trans ?_
  refine congrArg₂ (fun s z : EReal => s + z) ((val_main_v7_apply x0 x1 x2 _).trans (congrArg₂ Ideal.div ?_ ?_)) ?_
  · exact (val_main_v5_apply x0 x1 x2 _).trans ((congrArg (val_main_v4 (F := Ideal) x0 x1 x2) (eq_ix1 _)).trans (v4_eq x0 x1 x2 i))
  · exact val_main_v6_apply _
  · exact val_main_v8_apply _

theorem v15_eq (p : Fin 1024) : val_main_v15 (F := Ideal) x0 x1 x2 x3 (ix2 i p) = norm (resR x0 x1 x2 i) (fun k => x3 (ix1 k)) p := by
  refine (val_main_v15_apply x0 x1 x2 x3 _).trans (congrArg₂ (fun s z : EReal => s * z) ?_ ?_)
  · refine (val_main_v12_apply x0 x1 x2 _).trans (congrArg₂ (fun s z : EReal => s * z) (v2_eq x0 x1 x2 i p) ?_)
    exact (val_main_v11_apply x0 x1 x2 _).trans ((congrArg (val_main_v10 (F := Ideal) x0 x1 x2) (eq_ix2 _)).trans (v10_eq x0 x1 x2 i))
  · exact (val_main_v14_apply x3 _).trans ((val_main_v13_apply x3 _).trans (congrArg x3 (eq_ix1 _)))

theorem v19_eq (f : Fin 4096) : val_main_v19 (F := Ideal) x0 x1 x2 x3 x4 (ix2 i f)
    = hid (norm (resR x0 x1 x2 i) fun k => x3 (ix1 k)) (fun k f => x4 (ix2 k f)) f := by
  have h : val_main_v18 (F := Ideal) x0 x1 x2 x3 x4 (ix2 i f)
      = max (∑ k, norm (resR x0 x1 x2 i) (fun k => x3 (ix1 k)) k * x4 (ix2 k f)) 0 := by
    refine (val_main_v18_apply x0 x1 x2 x3 x4 _).trans (congrArg₂ (fun s z : EReal => max s z) ?_ ?_)
    · refine (val_main_v16_apply x0 x1 x2 x3 x4 _).trans (Finset.sum_congr rfl fun k _ => ?_)
      exact congrArg₂ (fun s z : EReal => s * z) ((congrArg (val_main_v15 (F := Ideal) x0 x1 x2 x3) (eq_ix2 _)).trans (v15_eq x0 x1 x2 x3 i k))
        (congrArg x4 (eq_ix2 _))
    · exact (val_main_v17_apply _).trans ((val_main_cst_2_apply _).trans word_zero)
  exact (val_main_v19_apply x0 x1 x2 x3 x4 _).trans (congrArg₂ (fun s z : EReal => s * z) h h)

/-- The row after the feed-forward part. -/
abbrev midR : Fin 1024 → EReal := mid (resR x0 x1 x2 i) (fun k => x3 (ix1 k)) (fun k f => x4 (ix2 k f)) fun f q => x5 (ix2 f q)

theorem v21_eq (p : Fin 1024) : val_main_v21 (F := Ideal) x0 x1 x2 x3 x4 x5 (ix2 i p) = midR x0 x1 x2 x3 x4 x5 i p := by
  refine (val_main_v21_apply x0 x1 x2 x3 x4 x5 _).trans (congrArg₂ (fun s z : EReal => s + z) (v2_eq x0 x1 x2 i p) ?_)
  refine (val_main_v20_apply x0 x1 x2 x3 x4 x5 _).trans (Finset.sum_congr rfl fun f _ => ?_)
  exact congrArg₂ (fun s z : EReal => s * z) ((congrArg (val_main_v19 (F := Ideal) x0 x1 x2 x3 x4) (eq_ix2 _)).trans (v19_eq x0 x1 x2 x3 x4 i f))
    (congrArg x5 (eq_ix2 _))

theorem v23_eq : val_main_v23 (F := Ideal) x0 x1 x2 x3 x4 x5 (ix1 i) = ∑ k, midR x0 x1 x2 x3 x4 x5 i k * midR x0 x1 x2 x3 x4 x5 i k := by
  refine (val_main_v23_apply x0 x1 x2 x3 x4 x5 _).trans ?_
  rw [val_main_cst_3_apply, word_zero, zero_add]
  refine Finset.sum_congr rfl fun k _ => (congrArg (val_main_v22 (F := Ideal) x0 x1 x2 x3 x4 x5) (eq_ix2 _)).trans ((val_main_v22_apply x0 x1 x2 x3 x4 x5 _).trans ?_)
  exact congrArg₂ (fun s z : EReal => s * z) (v21_eq x0 x1 x2 x3 x4 x5 i k) (v21_eq x0 x1 x2 x3 x4 x5 i k)

theorem v29_eq : val_main_v29 (F := Ideal) x0 x1 x2 x3 x4 x5 (ix2 i 0) = rms (midR x0 x1 x2 x3 x4 x5 i) := by
  refine (val_main_v29_apply x0 x1 x2 x3 x4 x5 _).trans (congrArg Ideal.rsqrt ?_)
  refine (val_main_v28_apply x0 x1 x2 x3 x4 x5 _).trans ?_
  refine congrArg₂ (fun s z : EReal => s + z) ((val_main_v26_apply x0 x1 x2 x3 x4 x5 _).trans (congrArg₂ Ideal.div ?_ ?_)) ?_
  · exact (val_main_v24_apply x0 x1 x2 x3 x4 x5 _).trans ((congrArg (val_main_v23 (F := Ideal) x0 x1 x2 x3 x4 x5) (eq_ix1 _)).trans (v23_eq x0 x1 x2 x3 x4 x5 i))
  · exact val_main_v25_apply _
  · exact val_main_v27_apply _

/-- The reference's result, entry by entry. -/
theorem v34_eq (p : Fin 1024) : val_main_v34 (F := Ideal) x0 x1 x2 x3 x4 x5 x6 (ix2 i p) = norm (midR x0 x1 x2 x3 x4 x5 i) (fun k => x6 (ix1 k)) p := by
  refine (val_main_v34_apply x0 x1 x2 x3 x4 x5 x6 _).trans (congrArg₂ (fun s z : EReal => s * z) ?_ ?_)
  · refine (val_main_v31_apply x0 x1 x2 x3 x4 x5 _).trans (congrArg₂ (fun s z : EReal => s * z) (v21_eq x0 x1 x2 x3 x4 x5 i p) ?_)
    exact (val_main_v30_apply x0 x1 x2 x3 x4 x5 _).trans ((congrArg (val_main_v29 (F := Ideal) x0 x1 x2 x3 x4 x5) (eq_ix2 _)).trans (v29_eq x0 x1 x2 x3 x4 x5 i))
  · exact (val_main_v33_apply x6 _).trans ((val_main_v32_apply x6 _).trans (congrArg x6 (eq_ix1 _)))

end Cert.SampleFeedForwardReferenceIdeal.Row

namespace Cert.Proof.SampleFfn

open Idealize.ShloMosaic Idealize.ShloMosaic.ValueIdx Idealize.SL.Sem
open Cert.SampleFeedForwardIdeal.Body (result)

/-- Over the extended reals the kernel computes the reference's feed-forward part and final norm. -/
theorem algebraic : Cert.algebraic_SampleFeedForwardIdeal_SampleFeedForwardReferenceIdeal (hSampleFeedForwardIdeal := Cert.SampleFeedForwardIdeal.Gen.facts)
    (hSampleFeedForwardReferenceIdeal := Cert.SampleFeedForwardReferenceIdeal.Gen.facts) := by
  intro m ρ m' ρ' _ hargs
  refine ⟨fun c => result m c, Cert.SampleFeedForwardIdeal.Body.run m ρ, ?_⟩
  refine (θ_run Cert.SampleFeedForwardReferenceIdeal.defs _ _).mono (fun r h c => ⟨(h c).1.trans ?_, (h c).2⟩)
    (Cert.SampleFeedForwardReferenceIdeal.Value.run (F := Ideal) m' ρ')
  obtain ⟨e0, e1, e2, e3, e4, e5, e6⟩ := hargs c
  rw [Cert.SampleFeedForwardReferenceIdeal.Read.val_main_v34_eq, e0, e1, e2, e3, e4, e5, e6]
  funext i
  have hi : i = ix2 (i 0) (i 1) := eq_ix2 i
  rw [hi]
  exact Cert.SampleFeedForwardReferenceIdeal.Row.v34_eq _ _ _ _ _ _ _ (i 0) (i 1)

end Cert.Proof.SampleFfn

end
-- ==== Proof.ProjectionIdealKit.lean ====
/-
  The projection kernel's launch: its pipeline, the host operations before it, the arrays it finds, each window's block at a
  point, and the frame from the proof data of a run.
-/
module

public import proofs.«01_k».proof.Proof.Gen.ProjectionIdeal
public import proofs.«01_k».proof.Proof.Gen.ProjectionIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit
public import Idealize.ShloMosaic.Lib.Pipeline.Regions

@[expose] public section

noncomputable section

namespace Cert.ProjectionIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 13, 0 < (spec0 w).block.numel := by decide
/-- The windows' arrays and the staging memrefs are whole buffers. -/
theorem arr_whole0 : ∀ w : Fin 13, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | ⟨_ + 13, h⟩ => absurd h (Nat.not_lt.2 (Nat.le_add_left _ _))
theorem stage_whole0 : ∀ (w : Fin 13) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | ⟨_ + 13, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 65 points. -/
theorem N_0 : grid0.N = 65 := by decide

/-- The windows conjoined one by one. -/
theorem bigSep_W0 {M : Type} [URA M] (Φ : Fin 13 → sProp M) : bigSep Finset.univ Φ = iprop(Φ (0 : Fin 13) ∗ Φ (1 : Fin 13) ∗ Φ (2 : Fin 13) ∗ Φ (3 : Fin 13) ∗ Φ (4 : Fin 13) ∗ Φ (5 : Fin 13) ∗ Φ (6 : Fin 13) ∗ Φ (7 : Fin 13) ∗ Φ (8 : Fin 13) ∗ Φ (9 : Fin 13) ∗ Φ (10 : Fin 13) ∗ Φ (11 : Fin 13) ∗ Φ (12 : Fin 13)) :=
  bigSep_univ_eq_bigSepL [(0 : Fin 13), (1 : Fin 13), (2 : Fin 13), (3 : Fin 13), (4 : Fin 13), (5 : Fin 13), (6 : Fin 13), (7 : Fin 13), (8 : Fin 13), (9 : Fin 13), (10 : Fin 13), (11 : Fin 13), (12 : Fin 13)] (by decide) (by decide) Φ
/-- The core's scoped buffers that are no staging buffer of custom_call 0, each whole at some contents:
    `cc0_scratch0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)) :=
  Pipeline.scopedRest_eq_of_list spec0 c [cc0_scratch0] (by decide) (by decide)
-- the unscoped rest of custom_call 0 is 60 buffers: not enumerated (routed whole, as `Pipeline.unscopedRest`)

/-! ## @main as segments and as a chain of items (Lib/Pipeline/Regions.lean `θ_run_regions_kit`, `Pipeline.chain`) -/

/-- 62 host operations of @main, in order. -/
abbrev hostOps0 : List (HloOp τ sig (Elt F)) :=
  ( StableHlo.nullary main_c (fun i => lit0 (S128.rowMajor i))
  :: StableHlo.nullary main_c_0 (constantI S128 1 0#1)
  :: StableHlo.nullary main_c_1 (fun i => lit1 (S1536.rowMajor i))
  :: StableHlo.nullary main_c_2 (constantI S1536 1 0#1)
  :: StableHlo.nullary main_c_3 (constantI S_ 32 128#32)
  :: StableHlo.unary main_c_3 main_v0 (broadcastInDim S128 ![] bcast_S_S128 : (⟨S_, .i32⟩ : BufTy).Contents (Elt F) → (⟨S128, .i32⟩ : BufTy).Contents (Elt F))
  :: StableHlo.binary main_c main_v0 main_v1 (addi : (⟨S128, .i32⟩ : BufTy).Contents (Elt F) → (⟨S128, .i32⟩ : BufTy).Contents (Elt F) → (⟨S128, .i32⟩ : BufTy).Contents (Elt F))
  :: StableHlo.ternary main_c_0 main_v1 main_c main_v2 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v2 main_v3 (broadcastInDim S128x1 ![0] bcast_S128_S128x1_0 : (⟨S128, .i32⟩ : BufTy).Contents (Elt F) → (⟨S128x1, .i32⟩ : BufTy).Contents (Elt F))
  :: StableHlo.binary main_arg6 main_v3 main_v4 ((fun x i => Host.gather gather_S128_S128x1_S128_n_0_n_n_0_1_1 x i) : (⟨S128, .f32⟩ : BufTy).Contents (Elt F) → (⟨S128x1, .i32⟩ : BufTy).Contents (Elt F) → (⟨S128, .f32⟩ : BufTy).Contents (Elt F))
  :: StableHlo.reshape main_v4 main_v5 (rfl : (.f32 : EltTy) = .f32) shapeCasts_S128_S1x128
  :: StableHlo.nullary main_v6 (sitofp .f32 (iotaInDim S64 32 0))
  :: StableHlo.unary main_v6 main_v7 (broadcastInDim S64x64 ![0] bcast_S64_S64x64_0 : (⟨S64, .f32⟩ : BufTy).Contents (Elt F) → (⟨S64x64, .f32⟩ : BufTy).Contents (Elt F))
  :: StableHlo.reshape main_v7 main_v8 (rfl : (.f32 : EltTy) = .f32) shapeCasts_S64x64_S4096
  :: StableHlo.nullary main_v9 (sitofp .f32 (iotaInDim S64 32 0))
  :: StableHlo.reshape main_v9 main_v10 (rfl : (.f32 : EltTy) = .f32) shapeCasts_S64_S1x64
  :: StableHlo.unary main_v10 main_v11 (broadcastInDim S64x64 ![0, 1] bcast_S1x64_S64x64_0_1 : (⟨S1x64, .f32⟩ : BufTy).Contents (Elt F) → (⟨S64x64, .f32⟩ : BufTy).Contents (Elt F))
  :: StableHlo.reshape main_v11 main_v12 (rfl : (.f32 : EltTy) = .f32) shapeCasts_S64x64_S4096
  :: StableHlo.nullary main_v13 (sitofp .f32 (iotaInDim S32 32 0))
  :: StableHlo.nullary main_cst (constant S_ .f32 0x40000000#32)
  :: StableHlo.unary main_cst main_v14 (broadcastInDim S32 ![] bcast_S_S32 : (⟨S_, .f32⟩ : BufTy).Contents (Elt F) → (⟨S32, .f32⟩ : BufTy).Contents (Elt F))
  :: StableHlo.binary main_v14 main_v13 main_v15 (mulf : (⟨S32, .f32⟩ : BufTy).Contents (Elt F) → (⟨S32, .f32⟩ : BufTy).Contents (Elt F) → (⟨S32, .f32⟩ : BufTy).Contents (Elt F))
  :: StableHlo.nullary main_cst_4 (constant S_ .f32 0x00000000#32)
  :: StableHlo.unary main_cst_4 main_v16 (broadcastInDim S32 ![] bcast_S_S32 : (⟨S_, .f32⟩ : BufTy).Contents (Elt F) → (⟨S32, .f32⟩ : BufTy).Contents (Elt F))
  :: StableHlo.binary main_v16 main_v15 main_v17 (addf : (⟨S32, .f32⟩ : BufTy).Contents (Elt F) → (⟨S32, .f32⟩ : BufTy).Contents (Elt F) → (⟨S32, .f32⟩ : BufTy).Contents (Elt F))
  :: StableHlo.unary main_v17 main_v18 (Host.negf : (⟨S32, .f32⟩ : BufTy).Contents (Elt F) → (⟨S32, .f32⟩ : BufTy).Contents (Elt F))
  :: StableHlo.nullary main_cst_5 (constant S_ .f32 0x42800000#32)
  :: StableHlo.unary main_cst_5 main_v19 (broadcastInDim S32 ![] bcast_S_S32 : (⟨S_, .f32⟩ : BufTy).Contents (Elt F) → (⟨S32, .f32⟩ : BufTy).Contents (Elt F))
  :: StableHlo.binary main_v18 main_v19 main_v20 (Host.divf : (⟨S32, .f32⟩ : BufTy).Contents (Elt F) → (⟨S32, .f32⟩ : BufTy).Contents (Elt F) → (⟨S32, .f32⟩ : BufTy).Contents (Elt F))
  :: StableHlo.nullary main_cst_6 (constant S_ .f32 0x461C4000#32)
  :: StableHlo.unary main_cst_6 main_v21 (broadcastInDim S32 ![] bcast_S_S32 : (⟨S_, .f32⟩ : BufTy).Contents (Elt F) → (⟨S32, .f32⟩ : BufTy).Contents (Elt F))
  :: StableHlo.binary main_v21 main_v20 main_v22 (Host.powf : (⟨S32, .f32⟩ : BufTy).Contents (Elt F) → (⟨S32, .f32⟩ : BufTy).Contents (Elt F) → (⟨S32, .f32⟩ : BufTy).Contents (Elt F))
  :: StableHlo.unary main_v8 main_v23 (broadcastInDim S4096x1 ![0] bcast_S4096_S4096x1_0 : (⟨S4096, .f32⟩ : BufTy).Contents (Elt F) → (⟨S4096x1, .f32⟩ : BufTy).Contents (Elt F))
  :: StableHlo.unary main_v22 main_v24 (broadcastInDim S1x32 ![1] bcast_S32_S1x32_1 : (⟨S32, .f32⟩ : BufTy).Contents (Elt F) → (⟨S1x32, .f32⟩ : BufTy).Contents (Elt F))
  :: StableHlo.unary main_v23 main_v25 (broadcastInDim S4096x32 ![0, 1] bcast_S4096x1_S4096x32_0_1 : (⟨S4096x1, .f32⟩ : BufTy).Contents (Elt F) → (⟨S4096x32, .f32⟩ : BufTy).Contents (Elt F))
  :: StableHlo.unary main_v24 main_v26 (broadcastInDim S4096x32 ![0, 1] bcast_S1x32_S4096x32_0_1 : (⟨S1x32, .f32⟩ : BufTy).Contents (Elt F) → (⟨S4096x32, .f32⟩ : BufTy).Contents (Elt F))
  :: StableHlo.binary main_v25 main_v26 main_v27 (mulf : (⟨S4096x32, .f32⟩ : BufTy).Contents (Elt F) → (⟨S4096x32, .f32⟩ : BufTy).Contents (Elt F) → (⟨S4096x32, .f32⟩ : BufTy).Contents (Elt F))
  :: StableHlo.unary main_v12 main_v28 (broadcastInDim S4096x1 ![0] bcast_S4096_S4096x1_0 : (⟨S4096, .f32⟩ : BufTy).Contents (Elt F) → (⟨S4096x1, .f32⟩ : BufTy).Contents (Elt F))
  :: StableHlo.unary main_v22 main_v29 (broadcastInDim S1x32 ![1] bcast_S32_S1x32_1 : (⟨S32, .f32⟩ : BufTy).Contents (Elt F) → (⟨S1x32, .f32⟩ : BufTy).Contents (Elt F))
  :: StableHlo.unary main_v28 main_v30 (broadcastInDim S4096x32 ![0, 1] bcast_S4096x1_S4096x32_0_1 : (⟨S4096x1, .f32⟩ : BufTy).Contents (Elt F) → (⟨S4096x32, .f32⟩ : BufTy).Contents (Elt F))
  :: StableHlo.unary main_v29 main_v31 (broadcastInDim S4096x32 ![0, 1] bcast_S1x32_S4096x32_0_1 : (⟨S1x32, .f32⟩ : BufTy).Contents (Elt F) → (⟨S4096x32, .f32⟩ : BufTy).Contents (Elt F))
  :: StableHlo.binary main_v30 main_v31 main_v32 (mulf : (⟨S4096x32, .f32⟩ : BufTy).Contents (Elt F) → (⟨S4096x32, .f32⟩ : BufTy).Contents (Elt F) → (⟨S4096x32, .f32⟩ : BufTy).Contents (Elt F))
  :: StableHlo.binary main_v27 main_v32 main_v33 ((fun a b => concatenate S4096x64 1 [⟨S4096x32, a⟩, ⟨S4096x32, b⟩] concatenates_S4096x32_S4096x32_S4096x64_d1) : (⟨S4096x32, .f32⟩ : BufTy).Contents (Elt F) → (⟨S4096x32, .f32⟩ : BufTy).Contents (Elt F) → (⟨S4096x64, .f32⟩ : BufTy).Contents (Elt F))
  :: StableHlo.unary main_v33 main_v34 (Host.cos : (⟨S4096x64, .f32⟩ : BufTy).Contents (Elt F) → (⟨S4096x64, .f32⟩ : BufTy).Contents (Elt F))
  :: StableHlo.unary main_v33 main_v35 (Host.cos : (⟨S4096x64, .f32⟩ : BufTy).Contents (Elt F) → (⟨S4096x64, .f32⟩ : BufTy).Contents (Elt F))
  :: StableHlo.binary main_v34 main_v35 main_v36 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))
  :: StableHlo.unary main_v33 main_v37 (Host.sin : (⟨S4096x64, .f32⟩ : BufTy).Contents (Elt F) → (⟨S4096x64, .f32⟩ : BufTy).Contents (Elt F))
  :: StableHlo.unary main_v37 main_v38 (Host.negf : (⟨S4096x64, .f32⟩ : BufTy).Contents (Elt F) → (⟨S4096x64, .f32⟩ : BufTy).Contents (Elt F))
  :: StableHlo.unary main_v33 main_v39 (Host.sin : (⟨S4096x64, .f32⟩ : BufTy).Contents (Elt F) → (⟨S4096x64, .f32⟩ : BufTy).Contents (Elt F))
  :: StableHlo.binary main_v38 main_v39 main_v40 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))
  :: StableHlo.nullary main_c_7 (constantI S_ 32 1536#32)
  :: StableHlo.unary main_c_7 main_v41 (broadcastInDim S1536 ![] bcast_S_S1536 : (⟨S_, .i32⟩ : BufTy).Contents (Elt F) → (⟨S1536, .i32⟩ : BufTy).Contents (Elt F))
  :: StableHlo.binary main_c_1 main_v41 main_v42 (addi : (⟨S1536, .i32⟩ : BufTy).Contents (Elt F) → (⟨S1536, .i32⟩ : BufTy).Contents (Elt F) → (⟨S1536, .i32⟩ : BufTy).Contents (Elt F))
  :: StableHlo.ternary main_c_2 main_v42 main_c_1 main_v43 (select : (⟨S1536, .i1⟩ : BufTy).Contents (Elt F) → (⟨S1536, .i32⟩ : BufTy).Contents (Elt F) → (⟨S1536, .i32⟩ : BufTy).Contents (Elt F) → (⟨S1536, .i32⟩ : BufTy).Contents (Elt F))
  :: StableHlo.unary main_v43 main_v44 (broadcastInDim S1536x1 ![0] bcast_S1536_S1536x1_0 : (⟨S1536, .i32⟩ : BufTy).Contents (Elt F) → (⟨S1536x1, .i32⟩ : BufTy).Contents (Elt F))
  :: StableHlo.binary main_arg5 main_v44 main_v45 ((fun x i => Host.gather gather_S1024x1536_S1536x1_S1024x1536_0_1_n_n_1_1_10241 x i) : (⟨S1024x1536, .f32⟩ : BufTy).Contents (Elt F) → (⟨S1536x1, .i32⟩ : BufTy).Contents (Elt F) → (⟨S1024x1536, .f32⟩ : BufTy).Contents (Elt F))
  :: StableHlo.unary main_v45 main_v46 ((truncf .bf16 · bitsLt_bf16_f32) : (⟨S1024x1536, .f32⟩ : BufTy).Contents (Elt F) → (⟨S1024x1536, .bf16⟩ : BufTy).Contents (Elt F))
  :: StableHlo.reshape main_arg0 main_v47 (rfl : (.f32 : EltTy) = .f32) shapeCasts_S8x4096x1024_S32768x1024
  :: StableHlo.reshape main_arg1 main_v48 (rfl : (.f32 : EltTy) = .f32) shapeCasts_S1024_S1x1024
  :: StableHlo.unary main_arg2 main_v49 ((truncf .bf16 · bitsLt_bf16_f32) : (⟨S1024x4096, .f32⟩ : BufTy).Contents (Elt F) → (⟨S1024x4096, .bf16⟩ : BufTy).Contents (Elt F))
  :: StableHlo.unary main_arg3 main_v50 ((truncf .bf16 · bitsLt_bf16_f32) : (⟨S4096x1024, .f32⟩ : BufTy).Contents (Elt F) → (⟨S4096x1024, .bf16⟩ : BufTy).Contents (Elt F))
  :: StableHlo.reshape main_arg4 main_v51 (rfl : (.f32 : EltTy) = .f32) shapeCasts_S1024_S1x1024
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.reshape_bufs_sub .., StableHlo.nullary_bufs_sub .., StableHlo.reshape_bufs_sub .., StableHlo.unary_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.reshape_bufs_sub .., StableHlo.unary_bufs_sub .., StableHlo.unary_bufs_sub .., StableHlo.reshape_bufs_sub ..⟩
/-- 60 host operations of @main, window 0 (statements 1 … 60), in order. -/
abbrev main_part0_ops0 : List (HloOp τ sig (Elt F)) :=
  ( StableHlo.nullary main_c (fun i => lit0 (S128.rowMajor i))
  :: StableHlo.nullary main_c_0 (constantI S128 1 0#1)
  :: StableHlo.nullary main_c_1 (fun i => lit1 (S1536.rowMajor i))
  :: StableHlo.nullary main_c_2 (constantI S1536 1 0#1)
  :: StableHlo.nullary main_c_3 (constantI S_ 32 128#32)
  :: StableHlo.unary main_c_3 main_v0 (broadcastInDim S128 ![] bcast_S_S128 : (⟨S_, .i32⟩ : BufTy).Contents (Elt F) → (⟨S128, .i32⟩ : BufTy).Contents (Elt F))
  :: StableHlo.binary main_c main_v0 main_v1 (addi : (⟨S128, .i32⟩ : BufTy).Contents (Elt F) → (⟨S128, .i32⟩ : BufTy).Contents (Elt F) → (⟨S128, .i32⟩ : BufTy).Contents (Elt F))
  :: StableHlo.ternary main_c_0 main_v1 main_c main_v2 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v2 main_v3 (broadcastInDim S128x1 ![0] bcast_S128_S128x1_0 : (⟨S128, .i32⟩ : BufTy).Contents (Elt F) → (⟨S128x1, .i32⟩ : BufTy).Contents (Elt F))
  :: StableHlo.binary main_arg6 main_v3 main_v4 ((fun x i => Host.gather gather_S128_S128x1_S128_n_0_n_n_0_1_1 x i) : (⟨S128, .f32⟩ : BufTy).Contents (Elt F) → (⟨S128x1, .i32⟩ : BufTy).Contents (Elt F) → (⟨S128, .f32⟩ : BufTy).Contents (Elt F))
  :: StableHlo.reshape main_v4 main_v5 (rfl : (.f32 : EltTy) = .f32) shapeCasts_S128_S1x128
  :: StableHlo.nullary main_v6 (sitofp .f32 (iotaInDim S64 32 0))
  :: StableHlo.unary main_v6 main_v7 (broadcastInDim S64x64 ![0] bcast_S64_S64x64_0 : (⟨S64, .f32⟩ : BufTy).Contents (Elt F) → (⟨S64x64, .f32⟩ : BufTy).Contents (Elt F))
  :: StableHlo.reshape main_v7 main_v8 (rfl : (.f32 : EltTy) = .f32) shapeCasts_S64x64_S4096
  :: StableHlo.nullary main_v9 (sitofp .f32 (iotaInDim S64 32 0))
  :: StableHlo.reshape main_v9 main_v10 (rfl : (.f32 : EltTy) = .f32) shapeCasts_S64_S1x64
  :: StableHlo.unary main_v10 main_v11 (broadcastInDim S64x64 ![0, 1] bcast_S1x64_S64x64_0_1 : (⟨S1x64, .f32⟩ : BufTy).Contents (Elt F) → (⟨S64x64, .f32⟩ : BufTy).Contents (Elt F))
  :: StableHlo.reshape main_v11 main_v12 (rfl : (.f32 : EltTy) = .f32) shapeCasts_S64x64_S4096
  :: StableHlo.nullary main_v13 (sitofp .f32 (iotaInDim S32 32 0))
  :: StableHlo.nullary main_cst (constant S_ .f32 0x40000000#32)
  :: StableHlo.unary main_cst main_v14 (broadcastInDim S32 ![] bcast_S_S32 : (⟨S_, .f32⟩ : BufTy).Contents (Elt F) → (⟨S32, .f32⟩ : BufTy).Contents (Elt F))
  :: StableHlo.binary main_v14 main_v13 main_v15 (mulf : (⟨S32, .f32⟩ : BufTy).Contents (Elt F) → (⟨S32, .f32⟩ : BufTy).Contents (Elt F) → (⟨S32, .f32⟩ : BufTy).Contents (Elt F))
  :: StableHlo.nullary main_cst_4 (constant S_ .f32 0x00000000#32)
  :: StableHlo.unary main_cst_4 main_v16 (broadcastInDim S32 ![] bcast_S_S32 : (⟨S_, .f32⟩ : BufTy).Contents (Elt F) → (⟨S32, .f32⟩ : BufTy).Contents (Elt F))
  :: StableHlo.binary main_v16 main_v15 main_v17 (addf : (⟨S32, .f32⟩ : BufTy).Contents (Elt F) → (⟨S32, .f32⟩ : BufTy).Contents (Elt F) → (⟨S32, .f32⟩ : BufTy).Contents (Elt F))
  :: StableHlo.unary main_v17 main_v18 (Host.negf : (⟨S32, .f32⟩ : BufTy).Contents (Elt F) → (⟨S32, .f32⟩ : BufTy).Contents (Elt F))
  :: StableHlo.nullary main_cst_5 (constant S_ .f32 0x42800000#32)
  :: StableHlo.unary main_cst_5 main_v19 (broadcastInDim S32 ![] bcast_S_S32 : (⟨S_, .f32⟩ : BufTy).Contents (Elt F) → (⟨S32, .f32⟩ : BufTy).Contents (Elt F))
  :: StableHlo.binary main_v18 main_v19 main_v20 (Host.divf : (⟨S32, .f32⟩ : BufTy).Contents (Elt F) → (⟨S32, .f32⟩ : BufTy).Contents (Elt F) → (⟨S32, .f32⟩ : BufTy).Contents (Elt F))
  :: StableHlo.nullary main_cst_6 (constant S_ .f32 0x461C4000#32)
  :: StableHlo.unary main_cst_6 main_v21 (broadcastInDim S32 ![] bcast_S_S32 : (⟨S_, .f32⟩ : BufTy).Contents (Elt F) → (⟨S32, .f32⟩ : BufTy).Contents (Elt F))
  :: StableHlo.binary main_v21 main_v20 main_v22 (Host.powf : (⟨S32, .f32⟩ : BufTy).Contents (Elt F) → (⟨S32, .f32⟩ : BufTy).Contents (Elt F) → (⟨S32, .f32⟩ : BufTy).Contents (Elt F))
  :: StableHlo.unary main_v8 main_v23 (broadcastInDim S4096x1 ![0] bcast_S4096_S4096x1_0 : (⟨S4096, .f32⟩ : BufTy).Contents (Elt F) → (⟨S4096x1, .f32⟩ : BufTy).Contents (Elt F))
  :: StableHlo.unary main_v22 main_v24 (broadcastInDim S1x32 ![1] bcast_S32_S1x32_1 : (⟨S32, .f32⟩ : BufTy).Contents (Elt F) → (⟨S1x32, .f32⟩ : BufTy).Contents (Elt F))
  :: StableHlo.unary main_v23 main_v25 (broadcastInDim S4096x32 ![0, 1] bcast_S4096x1_S4096x32_0_1 : (⟨S4096x1, .f32⟩ : BufTy).Contents (Elt F) → (⟨S4096x32, .f32⟩ : BufTy).Contents (Elt F))
  :: StableHlo.unary main_v24 main_v26 (broadcastInDim S4096x32 ![0, 1] bcast_S1x32_S4096x32_0_1 : (⟨S1x32, .f32⟩ : BufTy).Contents (Elt F) → (⟨S4096x32, .f32⟩ : BufTy).Contents (Elt F))
  :: StableHlo.binary main_v25 main_v26 main_v27 (mulf : (⟨S4096x32, .f32⟩ : BufTy).Contents (Elt F) → (⟨S4096x32, .f32⟩ : BufTy).Contents (Elt F) → (⟨S4096x32, .f32⟩ : BufTy).Contents (Elt F))
  :: StableHlo.unary main_v12 main_v28 (broadcastInDim S4096x1 ![0] bcast_S4096_S4096x1_0 : (⟨S4096, .f32⟩ : BufTy).Contents (Elt F) → (⟨S4096x1, .f32⟩ : BufTy).Contents (Elt F))
  :: StableHlo.unary main_v22 main_v29 (broadcastInDim S1x32 ![1] bcast_S32_S1x32_1 : (⟨S32, .f32⟩ : BufTy).Contents (Elt F) → (⟨S1x32, .f32⟩ : BufTy).Contents (Elt F))
  :: StableHlo.unary main_v28 main_v30 (broadcastInDim S4096x32 ![0, 1] bcast_S4096x1_S4096x32_0_1 : (⟨S4096x1, .f32⟩ : BufTy).Contents (Elt F) → (⟨S4096x32, .f32⟩ : BufTy).Contents (Elt F))
  :: StableHlo.unary main_v29 main_v31 (broadcastInDim S4096x32 ![0, 1] bcast_S1x32_S4096x32_0_1 : (⟨S1x32, .f32⟩ : BufTy).Contents (Elt F) → (⟨S4096x32, .f32⟩ : BufTy).Contents (Elt F))
  :: StableHlo.binary main_v30 main_v31 main_v32 (mulf : (⟨S4096x32, .f32⟩ : BufTy).Contents (Elt F) → (⟨S4096x32, .f32⟩ : BufTy).Contents (Elt F) → (⟨S4096x32, .f32⟩ : BufTy).Contents (Elt F))
  :: StableHlo.binary main_v27 main_v32 main_v33 ((fun a b => concatenate S4096x64 1 [⟨S4096x32, a⟩, ⟨S4096x32, b⟩] concatenates_S4096x32_S4096x32_S4096x64_d1) : (⟨S4096x32, .f32⟩ : BufTy).Contents (Elt F) → (⟨S4096x32, .f32⟩ : BufTy).Contents (Elt F) → (⟨S4096x64, .f32⟩ : BufTy).Contents (Elt F))
  :: StableHlo.unary main_v33 main_v34 (Host.cos : (⟨S4096x64, .f32⟩ : BufTy).Contents (Elt F) → (⟨S4096x64, .f32⟩ : BufTy).Contents (Elt F))
  :: StableHlo.unary main_v33 main_v35 (Host.cos : (⟨S4096x64, .f32⟩ : BufTy).Contents (Elt F) → (⟨S4096x64, .f32⟩ : BufTy).Contents (Elt F))
  :: StableHlo.binary main_v34 main_v35 main_v36 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))
  :: StableHlo.unary main_v33 main_v37 (Host.sin : (⟨S4096x64, .f32⟩ : BufTy).Contents (Elt F) → (⟨S4096x64, .f32⟩ : BufTy).Contents (Elt F))
  :: StableHlo.unary main_v37 main_v38 (Host.negf : (⟨S4096x64, .f32⟩ : BufTy).Contents (Elt F) → (⟨S4096x64, .f32⟩ : BufTy).Contents (Elt F))
  :: StableHlo.unary main_v33 main_v39 (Host.sin : (⟨S4096x64, .f32⟩ : BufTy).Contents (Elt F) → (⟨S4096x64, .f32⟩ : BufTy).Contents (Elt F))
  :: StableHlo.binary main_v38 main_v39 main_v40 ((fun a b => concatenate S4096x128 1 [⟨S4096x64, a⟩, ⟨S4096x64, b⟩] concatenates_S4096x64_S4096x64_S4096x128_d1) : (⟨S4096x64, .f32⟩ : BufTy).Contents (Elt F) → (⟨S4096x64, .f32⟩ : BufTy).Contents (Elt F) → (⟨S4096x128, .f32⟩ : BufTy).Contents (Elt F))
  :: StableHlo.nullary main_c_7 (constantI S_ 32 1536#32)
  :: StableHlo.unary main_c_7 main_v41 (broadcastInDim S1536 ![] bcast_S_S1536 : (⟨S_, .i32⟩ : BufTy).Contents (Elt F) → (⟨S1536, .i32⟩ : BufTy).Contents (Elt F))
  :: StableHlo.binary main_c_1 main_v41 main_v42 (addi : (⟨S1536, .i32⟩ : BufTy).Contents (Elt F) → (⟨S1536, .i32⟩ : BufTy).Contents (Elt F) → (⟨S1536, .i32⟩ : BufTy).Contents (Elt F))
  :: StableHlo.ternary main_c_2 main_v42 main_c_1 main_v43 (select : (⟨S1536, .i1⟩ : BufTy).Contents (Elt F) → (⟨S1536, .i32⟩ : BufTy).Contents (Elt F) → (⟨S1536, .i32⟩ : BufTy).Contents (Elt F) → (⟨S1536, .i32⟩ : BufTy).Contents (Elt F))
  :: StableHlo.unary main_v43 main_v44 (broadcastInDim S1536x1 ![0] bcast_S1536_S1536x1_0 : (⟨S1536, .i32⟩ : BufTy).Contents (Elt F) → (⟨S1536x1, .i32⟩ : BufTy).Contents (Elt F))
  :: StableHlo.binary main_arg5 main_v44 main_v45 ((fun x i => Host.gather gather_S1024x1536_S1536x1_S1024x1536_0_1_n_n_1_1_10241 x i) : (⟨S1024x1536, .f32⟩ : BufTy).Contents (Elt F) → (⟨S1536x1, .i32⟩ : BufTy).Contents (Elt F) → (⟨S1024x1536, .f32⟩ : BufTy).Contents (Elt F))
  :: StableHlo.unary main_v45 main_v46 ((truncf .bf16 · bitsLt_bf16_f32) : (⟨S1024x1536, .f32⟩ : BufTy).Contents (Elt F) → (⟨S1024x1536, .bf16⟩ : BufTy).Contents (Elt F))
  :: StableHlo.reshape main_arg0 main_v47 (rfl : (.f32 : EltTy) = .f32) shapeCasts_S8x4096x1024_S32768x1024
  :: StableHlo.reshape main_arg1 main_v48 (rfl : (.f32 : EltTy) = .f32) shapeCasts_S1024_S1x1024
  :: StableHlo.unary main_arg2 main_v49 ((truncf .bf16 · bitsLt_bf16_f32) : (⟨S1024x4096, .f32⟩ : BufTy).Contents (Elt F) → (⟨S1024x4096, .bf16⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.reshape_bufs_sub .., StableHlo.nullary_bufs_sub .., StableHlo.reshape_bufs_sub .., StableHlo.unary_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.reshape_bufs_sub .., StableHlo.unary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (Pipeline.Sig Λ₀ (Fin 1) fun p => (pcfgs (F := F) p).Adm) .tc) PUnit) := by
  chain_rfl

/-- 2 host operations of @main, window 1 (statements 61 … 64), in order. -/
abbrev main_part1_ops0 : List (HloOp τ sig (Elt F)) :=
  [ StableHlo.unary main_arg3 main_v50 ((truncf .bf16 · bitsLt_bf16_f32) : (⟨S4096x1024, .f32⟩ : BufTy).Contents (Elt F) → (⟨S4096x1024, .bf16⟩ : BufTy).Contents (Elt F)),
    StableHlo.reshape main_arg4 main_v51 (rfl : (.f32 : EltTy) = .f32) shapeCasts_S1024_S1x1024 ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.reshape_bufs_sub ..⟩
/-- The last window of `main` (`main_part1`, statements 61 … 64) is the chain of ITS items, each item aligned with the window's
    statements, then `chain_rfl`. -/
theorem main_part1_chain (c : Dev nD) : main_part1 (F := F) c = (Pipeline.chain
  [ StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 1) fun p => (pcfgs (F := F) p).Adm)) :=
  [ .ops [main_part0_ops0, main_part1_ops0],
    .prog (Prog.lift (.customCall (Pipeline.entry 0) ())) ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) :=
  (main_chain_windows (F := F) c).trans <| (main_chain_cut (F := F) c).trans <|
    (StableHlo.chain_cut_eq_whole (main_groups (F := F) c)).trans (main_chain_whole (F := F) c)

section Kit

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjectionIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

end Kit

end Cert.ProjectionIdeal.Gen

end
-- ==== Proof.ProjectionIdealBody.lean ====
/-
  The projection kernel's body: its memrefs, the blocks that it reads, and what it computes from them.
-/
module

public import proofs.«01_k».proof.Proof.Step
public import proofs.«01_k».proof.Proof.ProjectionIdealKit

@[expose] public section

set_option maxRecDepth 65536

noncomputable section

namespace Cert.ProjectionIdeal.Body

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn (own)

variable {F : FTy → Type} [FloatOps F]

local notation "𝕄" => MT nD τ sig Unit (Elt F) ℕ (UR sig nD τ) ℕ

/-- The memrefs that the body is called with: the nine inputs, the four outputs, the scratch. -/
structure Mem where
  arg1 : Memref sig .tc .vmem S512x1024 .f32
  harg1 : arg1.IsWhole
  arg2 : Memref sig .tc .vmem S1x1024 .f32
  harg2 : arg2.IsWhole
  arg3 : Memref sig .tc .vmem S1024x4096 .bf16
  harg3 : arg3.IsWhole
  arg4 : Memref sig .tc .vmem S4096x1024 .bf16
  harg4 : arg4.IsWhole
  arg5 : Memref sig .tc .vmem S1x1024 .f32
  harg5 : arg5.IsWhole
  arg6 : Memref sig .tc .vmem S1024x1536 .bf16
  harg6 : arg6.IsWhole
  arg7 : Memref sig .tc .vmem S1x128 .f32
  harg7 : arg7.IsWhole
  arg8 : Memref sig .tc .vmem S512x128 .f32
  harg8 : arg8.IsWhole
  arg9 : Memref sig .tc .vmem S512x128 .f32
  harg9 : arg9.IsWhole
  arg10 : Memref sig .tc .vmem S512x1024 .f32
  harg10 : arg10.IsWhole
  arg11 : Memref sig .tc .vmem S512x1024 .f32
  harg11 : arg11.IsWhole
  arg12 : Memref sig .tc .vmem S1x2x512x128 .bf16
  harg12 : arg12.IsWhole
  arg13 : Memref sig .tc .vmem S1x2x512x256 .bf16
  harg13 : arg13.IsWhole
  arg14 : Memref sig .tc .vmem S2x512x512 .f32
  harg14 : arg14.IsWhole

/-- The blocks that the body reads. -/
structure Inp (F : FTy → Type) [FloatOps F] where
  x : Vec F S512x1024 .f32
  g : Vec F S1x1024 .f32
  up : Vec F S1024x4096 .bf16
  down : Vec F S4096x1024 .bf16
  ga : Vec F S1x1024 .f32
  w : Vec F S1024x1536 .bf16
  kg : Vec F S1x128 .f32
  cos : Vec F S512x128 .f32
  sin : Vec F S512x128 .f32

/-- The body as printed, at those memrefs. -/
abbrev prog (i : grid0.Coords) (A : Mem) : Prog (TpuEff nD τ sig (Elt F) Λ₀ .tc) PUnit :=
  cc0_mlp_qkv i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14

/-- The first point's test. -/
abbrev cond0 (i : grid0.Coords) : Prop :=
  Scalar.cmpi .ne (Scalar.extui (Scalar.cmpi .eq (BitVec.ofNat 32 (i 0).val) 0#32) : BitVec 32) 0#32 = 1#1

/-! ## What the body computes -/

section Values

/-- A row block's normalisation. -/
def normV (y : FVec F S512x1024 .f32) (g : Vec F S1x1024 .f32) : FVec F S512x1024 .f32 :=
  mulf (mulf y (broadcastTo S512x1024 (rsqrt (addf (divf (shapeCast S512x1 (multiReduction .add [1] S512 (mulf y y) 0x00000000#32 reduces_S512x1024_S512 (.inl rfl) rfl)
      shapeCasts_S512_S512x1) (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A block plus one chunk of the feed-forward part. -/
def chunkV (acc : FVec F S512x1024 .f32) (n : FVec F S512x1024 .bf16) (u d : Vec F S1024x1024 .bf16) : FVec F S512x1024 .f32 :=
  addf acc (matmul dot_S512x1024_S1024x1024_S512x1024_1_0_0_1_n_n none
    (truncf .bf16 (mulf
      (maximumf (matmul dot_S512x1024_S1024x1024_S512x1024_1_0_0_1_n_n none n (shapeCast S1024x1024 u shapeCasts_S1024x1024_S1024x1024)
        (constant S512x1024 .f32 0x00000000#32)) (broadcast S512x1024 (Scalar.ofBits .f32 0x00000000#32)))
      (maximumf (matmul dot_S512x1024_S1024x1024_S512x1024_1_0_0_1_n_n none n (shapeCast S1024x1024 u shapeCasts_S1024x1024_S1024x1024)
        (constant S512x1024 .f32 0x00000000#32)) (broadcast S512x1024 (Scalar.ofBits .f32 0x00000000#32)))) bitsLt_bf16_f32)
    (shapeCast S1024x1024 d shapeCasts_S1024x1024_S1024x1024) (constant S512x1024 .f32 0x00000000#32))

abbrev allX (x : Vec F S512x1024 .f32) : Vec F S512x1024 .f32 := View.ld x (Rect.unit (s := S512x1024) ![0, 0] S512x1024.size inb_S512x1024_S512x1024_0_0)
abbrev allG (x : Vec F S1x1024 .f32) : Vec F S1x1024 .f32 := View.ld x (Rect.unit (s := S1x1024) ![0, 0] S1x1024.size inb_S1x1024_S1x1024_0_0)
abbrev allW (x : Vec F S1024x1536 .bf16) : Vec F S1024x1536 .bf16 := View.ld x (Rect.unit (s := S1024x1536) ![0, 0] S1024x1536.size inb_S1024x1536_S1024x1536_0_0)
abbrev allK (x : Vec F S1x128 .f32) : Vec F S1x128 .f32 := View.ld x (Rect.unit (s := S1x128) ![0, 0] S1x128.size inb_S1x128_S1x128_0_0)
abbrev allT (x : Vec F S512x128 .f32) : Vec F S512x128 .f32 := View.ld x (Rect.unit (s := S512x128) ![0, 0] S512x128.size inb_S512x128_S512x128_0_0)

/-- The block of rows as the feed-forward part starts from it, and normalised. -/
abbrev startV (I : Inp F) : FVec F S512x1024 .f32 := shapeCast S512x1024 (allX I.x) shapeCasts_S512x1024_S512x1024
abbrev hV (I : Inp F) : FVec F S512x1024 .bf16 := truncf .bf16 (normV (startV I) (allG I.g)) bitsLt_bf16_f32

/-- The block after the feed-forward part. -/
def x2V (I : Inp F) : FVec F S512x1024 .f32 :=
  chunkV (chunkV (chunkV (chunkV (startV I)
    (hV I) (View.ld I.up (Rect.unit (s := S1024x4096) ![0, 0] S1024x1024.size inb_S1024x4096_S1024x1024_0_0))
      (View.ld I.down (Rect.unit (s := S4096x1024) ![0, 0] S1024x1024.size inb_S4096x1024_S1024x1024_0_0)))
    (hV I) (View.ld I.up (Rect.unit (s := S1024x4096) ![0, 1024] S1024x1024.size inb_S1024x4096_S1024x1024_0_1024))
      (View.ld I.down (Rect.unit (s := S4096x1024) ![1024, 0] S1024x1024.size inb_S4096x1024_S1024x1024_1024_0)))
    (hV I) (View.ld I.up (Rect.unit (s := S1024x4096) ![0, 2048] S1024x1024.size inb_S1024x4096_S1024x1024_0_2048))
      (View.ld I.down (Rect.unit (s := S4096x1024) ![2048, 0] S1024x1024.size inb_S4096x1024_S1024x1024_2048_0)))
    (hV I) (View.ld I.up (Rect.unit (s := S1024x4096) ![0, 3072] S1024x1024.size inb_S1024x4096_S1024x1024_0_3072))
      (View.ld I.down (Rect.unit (s := S4096x1024) ![3072, 0] S1024x1024.size inb_S4096x1024_S1024x1024_3072_0))

/-- Its projection to queries, keys and values. -/
def qkvV (I : Inp F) : FVec F S512x1536 .f32 :=
  matmul dot_S512x1024_S1024x1536_S512x1536_1_0_0_1_n_n none (truncf .bf16 (normV (x2V I) (allG I.ga)) bitsLt_bf16_f32)
    (shapeCast S1024x1536 (allW I.w) shapeCasts_S1024x1536_S1024x1536) (constant S512x1536 .f32 0x00000000#32)

/-- The queries, and the keys and values. -/
def qV (I : Inp F) : FVec F S512x1024 .f32 := extractStridedSlice S512x1024 ![0, 0] (qkvV I) slices_S512x1536_o0_0_S512x1024
def rawV (I : Inp F) : FVec F S512x512 .f32 := extractStridedSlice S512x512 ![0, 1024] (qkvV I) slices_S512x1536_o0_1024_S512x512

/-- A slot of the scratch. -/
def slotV (X : Vec F S2x512x512 .f32) (off : Fin 3 → ℕ) (h : ∀ a, off a + S1x512x512.size a ≤ S2x512x512.size a) : FVec F S512x512 .f32 :=
  shapeCast S512x512 (View.ld X (Rect.unit (s := S2x512x512) off S1x512x512.size h)) shapeCasts_S1x512x512_S512x512

/-- 128 columns of it. -/
abbrev headV (P : FVec F S512x512 .f32) (off : Fin 2 → ℕ) (h : ∀ a, off a + S512x128.size a ≤ S512x512.size a) : FVec F S512x128 .f32 :=
  View.ld (Val := Elt F) (e' := .f32) P (Rect.unit (s := S512x512) off S512x128.size h)

/-- A key head normalised, -/
def knormV (z : FVec F S512x128 .f32) (g : Vec F S1x128 .f32) : FVec F S512x128 .f32 :=
  mulf (mulf z (broadcastTo S512x128 (rsqrt (addf (divf (shapeCast S512x1 (multiReduction .add [1] S512 (mulf z z) 0x00000000#32 reduces_S512x128_S512 (.inl rfl) rfl)
      shapeCasts_S512_S512x1) (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- and turned. -/
def keyV (I : Inp F) (z : FVec F S512x128 .f32) : FVec F S512x128 .bf16 :=
  truncf .bf16 (addf (mulf (knormV z (allK I.kg)) (shapeCast S512x128 (allT I.cos) shapeCasts_S512x128_S512x128))
    (mulf (dynamicRotate 1 64#32 none (knormV z (allK I.kg)) rotates_S512x128_d1) (shapeCast S512x128 (allT I.sin) shapeCasts_S512x128_S512x128))) bitsLt_bf16_f32

/-- The column of ones with columns of zeros after it. -/
def onesV : FVec F S512x128 .bf16 :=
  truncf .bf16 (select (cmpi .eq (iota .tc S512x128 32 [1] iota_S512x128_d1_w32) (broadcast S512x128 0#32))
    (broadcast S512x128 (Scalar.ofBits .f32 0x3F800000#32 : F .f32)) (broadcast S512x128 (Scalar.ofBits .f32 0x00000000#32 : F .f32))) bitsLt_bf16_f32

/-- The pieces of the stored keys, the last first. -/
def keyL (I : Inp F) (P : FVec F S512x512 .f32) : List (View.Piece (Elt F) S1x2x512x128 .bf16) :=
  [⟨Rect.unit (s := S1x2x512x128) ![0, 1, 0, 0] S1x1x512x128.size inb_S1x2x512x128_S1x1x512x128_0_1_0_0,
    shapeCast S1x1x512x128 (keyV I (headV P ![0, 128] inb_S512x512_S512x128_0_128)) shapeCasts_S512x128_S1x1x512x128⟩,
   ⟨Rect.unit (s := S1x2x512x128) ![0, 0, 0, 0] S1x1x512x128.size inb_S1x2x512x128_S1x1x512x128_0_0_0_0,
    shapeCast S1x1x512x128 (keyV I (headV P ![0, 0] inb_S512x512_S512x128_0_0)) shapeCasts_S512x128_S1x1x512x128⟩]

/-- The pieces of the stored values. -/
def valL (P : FVec F S512x512 .f32) : List (View.Piece (Elt F) S1x2x512x256 .bf16) :=
  [⟨Rect.unit (s := S1x2x512x256) ![0, 1, 0, 128] S1x1x512x128.size inb_S1x2x512x256_S1x1x512x128_0_1_0_128,
    shapeCast S1x1x512x128 (onesV (F := F)) shapeCasts_S512x128_S1x1x512x128⟩,
   ⟨Rect.unit (s := S1x2x512x256) ![0, 1, 0, 0] S1x1x512x128.size inb_S1x2x512x256_S1x1x512x128_0_1_0_0,
    shapeCast S1x1x512x128 (truncf .bf16 (headV P ![0, 384] inb_S512x512_S512x128_0_384) bitsLt_bf16_f32) shapeCasts_S512x128_S1x1x512x128⟩,
   ⟨Rect.unit (s := S1x2x512x256) ![0, 0, 0, 128] S1x1x512x128.size inb_S1x2x512x256_S1x1x512x128_0_0_0_128,
    shapeCast S1x1x512x128 (onesV (F := F)) shapeCasts_S512x128_S1x1x512x128⟩,
   ⟨Rect.unit (s := S1x2x512x256) ![0, 0, 0, 0] S1x1x512x128.size inb_S1x2x512x256_S1x1x512x128_0_0_0_0,
    shapeCast S1x1x512x128 (truncf .bf16 (headV P ![0, 256] inb_S512x512_S512x128_0_256) bitsLt_bf16_f32) shapeCasts_S512x128_S1x1x512x128⟩]

/-- The stored blocks. -/
def keyB (I : Inp F) (P : FVec F S512x512 .f32) : Vec F S1x2x512x128 .bf16 := View.canon (keyL I P)
def valB (P : FVec F S512x512 .f32) : Vec F S1x2x512x256 .bf16 := View.canon (valL P)

theorem keyL_cover (I : Inp F) (P : FVec F S512x512 .f32) : ∀ y, ∃ p ∈ keyL I P, y ∈ p.1.set :=
  View.cover_of_tiledL _ S1x1x512x128.size (by sl_kernel_rfl)
theorem valL_cover (P : FVec F S512x512 .f32) : ∀ y, ∃ p ∈ valL P, y ∈ p.1.set :=
  View.cover_of_tiledL _ S1x1x512x128.size (by sl_kernel_rfl)

/-- The inputs as the memrefs' views read them. -/
def via (A : Mem) (I : Inp F) : Inp F where
  x := A.arg1.view.read (Elt F) (A.harg1.unread I.x)
  g := A.arg2.view.read (Elt F) (A.harg2.unread I.g)
  up := A.arg3.view.read (Elt F) (A.harg3.unread I.up)
  down := A.arg4.view.read (Elt F) (A.harg4.unread I.down)
  ga := A.arg5.view.read (Elt F) (A.harg5.unread I.ga)
  w := A.arg6.view.read (Elt F) (A.harg6.unread I.w)
  kg := A.arg7.view.read (Elt F) (A.harg7.unread I.kg)
  cos := A.arg8.view.read (Elt F) (A.harg8.unread I.cos)
  sin := A.arg9.view.read (Elt F) (A.harg9.unread I.sin)

theorem via_eq (A : Mem) (I : Inp F) : via A I = I := by
  unfold via
  rw [A.harg1.read_unread, A.harg2.read_unread, A.harg3.read_unread, A.harg4.read_unread, A.harg5.read_unread, A.harg6.read_unread,
    A.harg7.read_unread, A.harg8.read_unread, A.harg9.read_unread]

end Values

end Cert.ProjectionIdeal.Body

end
-- ==== Proof.ProjectionIdealBodyA.lean ====
/-
  The run of the projection kernel's body over its memrefs at the first point.
-/
module

public import proofs.«01_k».proof.Proof.Step
public import proofs.«01_k».proof.Proof.ProjectionIdealBody

@[expose] public section

set_option maxRecDepth 65536

noncomputable section

namespace Cert.ProjectionIdeal.Body

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn (own)

variable {F : FTy → Type} [FloatOps F]

local notation "𝕄" => MT nD τ sig Unit (Elt F) ℕ (UR sig nD τ) ℕ

set_option maxHeartbeats 2000000 in set_option sl_exec.closedPieces true in
/-- The body's run at the first point: what its stores leave in each output's buffer and in the scratch, as pieces, with the run to them. -/
def runA (c : Dev nD) (i : grid0.Coords) (A : Mem) (h0 : cond0 i) (h1 : k0_off1 i = ![1, 0, 0]) (h2 : k0_off2 i = ![0, 0, 0]) (I : Inp F) (X : Vec F S2x512x512 .f32) :
    Σ' (L9 : List (View.Piece (Elt F) S512x1024 .f32)), Σ' (L10 : List (View.Piece (Elt F) S512x1024 .f32)), Σ' (L11 : List (View.Piece (Elt F) S1x2x512x128 .bf16)), Σ' (L12 : List (View.Piece (Elt F) S1x2x512x256 .bf16)), { L : List (View.Piece (Elt F) S2x512x512 .f32) //
      ∀ (E : Set ℕ) (K : PUnit → sProp 𝕄),
        iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ d, own c A.arg10 d) ∗ (∃ d, own c A.arg11 d) ∗ (∃ d, own c A.arg12 d) ∗ (∃ d, own c A.arg13 d) ∗ own c A.arg14 X
            ∗ (iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ f, A.arg10.view.loc (c : Thread nD τ) ↦[A.arg10.view.set]{fullShare} A.arg10.view.writes (Elt F) f L9) ∗ (∃ f, A.arg11.view.loc (c : Thread nD τ) ↦[A.arg11.view.set]{fullShare} A.arg11.view.writes (Elt F) f L10) ∗ (∃ f, A.arg12.view.loc (c : Thread nD τ) ↦[A.arg12.view.set]{fullShare} A.arg12.view.writes (Elt F) f L11) ∗ (∃ f, A.arg13.view.loc (c : Thread nD τ) ↦[A.arg13.view.set]{fullShare} A.arg13.view.writes (Elt F) f L12) ∗ (A.arg14.view.loc (c : Thread nD τ) ↦[A.arg14.view.set]{fullShare} A.arg14.view.writes (Elt F) (A.harg14.unread X) L)) -∗ K ⟨⟩))
          ⊢ wp frame (wpE (defs₀ (F := F)) Variants.none c none) E (prog i A) K } := by
  refine ⟨?_, ?_, ?_, ?_, ?_, fun E K => ?run⟩
  case run =>
    letI : ClosedOff (k0_off1 i) := ⟨![1, 0, 0], h1⟩
    letI : ClosedOff (k0_off2 i) := ⟨![0, 0, 0], h2⟩
    unfold prog cc0_mlp_qkv k0_part1 k0_part2 k0_part3 k0_part4 k0_part5
    unfold Attn.own owns
    iintro ⟨⟨%f1, %g1, H1⟩, ⟨%f2, %g2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%f14, %h14, H14⟩, Hk⟩
    obtain rfl := A.harg1.eq_unread g1; obtain rfl := A.harg2.eq_unread g2; obtain rfl := A.harg3.eq_unread h3; obtain rfl := A.harg4.eq_unread h4; obtain rfl := A.harg5.eq_unread h5; obtain rfl := A.harg6.eq_unread h6; obtain rfl := A.harg7.eq_unread h7; obtain rfl := A.harg8.eq_unread h8; obtain rfl := A.harg9.eq_unread h9; obtain rfl := A.harg14.eq_unread h14
    sl_exec (disch := sl_exact h0)
    sl_step
    iapply Hk
    isplitl [H1]
    · iexists _; isplitr; · ipureintro; exact A.harg1.read_unread _
      iexact H1
    isplitl [H2]
    · iexists _; isplitr; · ipureintro; exact A.harg2.read_unread _
      iexact H2
    isplitl [H3]
    · iexists _; isplitr; · ipureintro; exact A.harg3.read_unread _
      iexact H3
    isplitl [H4]
    · iexists _; isplitr; · ipureintro; exact A.harg4.read_unread _
      iexact H4
    isplitl [H5]
    · iexists _; isplitr; · ipureintro; exact A.harg5.read_unread _
      iexact H5
    isplitl [H6]
    · iexists _; isplitr; · ipureintro; exact A.harg6.read_unread _
      iexact H6
    isplitl [H7]
    · iexists _; isplitr; · ipureintro; exact A.harg7.read_unread _
      iexact H7
    isplitl [H8]
    · iexists _; isplitr; · ipureintro; exact A.harg8.read_unread _
      iexact H8
    isplitl [H9]
    · iexists _; isplitr; · ipureintro; exact A.harg9.read_unread _
      iexact H9
    isplitl [H10]; · iexists _; iexact H10
    isplitl [H11]; · iexists _; iexact H11
    isplitl [H12]; · iexists _; iexact H12
    isplitl [H13]; · iexists _; iexact H13
    iexact H14

end Cert.ProjectionIdeal.Body

end
-- ==== Proof.ProjectionIdealBodyB.lean ====
/-
  The run of the projection kernel's body over its memrefs at an odd point.
-/
module

public import proofs.«01_k».proof.Proof.Step
public import proofs.«01_k».proof.Proof.ProjectionIdealBody

@[expose] public section

set_option maxRecDepth 65536

noncomputable section

namespace Cert.ProjectionIdeal.Body

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn (own)

variable {F : FTy → Type} [FloatOps F]

local notation "𝕄" => MT nD τ sig Unit (Elt F) ℕ (UR sig nD τ) ℕ

set_option maxHeartbeats 2000000 in set_option sl_exec.closedPieces true in
/-- The body's run at an odd point: what its stores leave in each output's buffer and in the scratch, as pieces, with the run to them. -/
def runB (c : Dev nD) (i : grid0.Coords) (A : Mem) (h0 : ¬cond0 i) (h1 : k0_off1 i = ![0, 0, 0]) (h2 : k0_off2 i = ![1, 0, 0]) (I : Inp F) (X : Vec F S2x512x512 .f32) :
    Σ' (L9 : List (View.Piece (Elt F) S512x1024 .f32)), Σ' (L10 : List (View.Piece (Elt F) S512x1024 .f32)), Σ' (L11 : List (View.Piece (Elt F) S1x2x512x128 .bf16)), Σ' (L12 : List (View.Piece (Elt F) S1x2x512x256 .bf16)), { L : List (View.Piece (Elt F) S2x512x512 .f32) //
      ∀ (E : Set ℕ) (K : PUnit → sProp 𝕄),
        iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ d, own c A.arg10 d) ∗ (∃ d, own c A.arg11 d) ∗ (∃ d, own c A.arg12 d) ∗ (∃ d, own c A.arg13 d) ∗ own c A.arg14 X
            ∗ (iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ f, A.arg10.view.loc (c : Thread nD τ) ↦[A.arg10.view.set]{fullShare} A.arg10.view.writes (Elt F) f L9) ∗ (∃ f, A.arg11.view.loc (c : Thread nD τ) ↦[A.arg11.view.set]{fullShare} A.arg11.view.writes (Elt F) f L10) ∗ (∃ f, A.arg12.view.loc (c : Thread nD τ) ↦[A.arg12.view.set]{fullShare} A.arg12.view.writes (Elt F) f L11) ∗ (∃ f, A.arg13.view.loc (c : Thread nD τ) ↦[A.arg13.view.set]{fullShare} A.arg13.view.writes (Elt F) f L12) ∗ (A.arg14.view.loc (c : Thread nD τ) ↦[A.arg14.view.set]{fullShare} A.arg14.view.writes (Elt F) (A.harg14.unread X) L)) -∗ K ⟨⟩))
          ⊢ wp frame (wpE (defs₀ (F := F)) Variants.none c none) E (prog i A) K } := by
  refine ⟨?_, ?_, ?_, ?_, ?_, fun E K => ?run⟩
  case run =>
    letI : ClosedOff (k0_off1 i) := ⟨![0, 0, 0], h1⟩
    letI : ClosedOff (k0_off2 i) := ⟨![1, 0, 0], h2⟩
    unfold prog cc0_mlp_qkv k0_part1 k0_part2 k0_part3 k0_part4 k0_part5
    unfold Attn.own owns
    iintro ⟨⟨%f1, %g1, H1⟩, ⟨%f2, %g2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%f14, %h14, H14⟩, Hk⟩
    obtain rfl := A.harg1.eq_unread g1; obtain rfl := A.harg2.eq_unread g2; obtain rfl := A.harg3.eq_unread h3; obtain rfl := A.harg4.eq_unread h4; obtain rfl := A.harg5.eq_unread h5; obtain rfl := A.harg6.eq_unread h6; obtain rfl := A.harg7.eq_unread h7; obtain rfl := A.harg8.eq_unread h8; obtain rfl := A.harg9.eq_unread h9; obtain rfl := A.harg14.eq_unread h14
    sl_exec (disch := sl_exact h0)
    sl_step
    iapply Hk
    isplitl [H1]
    · iexists _; isplitr; · ipureintro; exact A.harg1.read_unread _
      iexact H1
    isplitl [H2]
    · iexists _; isplitr; · ipureintro; exact A.harg2.read_unread _
      iexact H2
    isplitl [H3]
    · iexists _; isplitr; · ipureintro; exact A.harg3.read_unread _
      iexact H3
    isplitl [H4]
    · iexists _; isplitr; · ipureintro; exact A.harg4.read_unread _
      iexact H4
    isplitl [H5]
    · iexists _; isplitr; · ipureintro; exact A.harg5.read_unread _
      iexact H5
    isplitl [H6]
    · iexists _; isplitr; · ipureintro; exact A.harg6.read_unread _
      iexact H6
    isplitl [H7]
    · iexists _; isplitr; · ipureintro; exact A.harg7.read_unread _
      iexact H7
    isplitl [H8]
    · iexists _; isplitr; · ipureintro; exact A.harg8.read_unread _
      iexact H8
    isplitl [H9]
    · iexists _; isplitr; · ipureintro; exact A.harg9.read_unread _
      iexact H9
    isplitl [H10]; · iexists _; iexact H10
    isplitl [H11]; · iexists _; iexact H11
    isplitl [H12]; · iexists _; iexact H12
    isplitl [H13]; · iexists _; iexact H13
    iexact H14

end Cert.ProjectionIdeal.Body

end
-- ==== Proof.ProjectionIdealBodyC.lean ====
/-
  The run of the projection kernel's body over its memrefs at a later even point.
-/
module

public import proofs.«01_k».proof.Proof.Step
public import proofs.«01_k».proof.Proof.ProjectionIdealBody

@[expose] public section

set_option maxRecDepth 65536

noncomputable section

namespace Cert.ProjectionIdeal.Body

open Cert.ProjectionIdeal Cert.ProjectionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Attn (own)

variable {F : FTy → Type} [FloatOps F]

local notation "𝕄" => MT nD τ sig Unit (Elt F) ℕ (UR sig nD τ) ℕ

set_option maxHeartbeats 2000000 in set_option sl_exec.closedPieces true in
/-- The body's run at a later even point: what its stores leave in each output's buffer and in the scratch, as pieces, with the run to them. -/
def runC (c : Dev nD) (i : grid0.Coords) (A : Mem) (h0 : ¬cond0 i) (h1 : k0_off1 i = ![1, 0, 0]) (h2 : k0_off2 i = ![0, 0, 0]) (I : Inp F) (X : Vec F S2x512x512 .f32) :
    Σ' (L9 : List (View.Piece (Elt F) S512x1024 .f32)), Σ' (L10 : List (View.Piece (Elt F) S512x1024 .f32)), Σ' (L11 : List (View.Piece (Elt F) S1x2x512x128 .bf16)), Σ' (L12 : List (View.Piece (Elt F) S1x2x512x256 .bf16)), { L : List (View.Piece (Elt F) S2x512x512 .f32) //
      ∀ (E : Set ℕ) (K : PUnit → sProp 𝕄),
        iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ d, own c A.arg10 d) ∗ (∃ d, own c A.arg11 d) ∗ (∃ d, own c A.arg12 d) ∗ (∃ d, own c A.arg13 d) ∗ own c A.arg14 X
            ∗ (iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ f, A.arg10.view.loc (c : Thread nD τ) ↦[A.arg10.view.set]{fullShare} A.arg10.view.writes (Elt F) f L9) ∗ (∃ f, A.arg11.view.loc (c : Thread nD τ) ↦[A.arg11.view.set]{fullShare} A.arg11.view.writes (Elt F) f L10) ∗ (∃ f, A.arg12.view.loc (c : Thread nD τ) ↦[A.arg12.view.set]{fullShare} A.arg12.view.writes (Elt F) f L11) ∗ (∃ f, A.arg13.view.loc (c : Thread nD τ) ↦[A.arg13.view.set]{fullShare} A.arg13.view.writes (Elt F) f L12) ∗ (A.arg14.view.loc (c : Thread nD τ) ↦[A.arg14.view.set]{fullShare} A.arg14.view.writes (Elt F) (A.harg14.unread X) L)) -∗ K ⟨⟩))
          ⊢ wp frame (wpE (defs₀ (F := F)) Variants.none c none) E (prog i A) K } := by
  refine ⟨?_, ?_, ?_, ?_, ?_, fun E K => ?run⟩
  case run =>
    letI : ClosedOff (k0_off1 i) := ⟨![1, 0, 0], h1⟩
    letI : ClosedOff (k0_off2 i) := ⟨![0, 0, 0], h2⟩
    unfold prog cc0_mlp_qkv k0_part1 k0_part2 k0_part3 k0_part4 k0_part5
    unfold Attn.own owns
    iintro ⟨⟨%f1, %g1, H1⟩, ⟨%f2, %g2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%f14, %h14, H14⟩, Hk⟩
    obtain rfl := A.harg1.eq_unread g1; obtain rfl := A.harg2.eq_unread g2; obtain rfl := A.harg3.eq_unread h3; obtain rfl := A.harg4.eq_unread h4; obtain rfl := A.harg5.eq_unread h5; obtain rfl := A.harg6.eq_unread h6; obtain rfl := A.harg7.eq_unread h7; obtain rfl := A.harg8.eq_unread h8; obtain rfl := A.harg9.eq_unread h9; obtain rfl := A.harg14.eq_unread h14
    sl_exec (disch := sl_exact h0)
    sl_step
    iapply Hk
    isplitl [H1]
    · iexists _; isplitr; · ipureintro; exact A.harg1.read_unread _
      iexact H1
    isplitl [H2]
    · iexists _; isplitr; · ipureintro; exact A.harg2.read_unread _
      iexact H2
    isplitl [H3]
    · iexists _; isplitr; · ipureintro; exact A.harg3.read_unread _
      iexact H3
    isplitl [H4]
    · iexists _; isplitr; · ipureintro; exact A.harg4.read_unread _
      iexact H4
    isplitl [H5]
    · iexists _; isplitr; · ipureintro; exact A.harg5.read_unread _
      iexact H5
    isplitl [H6]
    · iexists _; isplitr; · ipureintro; exact A.harg6.read_unread _
      iexact H6
    isplitl [H7]
    · iexists _; isplitr; · ipureintro; exact A.harg7.read_unread _
      iexact H7
    isplitl [H8]
    · iexists _; isplitr; · ipureintro; exact A.harg8.read_unread _
      iexact H8
    isplitl [H9]
    · iexists _; isplitr; · ipureintro; exact A.harg9.read_unread _
      iexact H9
    isplitl [H10]; · iexists _; iexact H10
    isplitl [H11]; · iexists _; iexact H11
    isplitl [H12]; · iexists _; iexact H12
    isplitl [H13]; · iexists _; iexact H13
    iexact H14

end Cert.ProjectionIdeal.Body

end
-- ==== Proof.ProjectionIdealRun.lean ====
/-
  The run of the projection kernel: what its body leaves at a point, the pipeline's proof data with the scratch carried from
  point to point, the body obligation, the launch and the frame.
-/
module

public import proofs.«01_k».proof.Proof.ProjectionIdealBodyA
public import proofs.«01_k».proof.Proof.ProjectionIdealBodyB
public import proofs.«01_k».proof.Proof.ProjectionIdealBodyC
public import Idealize.ShloMosaic.Lib.Claim
public import Idealize.ShloMosaic.Lib.ValueIdxCore

@[expose] public section

set_option maxRecDepth 65536

noncomputable section

namespace Cert.ProjectionIdeal.Body

open Cert.ProjectionIdeal Cert.ProjectionIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn (own)

variable {F : FTy → Type} [FloatOps F]

local notation "𝕄" => MT nD τ sig Unit (Elt F) ℕ (UR sig nD τ) ℕ

/-! ## One point -/

/-- A whole block as its one piece. -/
abbrev one (w : FVec F S512x1024 .f32) : List (View.Piece (Elt F) S512x1024 .f32) :=
  [⟨Rect.unit (s := S512x1024) ![0, 0] S512x1024.size inb_S512x1024_S512x1024_0_0, w⟩]

/-- The scratch's slot as the piece stored into it. -/
abbrev slotP (off : Fin 3 → ℕ) (h : ∀ a, off a + S1x512x512.size a ≤ S2x512x512.size a) (w : FVec F S512x512 .f32) : View.Piece (Elt F) S2x512x512 .f32 :=
  ⟨Rect.unit (s := S2x512x512) off S1x512x512.size h, shapeCast S1x512x512 w shapeCasts_S512x512_S1x512x512⟩

/-- The body's run: from the inputs and the scratch, to the pieces that it leaves. -/
def RunP (c : Dev nD) (i : grid0.Coords) (A : Mem) (I : Inp F) (X : Vec F S2x512x512 .f32) (L9 L10 : List (View.Piece (Elt F) S512x1024 .f32))
    (L11 : List (View.Piece (Elt F) S1x2x512x128 .bf16)) (L12 : List (View.Piece (Elt F) S1x2x512x256 .bf16))
    (L : List (View.Piece (Elt F) S2x512x512 .f32)) : Prop :=
  ∀ (E : Set ℕ) (K : PUnit → sProp 𝕄),
        iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ d, own c A.arg10 d) ∗ (∃ d, own c A.arg11 d) ∗ (∃ d, own c A.arg12 d) ∗ (∃ d, own c A.arg13 d) ∗ own c A.arg14 X
            ∗ (iprop(own c A.arg1 I.x
        ∗ own c A.arg2 I.g
        ∗ own c A.arg3 I.up
        ∗ own c A.arg4 I.down
        ∗ own c A.arg5 I.ga
        ∗ own c A.arg6 I.w
        ∗ own c A.arg7 I.kg
        ∗ own c A.arg8 I.cos
        ∗ own c A.arg9 I.sin
        ∗ (∃ f, A.arg10.view.loc (c : Thread nD τ) ↦[A.arg10.view.set]{fullShare} A.arg10.view.writes (Elt F) f L9) ∗ (∃ f, A.arg11.view.loc (c : Thread nD τ) ↦[A.arg11.view.set]{fullShare} A.arg11.view.writes (Elt F) f L10)
        ∗ (∃ f, A.arg12.view.loc (c : Thread nD τ) ↦[A.arg12.view.set]{fullShare} A.arg12.view.writes (Elt F) f L11) ∗ (∃ f, A.arg13.view.loc (c : Thread nD τ) ↦[A.arg13.view.set]{fullShare} A.arg13.view.writes (Elt F) f L12)
        ∗ (A.arg14.view.loc (c : Thread nD τ) ↦[A.arg14.view.set]{fullShare} A.arg14.view.writes (Elt F) (A.harg14.unread X) L)) -∗ K ⟨⟩))
          ⊢ wp frame (wpE (defs₀ (F := F)) Variants.none c none) E (prog i A) K

/-- A run with the pieces that it leaves. -/
abbrev RunT (c : Dev nD) (i : grid0.Coords) (A : Mem) (I : Inp F) (X : Vec F S2x512x512 .f32) :=
  Σ' (L9 L10 : List (View.Piece (Elt F) S512x1024 .f32)) (L11 : List (View.Piece (Elt F) S1x2x512x128 .bf16))
    (L12 : List (View.Piece (Elt F) S1x2x512x256 .bf16)), {L : List (View.Piece (Elt F) S2x512x512 .f32) // RunP c i A I X L9 L10 L11 L12 L}

theorem run_of (c : Dev nD) (i : grid0.Coords) (A : Mem) (I : Inp F) (X : Vec F S2x512x512 .f32) (r : RunT c i A I X) {L9 L10 L11 L12 L}
    (h9 : r.1 = L9) (h10 : r.2.1 = L10) (h11 : r.2.2.1 = L11) (h12 : r.2.2.2.1 = L12) (h : r.2.2.2.2.1 = L) : RunP c i A I X L9 L10 L11 L12 L := by
  subst h9 h10 h11 h12 h; exact r.2.2.2.2.2

/-- Nothing in a slot. -/
abbrev zeroV : FVec F S512x512 .f32 := broadcast S512x512 (Scalar.ofBits .f32 0x00000000#32 : F .f32)

theorem slot_inb0 : ∀ a, (![0, 0, 0] : Fin 3 → ℕ) a + S1x512x512.size a ≤ S2x512x512.size a := by decide
theorem slot_inb1 : ∀ a, (![1, 0, 0] : Fin 3 → ℕ) a + S1x512x512.size a ≤ S2x512x512.size a := by decide

section

variable (c : Dev nD) (i : grid0.Coords) (A : Mem) (I : Inp F) (X : Vec F S2x512x512 .f32)

/-- The slot that the body reads. -/
abbrev seen : FVec F S512x512 .f32 := slotV (A.arg14.view.read (Elt F) (A.harg14.unread X)) (k0_off1 i) (k0_off1_inb i)

/-- The slot that the first point reads. -/
abbrev seen0 : FVec F S512x512 .f32 :=
  slotV (A.arg14.view.read (Elt F) (A.arg14.view.writes (Elt F) (A.harg14.unread X) [slotP ![1, 0, 0] slot_inb1 zeroV])) (k0_off1 i) (k0_off1_inb i)

set_option maxHeartbeats 4000000 in
theorem bodyA (h0 : cond0 i) (h1 : k0_off1 i = ![1, 0, 0]) (h2 : k0_off2 i = ![0, 0, 0]) :
    RunP c i A I X (one (x2V (via A I))) (one (qV (via A I))) (keyL (via A I) (seen0 i A X)) (valL (seen0 i A X))
      [slotP ![0, 0, 0] slot_inb0 (rawV (via A I)), slotP ![1, 0, 0] slot_inb1 zeroV] :=
  run_of c i A I X (runA c i A h0 h1 h2 I X) rfl rfl rfl rfl rfl

set_option maxHeartbeats 4000000 in
theorem bodyB (h0 : ¬cond0 i) (h1 : k0_off1 i = ![0, 0, 0]) (h2 : k0_off2 i = ![1, 0, 0]) :
    RunP c i A I X (one (x2V (via A I))) (one (qV (via A I))) (keyL (via A I) (seen i A X)) (valL (seen i A X)) [slotP ![1, 0, 0] slot_inb1 (rawV (via A I))] :=
  run_of c i A I X (runB c i A h0 h1 h2 I X) rfl rfl rfl rfl rfl

set_option maxHeartbeats 4000000 in
theorem bodyC (h0 : ¬cond0 i) (h1 : k0_off1 i = ![1, 0, 0]) (h2 : k0_off2 i = ![0, 0, 0]) :
    RunP c i A I X (one (x2V (via A I))) (one (qV (via A I))) (keyL (via A I) (seen i A X)) (valL (seen i A X)) [slotP ![0, 0, 0] slot_inb0 (rawV (via A I))] :=
  run_of c i A I X (runC c i A h0 h1 h2 I X) rfl rfl rfl rfl rfl

end

/-- The slot last stored into holds what was stored. -/
theorem slot_stored (v : View sig .tc .vmem S2x512x512 .f32) (f : v.ty.Contents (Elt F)) {off off' : Fin 3 → ℕ} (h h') (e : off' = off)
    (w : FVec F S512x512 .f32) (L : List (View.Piece (Elt F) S2x512x512 .f32)) :
    slotV (v.read (Elt F) (v.writes (Elt F) f (slotP off h w :: L))) off' h' = w := by
  subst e
  unfold slotV
  rw [show View.ld (v.read (Elt F) (v.writes (Elt F) f (slotP off' h w :: L))) (Rect.unit (s := S2x512x512) off' S1x512x512.size h')
      = shapeCast S1x512x512 w shapeCasts_S512x512_S1x512x512 from funext fun x => View.read_writes_cons_emb v f _ _ L x]
  funext y
  refine (shapeCast_apply _ _ y (ix3 (0 : Fin 1) (y 0 : Fin 512) (y 1 : Fin 512) : S1x512x512.Idx) ?_).trans (shapeCast_apply w _ _ y ?_)
  · rw [Shape.rowMajor_val_two]; rw [Shape.rowMajor_val_three]; show (0 * 512 + (y 0).val) * 512 + (y 1).val = (y 0).val * 512 + (y 1).val; omega
  · rw [Shape.rowMajor_val_two]; rw [Shape.rowMajor_val_three]; show (y 0).val * 512 + (y 1).val = (0 * 512 + (y 0).val) * 512 + (y 1).val; omega

theorem one_cover (w : FVec F S512x1024 .f32) : ∀ y, ∃ p ∈ one w, y ∈ p.1.set :=
  View.cover_of_tiledL _ S512x1024.size (by sl_kernel_rfl)

theorem one_canon (w : FVec F S512x1024 .f32) : View.canon (one w) = w := View.canon_cons_unit_lit _ _ _ (by decide)

/-- A buffer covered by stores holds them. -/
theorem own_canon (c : Dev nD) {s : Shape} {e : EltTy} (M : Memref sig .tc .vmem s e) (L : List (View.Piece (Elt F) s e)) (h : ∀ y, ∃ p ∈ L, y ∈ p.1.set) :
    iprop(∃ f, M.view.loc (c : Thread nD τ) ↦[M.view.set]{fullShare} M.view.writes (Elt F) f L) ⊢ (own c M (View.canon L) : sProp 𝕄) := by
  unfold Attn.own owns
  iintro ⟨%f, H⟩
  iexists (M.view.writes (Elt F) f L)
  isplitr
  · ipureintro; exact View.read_writes_eq_canon _ f _ h
  iexact H

variable (m : (ℓ : Loc nD τ sig) → Buf (Elt F) ℓ) (ρ : Dev nD → PrngReg)

/-! ## The proof data -/

/-- The input blocks of point `t`. -/
def inp (c : Dev nD) (t : Fin cfg0.N) : Inp F where
  x := iblk m c 0 t
  g := iblk m c 1 t
  up := iblk m c 2 t
  down := iblk m c 3 t
  ga := iblk m c 4 t
  w := iblk m c 5 t
  kg := iblk m c 6 t
  cos := iblk m c 7 t
  sin := iblk m c 8 t

/-- The point before. -/
def prev (t : Fin cfg0.N) : Fin cfg0.N := ⟨t.val - 1, Nat.lt_of_le_of_lt (Nat.sub_le _ _) t.isLt⟩

/-- The keys and values that the point before left. -/
def kept (c : Dev nD) (t : Fin cfg0.N) : FVec F S512x512 .f32 := if t.val = 0 then zeroV else rawV (inp m c (prev t))

/-- The memrefs of point `t`. -/
def mem (t : Fin cfg0.N) : Mem where
  arg1 := st0_0 t
  harg1 := hstage0_0 ((cfg0.slots t 0).cast nbuf0_0)
  arg2 := st0_1 t
  harg2 := hstage0_1 ((cfg0.slots t 1).cast nbuf0_1)
  arg3 := st0_2 t
  harg3 := hstage0_2 ((cfg0.slots t 2).cast nbuf0_2)
  arg4 := st0_3 t
  harg4 := hstage0_3 ((cfg0.slots t 3).cast nbuf0_3)
  arg5 := st0_4 t
  harg5 := hstage0_4 ((cfg0.slots t 4).cast nbuf0_4)
  arg6 := st0_5 t
  harg6 := hstage0_5 ((cfg0.slots t 5).cast nbuf0_5)
  arg7 := st0_6 t
  harg7 := hstage0_6 ((cfg0.slots t 6).cast nbuf0_6)
  arg8 := st0_7 t
  harg8 := hstage0_7 ((cfg0.slots t 7).cast nbuf0_7)
  arg9 := st0_8 t
  harg9 := hstage0_8 ((cfg0.slots t 8).cast nbuf0_8)
  arg10 := st0_9 t
  harg10 := hstage0_9 ((cfg0.slots t 9).cast nbuf0_9)
  arg11 := st0_10 t
  harg11 := hstage0_10 ((cfg0.slots t 10).cast nbuf0_10)
  arg12 := st0_11 t
  harg12 := hstage0_11 ((cfg0.slots t 11).cast nbuf0_11)
  arg13 := st0_12 t
  harg13 := hstage0_12 ((cfg0.slots t 12).cast nbuf0_12)
  arg14 := Memref.whole cc0_scratch0
  harg14 := Memref.isWhole_whole _

theorem first_cond : ∀ t : Fin cfg0.N, t.val = 0 → cond0 (grid0.coords t) := by decide +kernel
theorem later_cond : ∀ t : Fin cfg0.N, t.val ≠ 0 → ¬cond0 (grid0.coords t) := by decide +kernel
theorem odd_off1 : ∀ t : Fin cfg0.N, t.val % 2 = 1 → k0_off1 (grid0.coords t) = ![0, 0, 0] := by decide +kernel
theorem odd_off2 : ∀ t : Fin cfg0.N, t.val % 2 = 1 → k0_off2 (grid0.coords t) = ![1, 0, 0] := by decide +kernel
theorem even_off1 : ∀ t : Fin cfg0.N, ¬t.val % 2 = 1 → k0_off1 (grid0.coords t) = ![1, 0, 0] := by decide +kernel
theorem even_off2 : ∀ t : Fin cfg0.N, ¬t.val % 2 = 1 → k0_off2 (grid0.coords t) = ![0, 0, 0] := by decide +kernel

/-- What the scratch holds before a point: in the slot that the point reads, what the point before left. -/
def Held (c : Dev nD) (t : Fin cfg0.N) (X : Vec F S2x512x512 .f32) : Prop :=
  t.val ≠ 0 → slotV X (k0_off1 (grid0.coords t)) (k0_off1_inb _) = kept m c t

/-- What it holds after a point. -/
def Left (c : Dev nD) (t : Fin cfg0.N) (X : Vec F S2x512x512 .f32) : Prop :=
  slotV X (k0_off2 (grid0.coords t)) (k0_off2_inb _) = rawV (inp m c t)

theorem slotV_congr (X : Vec F S2x512x512 .f32) {off off' : Fin 3 → ℕ} (h h') (e : off = off') : slotV X off h = slotV X off' h' := by
  subst e; rfl

theorem held_of_left (c : Dev nD) (t : Fin cfg0.N) (ht : t.val ≠ 0) (X : Vec F S2x512x512 .f32) (h : Left m c (prev t) X) : Held m c t X := fun _ => by
  unfold kept
  rw [if_neg ht, ← h]
  refine slotV_congr X _ _ ?_
  have hp : (prev t).val = t.val - 1 := rfl
  by_cases ho : t.val % 2 = 1
  · rw [odd_off1 t ho, even_off2 (prev t) (by omega)]
  · rw [even_off1 t ho, odd_off2 (prev t) (by omega)]

/-- The body's run at a point. -/
theorem body_at (c : Dev nD) (t : Fin cfg0.N) (X : Vec F S2x512x512 .f32) (hX : Held m c t X) :
    ∃ L, RunP c (grid0.coords t) (mem t) (inp m c t) X (one (x2V (inp m c t))) (one (qV (inp m c t))) (keyL (inp m c t) (kept m c t)) (valL (kept m c t)) L
      ∧ Left m c t ((mem t).arg14.view.read (Elt F) ((mem t).arg14.view.writes (Elt F) ((mem t).harg14.unread X) L)) := by
  have hs : t.val ≠ 0 → seen (grid0.coords t) (mem t) X = kept m c t := fun h0 => by
    unfold seen; rw [(mem t).harg14.read_unread]; exact hX h0
  by_cases h0 : t.val = 0
  · have ho : ¬t.val % 2 = 1 := by omega
    have hk : seen0 (grid0.coords t) (mem t) X = kept m c t := by
      unfold seen0 kept; rw [if_pos h0]; exact slot_stored _ _ _ _ (even_off1 t ho) _ _
    have hb := bodyA c (grid0.coords t) (mem t) (inp m c t) X (first_cond t h0) (even_off1 t ho) (even_off2 t ho)
    rw [via_eq, hk] at hb
    exact ⟨_, hb, slot_stored _ _ _ _ (even_off2 t ho) _ _⟩
  · by_cases ho : t.val % 2 = 1
    · have hb := bodyB c (grid0.coords t) (mem t) (inp m c t) X (later_cond t h0) (odd_off1 t ho) (odd_off2 t ho)
      rw [via_eq, hs h0] at hb
      exact ⟨_, hb, slot_stored _ _ _ _ (odd_off2 t ho) _ _⟩
    · have hb := bodyC c (grid0.coords t) (mem t) (inp m c t) X (later_cond t h0) (even_off1 t ho) (even_off2 t ho)
      rw [via_eq, hs h0] at hb
      exact ⟨_, hb, slot_stored _ _ _ _ (even_off2 t ho) _ _⟩

/-- The scratch's memref. -/
abbrev scM : Memref sig .tc .vmem S2x512x512 .f32 := Memref.whole cc0_scratch0

/-- The invariant before position `n`: at first the scratch at anything, then as the point before left it. -/
def Phi (c : Dev nD) : (n : ℕ) → n ≤ cfg0.N → sProp 𝕄
  | 0, _ => Pipeline.ΦA spec0 c
  | n + 1, hn => iprop((∃ X, ⌜Left m c ⟨n, hn⟩ X⌝ ∗ own c scM X) ∗ (∃ r, prngReg c r))

theorem PhiA_eq (c : Dev nD) : (Pipeline.ΦA spec0 c : sProp 𝕄) = iprop((∃ X, own c scM X) ∗ (∃ r, prngReg c r)) := by
  unfold Pipeline.ΦA
  rw [scopedRest0_eq, ← (Memref.isWhole_whole cc0_scratch0).exists_owns_eq (c := (c : Thread nD τ)) fullShare]
  rfl

theorem Phi_pre (c : Dev nD) (t : Fin cfg0.N) : Phi m c t.val (Nat.le_of_lt t.isLt) ⊢ iprop((∃ X, ⌜Held m c t X⌝ ∗ own c scM X) ∗ (∃ r, prngReg c r)) := by
  obtain ⟨n, hn⟩ := t
  cases n with
  | zero =>
    show Pipeline.ΦA spec0 c ⊢ _
    rw [PhiA_eq]
    iintro ⟨⟨%X, H⟩, Hg⟩
    isplitl [H]
    · iexists X
      isplitr
      · ipureintro; exact fun h => absurd rfl h
      iexact H
    iexact Hg
  | succ n =>
    show iprop((∃ X, ⌜Left m c ⟨n, _⟩ X⌝ ∗ own c scM X) ∗ (∃ r, prngReg c r)) ⊢ _
    iintro ⟨⟨%X, %hX, H⟩, Hg⟩
    isplitl [H]
    · iexists X
      isplitr
      · ipureintro; exact held_of_left m c ⟨n + 1, hn⟩ (Nat.succ_ne_zero n) X hX
      iexact H
    iexact Hg

/-- The arrays as the region finds them; after a point's body each input's buffer at its block, the outputs' at what the
    body computes; the invariant on the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => x2V (inp m c t)
    | ⟨10, _⟩ => qV (inp m c t)
    | ⟨11, _⟩ => keyB (inp m c t) (kept m c t)
    | ⟨12, _⟩ => valB (kept m c t)
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = x2V (inp m c t) := by dsimp only [dats]
theorem after0_10 (c : Dev nD) (t : Fin cfg0.N) : (dats m 0 c).after 10 t = qV (inp m c t) := by dsimp only [dats]
theorem after0_11 (c : Dev nD) (t : Fin cfg0.N) : (dats m 0 c).after 11 t = keyB (inp m c t) (kept m c t) := by dsimp only [dats]
theorem after0_12 (c : Dev nD) (t : Fin cfg0.N) : (dats m 0 c).after 12 t = valB (kept m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).Φ t.succ = iprop((∃ X, ⌜Left m c t X⌝ ∗ own c scM X) ∗ (∃ r, prngReg c r)) from rfl,
    show (dats m 0 c).Φ t.castSucc = Phi m c t.val (Nat.le_of_lt t.isLt) from rfl,
    show (dats m 0 c).owesAt () t.succ = (dats m 0 c).owesAt () t.castSucc from rfl,
    after0_0, after0_1, after0_2, after0_3, after0_4, after0_5, after0_6, after0_7, after0_8, after0_9, after0_10, after0_11, after0_12]
  refine (sep_mono_l (Phi_pre m c t)).trans ?_
  show iprop(((∃ X, ⌜Held m c t X⌝ ∗ own c scM X) ∗ (∃ r, prngReg c r)) ∗ (dats m 0 c).owesAt () t.castSucc
    ∗ (∃ d, owns (c : Thread nD τ) (st0_0 t) fullShare (iblk m c 0 t))
    ∗ (∃ d, owns (c : Thread nD τ) (st0_1 t) fullShare (iblk m c 1 t))
    ∗ (∃ d, owns (c : Thread nD τ) (st0_2 t) fullShare (iblk m c 2 t))
    ∗ (∃ d, owns (c : Thread nD τ) (st0_3 t) fullShare (iblk m c 3 t))
    ∗ (∃ d, owns (c : Thread nD τ) (st0_4 t) fullShare (iblk m c 4 t))
    ∗ (∃ d, owns (c : Thread nD τ) (st0_5 t) fullShare (iblk m c 5 t))
    ∗ (∃ d, owns (c : Thread nD τ) (st0_6 t) fullShare (iblk m c 6 t))
    ∗ (∃ d, owns (c : Thread nD τ) (st0_7 t) fullShare (iblk m c 7 t))
    ∗ (∃ d, owns (c : Thread nD τ) (st0_8 t) fullShare (iblk m c 8 t))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))) ⊢ _
  iintro ⟨⟨⟨%X, %hX, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  generalize (dats m 0 c).before 9 t d9 = o9
  generalize (dats m 0 c).before 10 t d10 = o10
  generalize (dats m 0 c).before 11 t d11 = o11
  generalize (dats m 0 c).before 12 t d12 = o12
  obtain ⟨L, hrun, hL⟩ := body_at m c t X hX
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists o9; iexact H9
  isplitl [H10]; · iexists o10; iexact H10
  isplitl [H11]; · iexists o11; iexact H11
  isplitl [H12]; · iexists o12; iexact H12
  isplitl [HS]; · iexact HS
  iintro ⟨H0, H1, H2, H3, H4, H5, H6, H7, H8, H9, H10, H11, H12, HS⟩
  isplitl [HS HP]
  · isplitl [HS]
    · iexists _
      isplitr
      · ipureintro; exact hL
      unfold Attn.own owns
      iexists _
      isplitr
      · ipureintro; rfl
      iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · refine (own_canon c (mem t).arg10 _ (one_cover _)).trans ?_
    rw [one_canon]
    exact .rfl
  isplitl [H10]
  · refine (own_canon c (mem t).arg11 _ (one_cover _)).trans ?_
    rw [one_canon]
    exact .rfl
  isplitl [H11]
  · exact own_canon c (mem t).arg12 _ (keyL_cover _ _)
  exact own_canon c (mem t).arg13 _ (valL_cover _)

/-- The body table's row at a point's slots is the printed body at its buffers. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  show iprop((∃ X, ⌜Left m c ⟨64, _⟩ X⌝ ∗ own c scM X) ∗ (∃ r, prngReg c r)) ⊢ _
  rw [PhiA_eq]
  iintro ⟨⟨%X, -, H⟩, Hg⟩
  isplitl [H]
  · iexists X; iexact H
  iexact Hg

/-! ## The run and the frame -/

set_option backward.isDefEq.respectTransparency.types false in
/-- The launch: every array of the pipeline ends at what the proof data say, every other unscoped buffer as the region
    found it, and every semaphore counter is zero. -/
theorem run_main_quiescent :
    θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every run ends, the argument arrays as launched and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.ProjectionIdeal.Body

end
-- ==== Proof.ProjectionRow.lean ====
/-
  The projection kernel's first result at an index of a block: the feed-forward part of the row.
-/
module

public import proofs.«01_k».proof.Proof.ProjectionIdealBody
public import proofs.«01_k».proof.Proof.FeedForwardRow

@[expose] public section

noncomputable section

namespace Cert.ProjectionIdeal.Body

open Idealize.ShloMosaic Idealize.ShloMosaic.ValueIdx Cert.ProjectionIdeal Cert.ProjectionIdeal.Gen Cert.Ffn

/-- The normalised rows and the chunks are those of the other feed-forward call. -/
theorem norm_same (y : FVec Ideal S512x1024 .f32) (g : Vec Ideal S1x1024 .f32) : normV y g = Cert.FeedForwardIdeal.Body.normV y g := rfl

theorem chunk_same (acc : FVec Ideal S512x1024 .f32) (n : FVec Ideal S512x1024 .bf16) (u d : Vec Ideal S1024x1024 .bf16) :
    chunkV acc n u d = Cert.FeedForwardIdeal.Body.chunkV acc n u d := rfl

theorem chunk_apply (acc : FVec Ideal S512x1024 .f32) (n : FVec Ideal S512x1024 .bf16) (u d : Vec Ideal S1024x1024 .bf16) (r : Fin 512) (p : Fin 1024) :
    chunkV acc n u d (ix2 r p)
      = acc (ix2 r p) + part (fun k => n (ix2 r k)) (fun k f => u (ix2 k f)) (fun f q => d (ix2 f q)) p := by
  rw [chunk_same]; exact Cert.FeedForwardIdeal.Body.chunkV_apply acc n u d r p

variable (I : Inp Ideal)

theorem start_eq : startV I = I.x := by
  show shapeCast S512x1024 (allX I.x) _ = I.x
  rw [Cert.FeedForwardIdeal.Body.cast_self]
  exact View.ld_unit_lit _ I.x (by decide)

theorem gain_eq : allG I.g = I.g := View.ld_unit_lit _ I.g (by decide)

theorem h_apply (r : Fin 512) (k : Fin 1024) : hV I (ix2 r k) = norm (fun k => I.x (ix2 r k)) (fun k => I.g (ix2 0 k)) k := by
  show normV (startV I) (allG I.g) (ix2 r k) = _
  rw [start_eq, gain_eq, norm_same]
  exact Cert.FeedForwardIdeal.Body.normV_apply I.x I.g r k

/-- The stored block, entry by entry. -/
theorem x2_apply (r : Fin 512) (p : Fin 1024) : x2V I (ix2 r p)
    = mid (fun k => I.x (ix2 r k)) (fun k => I.g (ix2 0 k)) (fun k f => I.up (ix2 k f)) (fun f q => I.down (ix2 f q)) p := by
  have hu : ∀ (c : Fin 4) (off) (h) (h0 : off 0 = 0) (h1 : off 1 = c.val * 1024),
      (fun k f => View.ld I.up (Rect.unit (s := S1024x4096) off S1024x1024.size h) (ix2 k f)) = cols (fun k f => I.up (ix2 k f)) c :=
    fun c off h h0 h1 => funext fun k => funext fun f => Cert.FeedForwardIdeal.Body.ld_cols I.up c off h h0 h1 k f
  have hd : ∀ (c : Fin 4) (off) (h) (h0 : off 0 = c.val * 1024) (h1 : off 1 = 0),
      (fun f q => View.ld I.down (Rect.unit (s := S4096x1024) off S1024x1024.size h) (ix2 f q)) = rows (fun f q => I.down (ix2 f q)) c :=
    fun c off h h0 h1 => funext fun k => funext fun f => Cert.FeedForwardIdeal.Body.ld_rows I.down c off h h0 h1 k f
  unfold x2V
  rw [chunk_apply, chunk_apply, chunk_apply, chunk_apply, funext (h_apply I r), start_eq,
    hu 0 _ _ rfl rfl, hu 1 _ _ rfl rfl, hu 2 _ _ rfl rfl, hu 3 _ _ rfl rfl, hd 0 _ _ rfl rfl, hd 1 _ _ rfl rfl, hd 2 _ _ rfl rfl, hd 3 _ _ rfl rfl]
  exact chunks _ _ _ _ p

end Cert.ProjectionIdeal.Body

end
-- ==== Proof.ProjectionReference.lean ====
/-
  The projection reference's result at an index.
-/
module

public import proofs.«01_k».proof.Proof.FeedForwardMath
public import proofs.«01_k».proof.Proof.Gen.ProjectionReferenceIdeal.Read

@[expose] public section

noncomputable section

namespace Cert.ProjectionReferenceIdeal.Row

open Idealize.ShloMosaic Idealize.ShloMosaic.ValueIdx Cert.ProjectionReferenceIdeal Cert.ProjectionReferenceIdeal.Gen
open Cert.ProjectionReferenceIdeal.Read Cert.Ffn

theorem word_zero : (FloatOps.ofBits .f32 0x00000000#32 : Ideal .f32) = (0 : EReal) := by
  show Ideal.ofBits .f32 0x00000000#32 = 0
  simp [Ideal.ofBits, Ideal.ieee]

variable (x0 : (⟨S8x4096x1024, .f32⟩ : BufTy).Contents (Elt Ideal)) (x1 : (⟨S1024, .f32⟩ : BufTy).Contents (Elt Ideal))
variable (x2 : (⟨S1024x4096, .f32⟩ : BufTy).Contents (Elt Ideal)) (x3 : (⟨S4096x1024, .f32⟩ : BufTy).Contents (Elt Ideal)) (i : Fin 32768)

/-- A row of the stream. -/
abbrev rowR (k : Fin 1024) : EReal := val_main_v0 (F := Ideal) x0 (ix2 i k)

theorem v2_eq : val_main_v2 (F := Ideal) x0 (ix1 i) = ∑ k, rowR x0 i k * rowR x0 i k := by
  refine (val_main_v2_apply x0 _).trans ?_
  rw [val_main_cst_apply, word_zero, zero_add]
  exact Finset.sum_congr rfl fun k _ => (congrArg (val_main_v1 (F := Ideal) x0) (eq_ix2 _)).trans (val_main_v1_apply x0 _)

theorem v8_eq : val_main_v8 (F := Ideal) x0 (ix2 i 0) = rms (rowR x0 i) := by
  refine (val_main_v8_apply x0 _).trans (congrArg Ideal.rsqrt ?_)
  refine (val_main_v7_apply x0 _).trans ?_
  refine congrArg₂ (fun s z : EReal => s + z) ((val_main_v5_apply x0 _).trans (congrArg₂ Ideal.div ?_ ?_)) ?_
  · exact (val_main_v3_apply x0 _).trans ((congrArg (val_main_v2 (F := Ideal) x0) (eq_ix1 _)).trans (v2_eq x0 i))
  · exact val_main_v4_apply _
  · exact val_main_v6_apply _

theorem v13_eq (p : Fin 1024) : val_main_v13 (F := Ideal) x0 x1 (ix2 i p) = norm (rowR x0 i) (fun k => x1 (ix1 k)) p := by
  refine (val_main_v13_apply x0 x1 _).trans (congrArg₂ (fun s z : EReal => s * z) ?_ ?_)
  · refine (val_main_v10_apply x0 _).trans (congrArg (fun z : EReal => rowR x0 i p * z) ?_)
    exact (val_main_v9_apply x0 _).trans ((congrArg (val_main_v8 (F := Ideal) x0) (eq_ix2 _)).trans (v8_eq x0 i))
  · exact (val_main_v12_apply x1 _).trans ((val_main_v11_apply x1 _).trans (congrArg x1 (eq_ix1 _)))

theorem v17_eq (f : Fin 4096) : val_main_v17 (F := Ideal) x0 x1 x2 (ix2 i f)
    = hid (norm (rowR x0 i) fun k => x1 (ix1 k)) (fun k f => x2 (ix2 k f)) f := by
  have h : val_main_v16 (F := Ideal) x0 x1 x2 (ix2 i f) = max (∑ k, norm (rowR x0 i) (fun k => x1 (ix1 k)) k * x2 (ix2 k f)) 0 := by
    refine (val_main_v16_apply x0 x1 x2 _).trans (congrArg₂ (fun s z : EReal => max s z) ?_ ?_)
    · refine (val_main_v14_apply x0 x1 x2 _).trans (Finset.sum_congr rfl fun k _ => ?_)
      exact congrArg₂ (fun s z : EReal => s * z) ((congrArg (val_main_v13 (F := Ideal) x0 x1) (eq_ix2 _)).trans (v13_eq x0 x1 i k))
        (congrArg x2 (eq_ix2 _))
    · exact (val_main_v15_apply _).trans ((val_main_cst_2_apply _).trans word_zero)
  exact (val_main_v17_apply x0 x1 x2 _).trans (congrArg₂ (fun s z : EReal => s * z) h h)

/-- The reference's result, entry by entry. -/
theorem v19_eq (p : Fin 1024) : val_main_v19 (F := Ideal) x0 x1 x2 x3 (ix2 i p)
    = mid (rowR x0 i) (fun k => x1 (ix1 k)) (fun k f => x2 (ix2 k f)) (fun f q => x3 (ix2 f q)) p := by
  refine (val_main_v19_apply x0 x1 x2 x3 _).trans (congrArg (fun z : EReal => rowR x0 i p + z) ?_)
  refine (val_main_v18_apply x0 x1 x2 x3 _).trans (Finset.sum_congr rfl fun f _ => ?_)
  exact congrArg₂ (fun s z : EReal => s * z) ((congrArg (val_main_v17 (F := Ideal) x0 x1 x2) (eq_ix2 _)).trans (v17_eq x0 x1 x2 i f))
    (congrArg x3 (eq_ix2 _))

end Cert.ProjectionReferenceIdeal.Row

end
-- ==== Proof.ProjectionEqual.lean ====
/-
  The projection kernel's first result at an index, and the reference's beside it.
-/
module

public import proofs.«01_k».proof.Defs
public import proofs.«01_k».proof.Proof.ProjectionIdealRun
public import proofs.«01_k».proof.Proof.ProjectionRow
public import proofs.«01_k».proof.Proof.ProjectionReference
public import proofs.«01_k».proof.Proof.Gen.ProjectionReferenceIdeal.Run
public import Idealize.ShloMosaic.Lib.Pipeline.Value
public import Idealize.ShloMosaic.Lib.Pipeline.ValueKit.Geometry

@[expose] public section

noncomputable section

namespace Cert.ProjectionIdeal.Body

open Idealize.ShloMosaic Idealize.ShloMosaic.TcCoe Idealize.ShloMosaic.ValueIdx Idealize.SL.Sem
open Cert.ProjectionIdeal Cert.ProjectionIdeal.Gen Cert.Ffn

variable (m : (ℓ : Loc nD τ sig) → Buf (Elt Ideal) ℓ) (c : Dev nD) (t : Fin cfg0.N)

/-! ## The host's arrays -/

theorem V_x : (V m c main_v47 : Vec Ideal S32768x1024 .f32)
    = shapeCast S32768x1024 (m ((c : Thread nD τ).loc main_arg0) : Vec Ideal S8x4096x1024 .f32) shapeCasts_S8x4096x1024_S32768x1024 := by
  unfold_abbrev_sides
  after_results
  rfl

theorem V_gain : (V m c main_v48 : Vec Ideal S1x1024 .f32)
    = shapeCast S1x1024 (m ((c : Thread nD τ).loc main_arg1) : Vec Ideal S1024 .f32) shapeCasts_S1024_S1x1024 := by
  unfold_abbrev_sides
  after_results
  rfl

theorem V_up : (V m c main_v49 : Vec Ideal S1024x4096 .bf16)
    = truncf (F := Ideal) .bf16 (m ((c : Thread nD τ).loc main_arg2) : Vec Ideal S1024x4096 .f32) bitsLt_bf16_f32 := by
  unfold_abbrev_sides
  after_results

theorem V_down : (V m c main_v50 : Vec Ideal S4096x1024 .bf16)
    = truncf (F := Ideal) .bf16 (m ((c : Thread nD τ).loc main_arg3) : Vec Ideal S4096x1024 .f32) bitsLt_bf16_f32 := by
  unfold_abbrev_sides
  after_results

theorem cast_row {α : Type} (x : S1024.Idx → α) (h : S1024.ShapeCasts S1x1024) (p : Fin 1024) : shapeCast S1x1024 x h (ix2 0 p) = x (ix1 p) := by
  refine shapeCast_apply x h _ _ ?_
  rw [Shape.rowMajor_val_one, Shape.rowMajor_val_two]
  show p.val = 0 * 1024 + p.val
  omega

/-! ## The blocks at an index -/

theorem idx_x : ∀ t : Fin cfg0.N, win0_0.index t = ![min t.val 63, 0] := by decide +kernel
theorem idx_g : ∀ t : Fin cfg0.N, win0_1.index t = ![0, 0] := by decide +kernel
theorem idx_u : ∀ t : Fin cfg0.N, win0_2.index t = ![0, 0] := by decide +kernel
theorem idx_d : ∀ t : Fin cfg0.N, win0_3.index t = ![0, 0] := by decide +kernel
theorem idx_o : ∀ t : Fin cfg0.N, win0_9.index t = ![min t.val 63, 0] := by decide +kernel

/-- A row of a point's block among all rows; the last point takes the last block again. -/
def row (r : Fin 512) : Fin 32768 := ⟨min t.val 63 * 512 + r.val, by omega⟩

/-- The rows of the stream. -/
abbrev stream : S32768x1024.Idx → EReal :=
  shapeCast S32768x1024 (m ((c : Thread nD τ).loc main_arg0) : S8x4096x1024.Idx → EReal) shapeCasts_S8x4096x1024_S32768x1024

theorem blk_x (r : Fin 512) (p : Fin 1024) : (inp m c t).x (ix2 r p) = stream m c (ix2 (row t r) p) := by
  refine Eq.trans (congrArg (V m c main_v47) ?_) (congrFun (V_x m c) (ix2 (row t r) p))
  blk_ext [idx_x t]
  all_goals rfl

theorem blk_g (p : Fin 1024) : (inp m c t).g (ix2 0 p) = (m ((c : Thread nD τ).loc main_arg1) : S1024.Idx → EReal) (ix1 p) := by
  refine Eq.trans (congrArg (V m c main_v48) ?_) ((congrFun (V_gain m c) (ix2 0 p)).trans (cast_row _ _ p))
  blk_ext [idx_g t]

theorem blk_u (k : Fin 1024) (f : Fin 4096) : (inp m c t).up (ix2 k f) = (m ((c : Thread nD τ).loc main_arg2) : S1024x4096.Idx → EReal) (ix2 k f) := by
  refine Eq.trans (congrArg (V m c main_v49) ?_) (congrFun (V_up m c) (ix2 k f))
  blk_ext [idx_u t]

theorem blk_d (f : Fin 4096) (p : Fin 1024) : (inp m c t).down (ix2 f p) = (m ((c : Thread nD τ).loc main_arg3) : S4096x1024.Idx → EReal) (ix2 f p) := by
  refine Eq.trans (congrArg (V m c main_v50) ?_) (congrFun (V_down m c) (ix2 f p))
  blk_ext [idx_d t]

/-! ## The result array -/

/-- The result at a row and a column. -/
def outX (i : Fin 32768) (p : Fin 1024) : EReal :=
  mid (fun k => stream m c (ix2 i k)) (fun k => (m ((c : Thread nD τ).loc main_arg1) : S1024.Idx → EReal) (ix1 k))
    (fun k f => (m ((c : Thread nD τ).loc main_arg2) : S1024x4096.Idx → EReal) (ix2 k f))
    (fun f q => (m ((c : Thread nD τ).loc main_arg3) : S4096x1024.Idx → EReal) (ix2 f q)) p

/-- The kernel's first result. -/
def result : Buf (Elt Ideal) ((c : Thread nD τ).loc main_v52_0) := fun i : S32768x1024.Idx => outX m c (i 0) (i 1)

/-- What a point leaves at an index of its block. -/
theorem point_eq (r : Fin 512) (p : Fin 1024) : x2V (inp m c t) (ix2 r p) = outX m c (row t r) p := by
  refine (x2_apply (inp m c t) r p).trans ?_
  unfold outX
  rw [funext (blk_x m c t r), funext (blk_g m c t), funext fun k => funext (blk_u m c t k), funext fun f => funext (blk_d m c t f)]

theorem final : (dats m 0 c).arrAt 9 cfg0.N = result m c := by
  refine (dats m 0 c).arrAt_eq_of_covers 9 _ (by decide +kernel) fun t _ y => ?_
  blk_simp
  rw [after0_9]
  refine (congrArg _ (eq_ix2 y)).trans ((point_eq m c t (y 0) (y 1)).trans ?_)
  have h0 : (win0_9.blk t).view.emb y 0 = row t (y 0) := Fin.ext (by
    blk_simp [idx_o t]
    rfl)
  have h1 : (win0_9.blk t).view.emb y 1 = y 1 := Fin.ext (by
    blk_simp [idx_o t])
  unfold result
  show _ = outX m c ((win0_9.blk t).view.emb y 0) ((win0_9.blk t).view.emb y 1)
  rw [h0, h1]

/-- The run, read: the first result's array holds the kernel's result, the arguments are as launched. -/
theorem run (ρ : Dev nD → PrngReg) : θ_run defs (onTc (τ := τ) (main (F := Ideal))) ⟨m, fun _ => 0, ρ⟩ fun r => ∀ c : Dev nD,
      r.2.mem ((c.tc : Thread nD τ).loc main_v52_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).1 9).trans (final m c), h.2.1 c⟩) (θ_run_and (run_main m ρ) (frame m ρ))

end Cert.ProjectionIdeal.Body

namespace Cert.Proof.Projection

open Idealize.ShloMosaic Idealize.ShloMosaic.ValueIdx Idealize.SL.Sem
open Cert.ProjectionIdeal.Body (result)

/-- Over the extended reals the kernel's first result is the reference's: the stream with the feed-forward part added. -/
theorem algebraic : Cert.algebraic_ProjectionIdeal_ProjectionReferenceIdeal (hProjectionIdeal := Cert.ProjectionIdeal.Gen.facts)
    (hProjectionReferenceIdeal := Cert.ProjectionReferenceIdeal.Gen.facts) := by
  intro m ρ m' ρ' _ hargs
  refine ⟨fun c => result m c, Cert.ProjectionIdeal.Body.run m ρ, ?_⟩
  refine (θ_run Cert.ProjectionReferenceIdeal.defs _ _).mono (fun r h c => ⟨(h c).1.trans ?_, (h c).2⟩)
    (Cert.ProjectionReferenceIdeal.Value.run (F := Ideal) m' ρ')
  obtain ⟨e0, e1, e2, e3, -, -, -⟩ := hargs c
  rw [Cert.ProjectionReferenceIdeal.Read.val_main_v19_eq, e0, e1, e2, e3]
  funext i
  have hi : i = ix2 (i 0) (i 1) := eq_ix2 i
  rw [hi]
  exact Cert.ProjectionReferenceIdeal.Row.v19_eq _ _ _ _ (i 0) (i 1)

end Cert.Proof.Projection

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FeedForward
public import proofs.«01_k».proof.Proof.Gen.FeedForward.Frame
public import proofs.«01_k».proof.Proof.Gen.FeedForwardIdeal
public import proofs.«01_k».proof.Proof.Gen.FeedForwardIdeal.Frame
public import proofs.«01_k».proof.Proof.Gen.FeedForwardIdeal.Value
public import proofs.«01_k».proof.Proof.Gen.FeedForwardReferenceIdeal
public import proofs.«01_k».proof.Proof.Gen.FeedForwardReferenceIdeal.Run
public import proofs.«01_k».proof.Proof.Gen.FeedForwardReferenceIdeal.Read
public import proofs.«01_k».proof.Proof.Gen.SampleFeedForward
public import proofs.«01_k».proof.Proof.Gen.SampleFeedForward.Frame
public import proofs.«01_k».proof.Proof.Gen.SampleFeedForwardIdeal
public import proofs.«01_k».proof.Proof.Gen.SampleFeedForwardIdeal.Frame
public import proofs.«01_k».proof.Proof.Gen.SampleFeedForwardIdeal.Value
public import proofs.«01_k».proof.Proof.Gen.SampleFeedForwardReferenceIdeal
public import proofs.«01_k».proof.Proof.Gen.SampleFeedForwardReferenceIdeal.Run
public import proofs.«01_k».proof.Proof.Gen.SampleFeedForwardReferenceIdeal.Read
public import proofs.«01_k».proof.Proof.Gen.Projection
public import proofs.«01_k».proof.Proof.Gen.Projection.Points
public import proofs.«01_k».proof.Proof.Gen.ProjectionIdeal
public import proofs.«01_k».proof.Proof.Gen.ProjectionIdeal.Points
public import proofs.«01_k».proof.Proof.Gen.ProjectionReferenceIdeal
public import proofs.«01_k».proof.Proof.Gen.ProjectionReferenceIdeal.Run
public import proofs.«01_k».proof.Proof.Gen.ProjectionReferenceIdeal.Read
public import proofs.«01_k».proof.Proof.RunKernel
public import proofs.«01_k».proof.Proof.RunIdeal
public import proofs.«01_k».proof.Proof.Algebraic
public import proofs.«01_k».proof.Proof.FeedForwardEqual
public import proofs.«01_k».proof.Proof.SampleEqual
public import proofs.«01_k».proof.Proof.ProjectionRun
public import proofs.«01_k».proof.Proof.ProjectionEqual

@[expose] public section

open Idealize.ShloMosaic

namespace Cert.Proof

/-- The kernel runs to the end and leaves its arguments as they were. -/
theorem frame_kernel : Cert.quiescent_Kernel := fun m ρ _ => Cert.Kernel.Body.frame m ρ

/-- So does the kernel over the extended reals. -/
theorem frame_ideal : Cert.quiescent_KernelIdeal := fun m ρ _ => Cert.KernelIdeal.Body.frame m ρ

/-- So does the reference over the extended reals; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal kernel's frame, restricted to finite gain and keys. -/
theorem frame_ideal_pre : Cert.quiescent_KernelIdeal_pre_gain_and_keys_finite (hPre_gain_and_keys_finite := pre_facts) :=
  fun m ρ _ => Cert.KernelIdeal.Body.frame m ρ

/-- The reference's frame, restricted in the same way. -/
theorem frame_reference_pre : Cert.quiescent_ReferenceIdeal_pre_gain_and_keys_finite (hPre_gain_and_keys_finite := pre_facts) :=
  fun m ρ _ => frame_reference m ρ trivial

/-- The named constant: the word the kernel holds is the stated real number rounded. -/
theorem preserves : Cert.preserves_Kernel_KernelIdeal :=
  IdealRules.named_const.statement Cert.KernelIdeal.κ "q_scale" .f32 0x3E0293EE#32 _ rfl

/-- The feed-forward kernel runs to the end and leaves its arguments as they were. -/
theorem frame_ffn : Cert.quiescent_FeedForward := fun m ρ _ => Cert.FeedForward.Gen.frame m ρ

/-- So does the feed-forward kernel over the extended reals. -/
theorem frame_ffn_ideal : Cert.quiescent_FeedForwardIdeal := fun m ρ _ => Cert.FeedForwardIdeal.Gen.frame m ρ

/-- So does its reference. -/
theorem frame_ffn_reference : Cert.quiescent_FeedForwardReferenceIdeal := fun m ρ _ =>
  (θ_run Cert.FeedForwardReferenceIdeal.defs _ _).mono (fun r h => ⟨fun c => (h c).2, sem_eq_zero_of_no_sems (by decide) r.2⟩)
    (Cert.FeedForwardReferenceIdeal.Value.run (F := Ideal) m ρ)

/-- The feed-forward kernel is made ideal with no rewrite. -/
theorem preserves_ffn : Cert.preserves_FeedForward_FeedForwardIdeal := trivial

/-- The feed-forward kernel on the other batch runs to the end and leaves its arguments as they were. -/
theorem frame_sample : Cert.quiescent_SampleFeedForward := fun m ρ _ => Cert.SampleFeedForward.Gen.frame m ρ

/-- So does it over the extended reals. -/
theorem frame_sample_ideal : Cert.quiescent_SampleFeedForwardIdeal := fun m ρ _ => Cert.SampleFeedForwardIdeal.Gen.frame m ρ

/-- So does its reference. -/
theorem frame_sample_reference : Cert.quiescent_SampleFeedForwardReferenceIdeal := fun m ρ _ =>
  (θ_run Cert.SampleFeedForwardReferenceIdeal.defs _ _).mono (fun r h => ⟨fun c => (h c).2, sem_eq_zero_of_no_sems (by decide) r.2⟩)
    (Cert.SampleFeedForwardReferenceIdeal.Value.run (F := Ideal) m ρ)

/-- It is made ideal with no rewrite. -/
theorem preserves_sample : Cert.preserves_SampleFeedForward_SampleFeedForwardIdeal := trivial

/-- The kernel of the feed-forward part with the projection runs to the end and leaves its arguments as they were. -/
theorem frame_projection : Cert.quiescent_Projection := fun m ρ _ => Cert.Projection.Body.frame m ρ

/-- So does it over the extended reals. -/
theorem frame_projection_ideal : Cert.quiescent_ProjectionIdeal := fun m ρ _ => Cert.ProjectionIdeal.Body.frame m ρ

/-- So does its reference. -/
theorem frame_projection_reference : Cert.quiescent_ProjectionReferenceIdeal := fun m ρ _ =>
  (θ_run Cert.ProjectionReferenceIdeal.defs _ _).mono (fun r h => ⟨fun c => (h c).2, sem_eq_zero_of_no_sems (by decide) r.2⟩)
    (Cert.ProjectionReferenceIdeal.Value.run (F := Ideal) m ρ)

/-- It is made ideal with no rewrite. -/
theorem preserves_projection : Cert.preserves_Projection_ProjectionIdeal := trivial

/-- Everything the certificate claims. -/
theorem claim : Cert.Claim :=
  ⟨Cert.Kernel.Gen.facts, Cert.KernelIdeal.Gen.facts, Cert.ReferenceIdeal.Gen.facts, Cert.FeedForward.Gen.facts, Cert.FeedForwardIdeal.Gen.facts,
    Cert.FeedForwardReferenceIdeal.Gen.facts, Cert.SampleFeedForward.Gen.facts, Cert.SampleFeedForwardIdeal.Gen.facts,
    Cert.SampleFeedForwardReferenceIdeal.Gen.facts, Cert.Projection.Gen.facts, Cert.ProjectionIdeal.Gen.facts,
    Cert.ProjectionReferenceIdeal.Gen.facts, pre_facts, frame_kernel, frame_ideal, frame_ideal_pre, frame_reference, frame_reference_pre, frame_ffn,
    frame_ffn_ideal, frame_ffn_reference, frame_sample, frame_sample_ideal, frame_sample_reference,
    frame_projection, frame_projection_ideal, frame_projection_reference, preserves, algebraic, preserves_ffn, Ffn.algebraic, preserves_sample, SampleFfn.algebraic,
    preserves_projection, Projection.algebraic⟩

end Cert.Proof
